-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x2048 : Shape := ⟨2, ![1024, 2048]⟩
abbrev S4096x2048 : Shape := ⟨2, ![4096, 2048]⟩
abbrev S512x2048 : Shape := ⟨2, ![512, 2048]⟩
abbrev S4x8x128 : Shape := ⟨3, ![4, 8, 128]⟩
abbrev S3x2 : Shape := ⟨2, ![3, 2]⟩
abbrev S3 : Shape := ⟨1, ![3]⟩
abbrev S_ : Shape := ⟨0, ![]⟩
abbrev S256x1024 : Shape := ⟨2, ![256, 1024]⟩
abbrev S256x2048 : Shape := ⟨2, ![256, 2048]⟩
abbrev S1x1 : Shape := ⟨2, ![1, 1]⟩
abbrev S1x256x2048 : Shape := ⟨3, ![1, 256, 2048]⟩
abbrev S1 : Shape := ⟨1, ![1]⟩
abbrev S1x1x1 : Shape := ⟨3, ![1, 1, 1]⟩
abbrev S1x8x128 : Shape := ⟨3, ![1, 8, 128]⟩
abbrev S8x128 : Shape := ⟨2, ![8, 128]⟩
abbrev S1x4x8x128 : Shape := ⟨4, ![1, 4, 8, 128]⟩
abbrev S1x1x1x1 : Shape := ⟨4, ![1, 1, 1, 1]⟩

abbrev nBuf : Space → Nat
  | .hbm => 3
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .bf16⟩
  | .local _ .vmem, ⟨0, _⟩ => ⟨S4096x1024, .bf16⟩
  | .local _ .vmem, ⟨1, _⟩ => ⟨S1024x2048, .bf16⟩
  | .local _ .vmem, ⟨2, _⟩ => ⟨S4096x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S4096x2048, .i8⟩
  | .local _ .vmem, ⟨8, _⟩ => ⟨S4x8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  (ofTc nBuf bufTy 1 57 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_off1 (d0 : Dev nD) (c0_i32_35 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_20 : BitVec 32 := 4#32
  let v31 : BitVec 32 := Scalar.addi v2 c4_i32_20
  let c1_i32_21 : BitVec 32 := 1#32
  let v32 : BitVec 32 := Scalar.subi v31 c1_i32_21
  let c4_i32_22 : BitVec 32 := 4#32
  let c0_i32_23 : BitVec 32 := 0#32
  let v33 : BitVec 1 := Scalar.cmpi .eq c4_i32_22 c0_i32_23
  let c1_i32_24 : BitVec 32 := 1#32
  let v34 : BitVec 32 := Scalar.select v33 c1_i32_24 c4_i32_22
  let v35 : BitVec 32 := Scalar.remsi v32 v34
  let c0_i32_26 : BitVec 32 := 0#32
  let v37 : BitVec 1 := Scalar.cmpi .slt v35 c0_i32_26
  let c0_i32_27 : BitVec 32 := 0#32
  let v38 : BitVec 1 := Scalar.cmpi .slt v34 c0_i32_27
  let v39 : BitVec 1 := Scalar.xori v37 v38
  let c0_i32_25 : BitVec 32 := 0#32
  let v36 : BitVec 1 := Scalar.cmpi .ne v35 c0_i32_25
  let v40 : BitVec 1 := Scalar.andi v39 v36
  let v41 : BitVec 32 := Scalar.addi v35 v34
  let v42 : BitVec 32 := Scalar.select v40 v41 v35
  let c1024_i32 : BitVec 32 := 1024#32
  let v54 : BitVec 32 := Scalar.muli v42 c1024_i32
  let v55 : BitVec 32 := Scalar.addi v54 c0_i32_35
  let v56 : Index := Scalar.indexCast v55
  let c0 : Index := 0#32
  ![v56.toNat, 0]
def k0_off2 (d0 : Dev nD) (c1_i32_21 : BitVec 32) (c0_i32_41 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_20 : BitVec 32 := 4#32
  let v31 : BitVec 32 := Scalar.addi v2 c4_i32_20
  let v32 : BitVec 32 := Scalar.subi v31 c1_i32_21
  let c4_i32_22 : BitVec 32 := 4#32
  let c0_i32_23 : BitVec 32 := 0#32
  let v33 : BitVec 1 := Scalar.cmpi .eq c4_i32_22 c0_i32_23
  let c1_i32_24 : BitVec 32 := 1#32
  let v34 : BitVec 32 := Scalar.select v33 c1_i32_24 c4_i32_22
  let v35 : BitVec 32 := Scalar.remsi v32 v34
  let c0_i32_26 : BitVec 32 := 0#32
  let v37 : BitVec 1 := Scalar.cmpi .slt v35 c0_i32_26
  let c0_i32_27 : BitVec 32 := 0#32
  let v38 : BitVec 1 := Scalar.cmpi .slt v34 c0_i32_27
  let v39 : BitVec 1 := Scalar.xori v37 v38
  let c0_i32_25 : BitVec 32 := 0#32
  let v36 : BitVec 1 := Scalar.cmpi .ne v35 c0_i32_25
  let v40 : BitVec 1 := Scalar.andi v39 v36
  let v41 : BitVec 32 := Scalar.addi v35 v34
  let v42 : BitVec 32 := Scalar.select v40 v41 v35
  let c1024_i32_40 : BitVec 32 := 1024#32
  let v66 : BitVec 32 := Scalar.muli v42 c1024_i32_40
  let v67 : BitVec 32 := Scalar.addi v66 c0_i32_41
  let c0_i32_48 : BitVec 32 := 0#32
  ![v67.toNat, 0]
def k0_dev3 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_46 : BitVec 32 := 1#32
  let v68 : BitVec 32 := Scalar.muli v25 c1_i32_46
  let v69 : BitVec 32 := Scalar.addi c0_i32_47 v68
  v69.toNat
def k0_off3 (d0 : Dev nD) (c0_i32_52 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c1024_i32_51 : BitVec 32 := 1024#32
  let v76 : BitVec 32 := Scalar.muli v53 c1024_i32_51
  let c512_i32 : BitVec 32 := 512#32
  let v77 : BitVec 32 := Scalar.addi v76 c512_i32
  let v78 : BitVec 32 := Scalar.addi v77 c0_i32_52
  let v79 : Index := Scalar.indexCast v78
  let c0_53 : Index := 0#32
  ![v79.toNat, 0]
def k0_off4 (d0 : Dev nD) (c1_i32_28 : BitVec 32) (c0_i32_61 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c1024_i32_59 : BitVec 32 := 1024#32
  let v89 : BitVec 32 := Scalar.muli v53 c1024_i32_59
  let c512_i32_60 : BitVec 32 := 512#32
  let v90 : BitVec 32 := Scalar.addi v89 c512_i32_60
  let v91 : BitVec 32 := Scalar.addi v90 c0_i32_61
  let c0_i32_68 : BitVec 32 := 0#32
  ![v91.toNat, 0]
def k0_dev4 (d0 : Dev nD) : Nat :=
  let c0_i32_67 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_66 : BitVec 32 := 1#32
  let v92 : BitVec 32 := Scalar.muli v14 c1_i32_66
  let v93 : BitVec 32 := Scalar.addi c0_i32_67 v92
  v93.toNat
def k0_dev5 (d0 : Dev nD) : Nat :=
  let c0_i32_84 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_83 : BitVec 32 := 1#32
  let v114 : BitVec 32 := Scalar.muli v25 c1_i32_83
  let v115 : BitVec 32 := Scalar.addi c0_i32_84 v114
  v115.toNat
def k0_dev6 (d0 : Dev nD) : Nat :=
  let c0_i32_105 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_104 : BitVec 32 := 1#32
  let v138 : BitVec 32 := Scalar.muli v14 c1_i32_104
  let v139 : BitVec 32 := Scalar.addi c0_i32_105 v138
  v139.toNat
def k0_off5 (d0 : Dev nD) (c0_i32_109 : BitVec 32) (c0_i32_126 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v146 : BitVec 32 := Scalar.addi v2 c8_i32
  let v147 : BitVec 32 := Scalar.subi v146 c0_i32_109
  let c2_i32_110 : BitVec 32 := 2#32
  let v148 : BitVec 32 := Scalar.subi v147 c2_i32_110
  let c4_i32_111 : BitVec 32 := 4#32
  let c0_i32_112 : BitVec 32 := 0#32
  let v149 : BitVec 1 := Scalar.cmpi .eq c4_i32_111 c0_i32_112
  let c1_i32_113 : BitVec 32 := 1#32
  let v150 : BitVec 32 := Scalar.select v149 c1_i32_113 c4_i32_111
  let v151 : BitVec 32 := Scalar.remsi v148 v150
  let c0_i32_115 : BitVec 32 := 0#32
  let v153 : BitVec 1 := Scalar.cmpi .slt v151 c0_i32_115
  let c0_i32_116 : BitVec 32 := 0#32
  let v154 : BitVec 1 := Scalar.cmpi .slt v150 c0_i32_116
  let v155 : BitVec 1 := Scalar.xori v153 v154
  let c0_i32_114 : BitVec 32 := 0#32
  let v152 : BitVec 1 := Scalar.cmpi .ne v151 c0_i32_114
  let v156 : BitVec 1 := Scalar.andi v155 v152
  let v157 : BitVec 32 := Scalar.addi v151 v150
  let v158 : BitVec 32 := Scalar.select v156 v157 v151
  let c1024_i32_125 : BitVec 32 := 1024#32
  let v171 : BitVec 32 := Scalar.muli v158 c1024_i32_125
  let v172 : BitVec 32 := Scalar.addi v171 c0_i32_126
  let v173 : Index := Scalar.indexCast v172
  let c0_127 : Index := 0#32
  ![v173.toNat, 0]
def k0_off6 (d0 : Dev nD) (c0_i32_117 : BitVec 32) (c0_i32_135 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v159 : BitVec 32 := Scalar.addi v2 c0_i32_117
  let c2_i32_118 : BitVec 32 := 2#32
  let v160 : BitVec 32 := Scalar.addi v159 c2_i32_118
  let c4_i32_119 : BitVec 32 := 4#32
  let c0_i32_120 : BitVec 32 := 0#32
  let v161 : BitVec 1 := Scalar.cmpi .eq c4_i32_119 c0_i32_120
  let c1_i32_121 : BitVec 32 := 1#32
  let v162 : BitVec 32 := Scalar.select v161 c1_i32_121 c4_i32_119
  let v163 : BitVec 32 := Scalar.remsi v160 v162
  let c0_i32_123 : BitVec 32 := 0#32
  let v165 : BitVec 1 := Scalar.cmpi .slt v163 c0_i32_123
  let c0_i32_124 : BitVec 32 := 0#32
  let v166 : BitVec 1 := Scalar.cmpi .slt v162 c0_i32_124
  let v167 : BitVec 1 := Scalar.xori v165 v166
  let c0_i32_122 : BitVec 32 := 0#32
  let v164 : BitVec 1 := Scalar.cmpi .ne v163 c0_i32_122
  let v168 : BitVec 1 := Scalar.andi v167 v164
  let v169 : BitVec 32 := Scalar.addi v163 v162
  let v170 : BitVec 32 := Scalar.select v168 v169 v163
  let c1024_i32_133 : BitVec 32 := 1024#32
  let v183 : BitVec 32 := Scalar.muli v170 c1024_i32_133
  let c512_i32_134 : BitVec 32 := 512#32
  let v184 : BitVec 32 := Scalar.addi v183 c512_i32_134
  let v185 : BitVec 32 := Scalar.addi v184 c0_i32_135
  let v186 : Index := Scalar.indexCast v185
  let c0_136 : Index := 0#32
  ![v186.toNat, 0]
def k0_off7 (d0 : Dev nD) (c0_i32_109 : BitVec 32) (c2_i32_110 : BitVec 32) (c0_i32_160 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v146 : BitVec 32 := Scalar.addi v2 c8_i32
  let v147 : BitVec 32 := Scalar.subi v146 c0_i32_109
  let v148 : BitVec 32 := Scalar.subi v147 c2_i32_110
  let c4_i32_111 : BitVec 32 := 4#32
  let c0_i32_112 : BitVec 32 := 0#32
  let v149 : BitVec 1 := Scalar.cmpi .eq c4_i32_111 c0_i32_112
  let c1_i32_113 : BitVec 32 := 1#32
  let v150 : BitVec 32 := Scalar.select v149 c1_i32_113 c4_i32_111
  let v151 : BitVec 32 := Scalar.remsi v148 v150
  let c0_i32_115 : BitVec 32 := 0#32
  let v153 : BitVec 1 := Scalar.cmpi .slt v151 c0_i32_115
  let c0_i32_116 : BitVec 32 := 0#32
  let v154 : BitVec 1 := Scalar.cmpi .slt v150 c0_i32_116
  let v155 : BitVec 1 := Scalar.xori v153 v154
  let c0_i32_114 : BitVec 32 := 0#32
  let v152 : BitVec 1 := Scalar.cmpi .ne v151 c0_i32_114
  let v156 : BitVec 1 := Scalar.andi v155 v152
  let v157 : BitVec 32 := Scalar.addi v151 v150
  let v158 : BitVec 32 := Scalar.select v156 v157 v151
  let c1024_i32_159 : BitVec 32 := 1024#32
  let v221 : BitVec 32 := Scalar.muli v158 c1024_i32_159
  let v222 : BitVec 32 := Scalar.addi v221 c0_i32_160
  let c0_i32_167 : BitVec 32 := 0#32
  ![v222.toNat, 0]
def k0_off7_at (r : Fin 10) : BitVec 32 × BitVec 32 × BitVec 32 :=
  if r.val < 5 then
    if r.val < 2 then
      if r.val < 1 then
        (0#32, 2#32, 0#32)
      else
        (0#32, 2#32, 256#32)
    else
      if r.val < 3 then
        (1#32, 2#32, 0#32)
      else
        if r.val < 4 then
          (1#32, 2#32, 256#32)
        else
          (0#32, 1#32, 0#32)
  else
    if r.val < 7 then
      if r.val < 6 then
        (0#32, 1#32, 256#32)
      else
        (1#32, 1#32, 0#32)
    else
      if r.val < 8 then
        (1#32, 1#32, 256#32)
      else
        if r.val < 9 then
          (2#32, 1#32, 0#32)
        else
          (2#32, 1#32, 256#32)
def k0_off8 (d0 : Dev nD) (c0_i32_117 : BitVec 32) (c2_i32_118 : BitVec 32) (c0_i32_172 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v159 : BitVec 32 := Scalar.addi v2 c0_i32_117
  let v160 : BitVec 32 := Scalar.addi v159 c2_i32_118
  let c4_i32_119 : BitVec 32 := 4#32
  let c0_i32_120 : BitVec 32 := 0#32
  let v161 : BitVec 1 := Scalar.cmpi .eq c4_i32_119 c0_i32_120
  let c1_i32_121 : BitVec 32 := 1#32
  let v162 : BitVec 32 := Scalar.select v161 c1_i32_121 c4_i32_119
  let v163 : BitVec 32 := Scalar.remsi v160 v162
  let c0_i32_123 : BitVec 32 := 0#32
  let v165 : BitVec 1 := Scalar.cmpi .slt v163 c0_i32_123
  let c0_i32_124 : BitVec 32 := 0#32
  let v166 : BitVec 1 := Scalar.cmpi .slt v162 c0_i32_124
  let v167 : BitVec 1 := Scalar.xori v165 v166
  let c0_i32_122 : BitVec 32 := 0#32
  let v164 : BitVec 1 := Scalar.cmpi .ne v163 c0_i32_122
  let v168 : BitVec 1 := Scalar.andi v167 v164
  let v169 : BitVec 32 := Scalar.addi v163 v162
  let v170 : BitVec 32 := Scalar.select v168 v169 v163
  let c1024_i32_170 : BitVec 32 := 1024#32
  let v229 : BitVec 32 := Scalar.muli v170 c1024_i32_170
  let c512_i32_171 : BitVec 32 := 512#32
  let v230 : BitVec 32 := Scalar.addi v229 c512_i32_171
  let v231 : BitVec 32 := Scalar.addi v230 c0_i32_172
  let c0_i32_179 : BitVec 32 := 0#32
  ![v231.toNat, 0]
def k0_off8_at (r : Fin 10) : BitVec 32 × BitVec 32 × BitVec 32 :=
  if r.val < 5 then
    if r.val < 2 then
      if r.val < 1 then
        (0#32, 2#32, 0#32)
      else
        (0#32, 2#32, 256#32)
    else
      if r.val < 3 then
        (1#32, 2#32, 0#32)
      else
        if r.val < 4 then
          (1#32, 2#32, 256#32)
        else
          (0#32, 1#32, 0#32)
  else
    if r.val < 7 then
      if r.val < 6 then
        (0#32, 1#32, 256#32)
      else
        (1#32, 1#32, 0#32)
    else
      if r.val < 8 then
        (1#32, 1#32, 256#32)
      else
        if r.val < 9 then
          (2#32, 1#32, 0#32)
        else
          (2#32, 1#32, 256#32)
def k0_off9 (d0 : Dev nD) (c0_i32_109 : BitVec 32) (c2_i32_110 : BitVec 32) (c0_i32_201 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v146 : BitVec 32 := Scalar.addi v2 c8_i32
  let v147 : BitVec 32 := Scalar.subi v146 c0_i32_109
  let v148 : BitVec 32 := Scalar.subi v147 c2_i32_110
  let c4_i32_111 : BitVec 32 := 4#32
  let c0_i32_112 : BitVec 32 := 0#32
  let v149 : BitVec 1 := Scalar.cmpi .eq c4_i32_111 c0_i32_112
  let c1_i32_113 : BitVec 32 := 1#32
  let v150 : BitVec 32 := Scalar.select v149 c1_i32_113 c4_i32_111
  let v151 : BitVec 32 := Scalar.remsi v148 v150
  let c0_i32_115 : BitVec 32 := 0#32
  let v153 : BitVec 1 := Scalar.cmpi .slt v151 c0_i32_115
  let c0_i32_116 : BitVec 32 := 0#32
  let v154 : BitVec 1 := Scalar.cmpi .slt v150 c0_i32_116
  let v155 : BitVec 1 := Scalar.xori v153 v154
  let c0_i32_114 : BitVec 32 := 0#32
  let v152 : BitVec 1 := Scalar.cmpi .ne v151 c0_i32_114
  let v156 : BitVec 1 := Scalar.andi v155 v152
  let v157 : BitVec 32 := Scalar.addi v151 v150
  let v158 : BitVec 32 := Scalar.select v156 v157 v151
  let c1024_i32_200 : BitVec 32 := 1024#32
  let v248 : BitVec 32 := Scalar.muli v158 c1024_i32_200
  let v249 : BitVec 32 := Scalar.addi v248 c0_i32_201
  let v250 : Index := Scalar.indexCast v249
  let c0_202 : Index := 0#32
  ![v250.toNat, 0]
def k0_off9_at (r : Fin 10) : BitVec 32 × BitVec 32 × BitVec 32 :=
  if r.val < 5 then
    if r.val < 2 then
      if r.val < 1 then
        (0#32, 2#32, 0#32)
      else
        (0#32, 2#32, 256#32)
    else
      if r.val < 3 then
        (1#32, 2#32, 0#32)
      else
        if r.val < 4 then
          (1#32, 2#32, 256#32)
        else
          (0#32, 1#32, 0#32)
  else
    if r.val < 7 then
      if r.val < 6 then
        (0#32, 1#32, 256#32)
      else
        (1#32, 1#32, 0#32)
    else
      if r.val < 8 then
        (1#32, 1#32, 256#32)
      else
        if r.val < 9 then
          (2#32, 1#32, 0#32)
        else
          (2#32, 1#32, 256#32)
def k0_off10 (d0 : Dev nD) (c0_i32_117 : BitVec 32) (c2_i32_118 : BitVec 32) (c0_i32_209 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v159 : BitVec 32 := Scalar.addi v2 c0_i32_117
  let v160 : BitVec 32 := Scalar.addi v159 c2_i32_118
  let c4_i32_119 : BitVec 32 := 4#32
  let c0_i32_120 : BitVec 32 := 0#32
  let v161 : BitVec 1 := Scalar.cmpi .eq c4_i32_119 c0_i32_120
  let c1_i32_121 : BitVec 32 := 1#32
  let v162 : BitVec 32 := Scalar.select v161 c1_i32_121 c4_i32_119
  let v163 : BitVec 32 := Scalar.remsi v160 v162
  let c0_i32_123 : BitVec 32 := 0#32
  let v165 : BitVec 1 := Scalar.cmpi .slt v163 c0_i32_123
  let c0_i32_124 : BitVec 32 := 0#32
  let v166 : BitVec 1 := Scalar.cmpi .slt v162 c0_i32_124
  let v167 : BitVec 1 := Scalar.xori v165 v166
  let c0_i32_122 : BitVec 32 := 0#32
  let v164 : BitVec 1 := Scalar.cmpi .ne v163 c0_i32_122
  let v168 : BitVec 1 := Scalar.andi v167 v164
  let v169 : BitVec 32 := Scalar.addi v163 v162
  let v170 : BitVec 32 := Scalar.select v168 v169 v163
  let c1024_i32_207 : BitVec 32 := 1024#32
  let v261 : BitVec 32 := Scalar.muli v170 c1024_i32_207
  let c512_i32_208 : BitVec 32 := 512#32
  let v262 : BitVec 32 := Scalar.addi v261 c512_i32_208
  let v263 : BitVec 32 := Scalar.addi v262 c0_i32_209
  let v264 : Index := Scalar.indexCast v263
  let c0_210 : Index := 0#32
  ![v264.toNat, 0]
def k0_off10_at (r : Fin 10) : BitVec 32 × BitVec 32 × BitVec 32 :=
  if r.val < 5 then
    if r.val < 2 then
      if r.val < 1 then
        (0#32, 2#32, 0#32)
      else
        (0#32, 2#32, 256#32)
    else
      if r.val < 3 then
        (1#32, 2#32, 0#32)
      else
        if r.val < 4 then
          (1#32, 2#32, 256#32)
        else
          (0#32, 1#32, 0#32)
  else
    if r.val < 7 then
      if r.val < 6 then
        (0#32, 1#32, 256#32)
      else
        (1#32, 1#32, 0#32)
    else
      if r.val < 8 then
        (1#32, 1#32, 256#32)
      else
        if r.val < 9 then
          (2#32, 1#32, 0#32)
        else
          (2#32, 1#32, 256#32)
def k0_dev7 (d0 : Dev nD) : Nat :=
  let c0_i32_223 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_222 : BitVec 32 := 1#32
  let v278 : BitVec 32 := Scalar.muli v25 c1_i32_222
  let v279 : BitVec 32 := Scalar.addi c0_i32_223 v278
  v279.toNat
def k0_dev8 (d0 : Dev nD) : Nat :=
  let c0_i32_232 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_231 : BitVec 32 := 1#32
  let v286 : BitVec 32 := Scalar.muli v14 c1_i32_231
  let v287 : BitVec 32 := Scalar.addi c0_i32_232 v286
  v287.toNat
def k0_dev9 (d0 : Dev nD) : Nat :=
  let c0_i32_300 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_299 : BitVec 32 := 1#32
  let v351 : BitVec 32 := Scalar.muli v25 c1_i32_299
  let v352 : BitVec 32 := Scalar.addi c0_i32_300 v351
  v352.toNat
def k0_dev10 (d0 : Dev nD) : Nat :=
  let c0_i32_309 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_308 : BitVec 32 := 1#32
  let v359 : BitVec 32 := Scalar.muli v14 c1_i32_308
  let v360 : BitVec 32 := Scalar.addi c0_i32_309 v359
  v360.toNat
def k0_dev11 (d0 : Dev nD) : Nat :=
  let c0_i32_428 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_427 : BitVec 32 := 1#32
  let v499 : BitVec 32 := Scalar.muli v25 c1_i32_427
  let v500 : BitVec 32 := Scalar.addi c0_i32_428 v499
  v500.toNat
def k0_dev12 (d0 : Dev nD) : Nat :=
  let c0_i32_437 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_436 : BitVec 32 := 1#32
  let v507 : BitVec 32 := Scalar.muli v14 c1_i32_436
  let v508 : BitVec 32 := Scalar.addi c0_i32_437 v507
  v508.toNat
def k0_dev13 (d0 : Dev nD) : Nat :=
  let c0_i32_505 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_504 : BitVec 32 := 1#32
  let v572 : BitVec 32 := Scalar.muli v25 c1_i32_504
  let v573 : BitVec 32 := Scalar.addi c0_i32_505 v572
  v573.toNat
def k0_dev14 (d0 : Dev nD) : Nat :=
  let c0_i32_514 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_513 : BitVec 32 := 1#32
  let v580 : BitVec 32 := Scalar.muli v14 c1_i32_513
  let v581 : BitVec 32 := Scalar.addi c0_i32_514 v580
  v581.toNat
def k0_off11 (d0 : Dev nD) (c0_i32_519 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_518 : BitVec 32 := 1024#32
  let v588 : BitVec 32 := Scalar.muli v2 c1024_i32_518
  let v589 : BitVec 32 := Scalar.addi v588 c0_i32_519
  let v590 : Index := Scalar.indexCast v589
  let c0_520 : Index := 0#32
  ![v590.toNat, 0]
def k0_off12 (d0 : Dev nD) (c0_i32_528 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_526 : BitVec 32 := 1024#32
  let v600 : BitVec 32 := Scalar.muli v2 c1024_i32_526
  let c512_i32_527 : BitVec 32 := 512#32
  let v601 : BitVec 32 := Scalar.addi v600 c512_i32_527
  let v602 : BitVec 32 := Scalar.addi v601 c0_i32_528
  let v603 : Index := Scalar.indexCast v602
  let c0_529 : Index := 0#32
  ![v603.toNat, 0]
def k0_off13 (d0 : Dev nD) (c0_i32_553 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_552 : BitVec 32 := 1024#32
  let v638 : BitVec 32 := Scalar.muli v2 c1024_i32_552
  let v639 : BitVec 32 := Scalar.addi v638 c0_i32_553
  let c0_i32_560 : BitVec 32 := 0#32
  ![v639.toNat, 0]
def k0_off14 (d0 : Dev nD) (c0_i32_565 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_563 : BitVec 32 := 1024#32
  let v646 : BitVec 32 := Scalar.muli v2 c1024_i32_563
  let c512_i32_564 : BitVec 32 := 512#32
  let v647 : BitVec 32 := Scalar.addi v646 c512_i32_564
  let v648 : BitVec 32 := Scalar.addi v647 c0_i32_565
  let c0_i32_572 : BitVec 32 := 0#32
  ![v648.toNat, 0]
def k0_off15 (d0 : Dev nD) (c0_i32_578 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_577 : BitVec 32 := 1024#32
  let v657 : BitVec 32 := Scalar.muli v2 c1024_i32_577
  let v658 : BitVec 32 := Scalar.addi v657 c0_i32_578
  let v659 : Index := Scalar.indexCast v658
  let c0_579 : Index := 0#32
  ![v659.toNat, 0]
def k0_off16 (d0 : Dev nD) (c0_i32_589 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_587 : BitVec 32 := 1024#32
  let v678 : BitVec 32 := Scalar.muli v2 c1024_i32_587
  let c512_i32_588 : BitVec 32 := 512#32
  let v679 : BitVec 32 := Scalar.addi v678 c512_i32_588
  let v680 : BitVec 32 := Scalar.addi v679 c0_i32_589
  let v681 : Index := Scalar.indexCast v680
  let c0_590 : Index := 0#32
  ![v681.toNat, 0]
def k0_off17 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v777 : Index := Scalar.indexCast v2
  let c0_671 : Index := 0#32
  let c0_672 : Index := 0#32
  ![v777.toNat, 0, 0]
def k0_off18 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_684 : BitVec 32 := 0#32
  let c0_i32_685 : BitVec 32 := 0#32
  ![v2.toNat, 0, 0]
def k0_dev15 (d0 : Dev nD) : Nat :=
  let c0_i32_683 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_673 : BitVec 32 := 1#32
  let v781 : BitVec 32 := Scalar.addi v2 c1_i32_673
  let c4_i32_674 : BitVec 32 := 4#32
  let c0_i32_675 : BitVec 32 := 0#32
  let v782 : BitVec 1 := Scalar.cmpi .eq c4_i32_674 c0_i32_675
  let c1_i32_676 : BitVec 32 := 1#32
  let v783 : BitVec 32 := Scalar.select v782 c1_i32_676 c4_i32_674
  let v784 : BitVec 32 := Scalar.remsi v781 v783
  let c0_i32_678 : BitVec 32 := 0#32
  let v786 : BitVec 1 := Scalar.cmpi .slt v784 c0_i32_678
  let c0_i32_679 : BitVec 32 := 0#32
  let v787 : BitVec 1 := Scalar.cmpi .slt v783 c0_i32_679
  let v788 : BitVec 1 := Scalar.xori v786 v787
  let c0_i32_677 : BitVec 32 := 0#32
  let v785 : BitVec 1 := Scalar.cmpi .ne v784 c0_i32_677
  let v789 : BitVec 1 := Scalar.andi v788 v785
  let v790 : BitVec 32 := Scalar.addi v784 v783
  let v791 : BitVec 32 := Scalar.select v789 v790 v784
  let c1_i32_682 : BitVec 32 := 1#32
  let v792 : BitVec 32 := Scalar.muli v791 c1_i32_682
  let v793 : BitVec 32 := Scalar.addi c0_i32_683 v792
  v793.toNat
def k0_dev16 (d0 : Dev nD) : Nat :=
  let c0_i32_698 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_688 : BitVec 32 := 2#32
  let v802 : BitVec 32 := Scalar.addi v2 c2_i32_688
  let c4_i32_689 : BitVec 32 := 4#32
  let c0_i32_690 : BitVec 32 := 0#32
  let v803 : BitVec 1 := Scalar.cmpi .eq c4_i32_689 c0_i32_690
  let c1_i32_691 : BitVec 32 := 1#32
  let v804 : BitVec 32 := Scalar.select v803 c1_i32_691 c4_i32_689
  let v805 : BitVec 32 := Scalar.remsi v802 v804
  let c0_i32_693 : BitVec 32 := 0#32
  let v807 : BitVec 1 := Scalar.cmpi .slt v805 c0_i32_693
  let c0_i32_694 : BitVec 32 := 0#32
  let v808 : BitVec 1 := Scalar.cmpi .slt v804 c0_i32_694
  let v809 : BitVec 1 := Scalar.xori v807 v808
  let c0_i32_692 : BitVec 32 := 0#32
  let v806 : BitVec 1 := Scalar.cmpi .ne v805 c0_i32_692
  let v810 : BitVec 1 := Scalar.andi v809 v806
  let v811 : BitVec 32 := Scalar.addi v805 v804
  let v812 : BitVec 32 := Scalar.select v810 v811 v805
  let c1_i32_697 : BitVec 32 := 1#32
  let v813 : BitVec 32 := Scalar.muli v812 c1_i32_697
  let v814 : BitVec 32 := Scalar.addi c0_i32_698 v813
  v814.toNat
def k0_dev17 (d0 : Dev nD) : Nat :=
  let c0_i32_712 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v823 : BitVec 32 := Scalar.addi v2 c3_i32
  let c4_i32_703 : BitVec 32 := 4#32
  let c0_i32_704 : BitVec 32 := 0#32
  let v824 : BitVec 1 := Scalar.cmpi .eq c4_i32_703 c0_i32_704
  let c1_i32_705 : BitVec 32 := 1#32
  let v825 : BitVec 32 := Scalar.select v824 c1_i32_705 c4_i32_703
  let v826 : BitVec 32 := Scalar.remsi v823 v825
  let c0_i32_707 : BitVec 32 := 0#32
  let v828 : BitVec 1 := Scalar.cmpi .slt v826 c0_i32_707
  let c0_i32_708 : BitVec 32 := 0#32
  let v829 : BitVec 1 := Scalar.cmpi .slt v825 c0_i32_708
  let v830 : BitVec 1 := Scalar.xori v828 v829
  let c0_i32_706 : BitVec 32 := 0#32
  let v827 : BitVec 1 := Scalar.cmpi .ne v826 c0_i32_706
  let v831 : BitVec 1 := Scalar.andi v830 v827
  let v832 : BitVec 32 := Scalar.addi v826 v825
  let v833 : BitVec 32 := Scalar.select v831 v832 v826
  let c1_i32_711 : BitVec 32 := 1#32
  let v834 : BitVec 32 := Scalar.muli v833 c1_i32_711
  let v835 : BitVec 32 := Scalar.addi c0_i32_712 v834
  v835.toNat
def k0_dev18 (d0 : Dev nD) : Nat :=
  let c0_i32_791 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_790 : BitVec 32 := 1#32
  let v931 : BitVec 32 := Scalar.muli v25 c1_i32_790
  let v932 : BitVec 32 := Scalar.addi c0_i32_791 v931
  v932.toNat
def k0_dev19 (d0 : Dev nD) : Nat :=
  let c0_i32_820 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_819 : BitVec 32 := 1#32
  let v980 : BitVec 32 := Scalar.muli v14 c1_i32_819
  let v981 : BitVec 32 := Scalar.addi c0_i32_820 v980
  v981.toNat
def k0_dev20 (d0 : Dev nD) : Nat :=
  let c0_i32_847 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_846 : BitVec 32 := 1#32
  let v1027 : BitVec 32 := Scalar.muli v25 c1_i32_846
  let v1028 : BitVec 32 := Scalar.addi c0_i32_847 v1027
  v1028.toNat
def k0_dev21 (d0 : Dev nD) : Nat :=
  let c0_i32_876 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_875 : BitVec 32 := 1#32
  let v1076 : BitVec 32 := Scalar.muli v14 c1_i32_875
  let v1077 : BitVec 32 := Scalar.addi c0_i32_876 v1076
  v1077.toNat
def k0_dev22 (d0 : Dev nD) : Nat :=
  let c0_i32_939 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_938 : BitVec 32 := 1#32
  let v1147 : BitVec 32 := Scalar.muli v25 c1_i32_938
  let v1148 : BitVec 32 := Scalar.addi c0_i32_939 v1147
  v1148.toNat
def k0_dev23 (d0 : Dev nD) : Nat :=
  let c0_i32_960 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_959 : BitVec 32 := 1#32
  let v1172 : BitVec 32 := Scalar.muli v14 c1_i32_959
  let v1173 : BitVec 32 := Scalar.addi c0_i32_960 v1172
  v1173.toNat
def k0_dev24 (d0 : Dev nD) : Nat :=
  let c0_i32_1032 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1031 : BitVec 32 := 1#32
  let v1264 : BitVec 32 := Scalar.muli v25 c1_i32_1031
  let v1265 : BitVec 32 := Scalar.addi c0_i32_1032 v1264
  v1265.toNat
def k0_dev25 (d0 : Dev nD) : Nat :=
  let c0_i32_1053 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1052 : BitVec 32 := 1#32
  let v1289 : BitVec 32 := Scalar.muli v14 c1_i32_1052
  let v1290 : BitVec 32 := Scalar.addi c0_i32_1053 v1289
  v1290.toNat
def k0_dev26 (d0 : Dev nD) : Nat :=
  let c0_i32_1125 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1124 : BitVec 32 := 1#32
  let v1381 : BitVec 32 := Scalar.muli v25 c1_i32_1124
  let v1382 : BitVec 32 := Scalar.addi c0_i32_1125 v1381
  v1382.toNat
def k0_dev27 (d0 : Dev nD) : Nat :=
  let c0_i32_1146 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1145 : BitVec 32 := 1#32
  let v1406 : BitVec 32 := Scalar.muli v14 c1_i32_1145
  let v1407 : BitVec 32 := Scalar.addi c0_i32_1146 v1406
  v1407.toNat
def k0_dev28 (d0 : Dev nD) : Nat :=
  let c0_i32_1218 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1217 : BitVec 32 := 1#32
  let v1498 : BitVec 32 := Scalar.muli v25 c1_i32_1217
  let v1499 : BitVec 32 := Scalar.addi c0_i32_1218 v1498
  v1499.toNat
def k0_dev29 (d0 : Dev nD) : Nat :=
  let c0_i32_1239 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1238 : BitVec 32 := 1#32
  let v1523 : BitVec 32 := Scalar.muli v14 c1_i32_1238
  let v1524 : BitVec 32 := Scalar.addi c0_i32_1239 v1523
  v1524.toNat
abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_cst_2 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== Proof.Vals.lean ====
/-
Devices, blocks and their contents: the shifts around the ring, the rectangles the kernel cuts its arrays into, and
what each block holds, as functions of every device's two operands.
-/
module

public import proofs.«01_k».proof.Proof.Gen.KernelIdeal
public import proofs.«01_k».proof.Proof.Gen.KernelIdeal.Skeleton
public import Idealize.ShloMosaic.Lib.Pipeline.Value

@[expose] public section

noncomputable section

namespace Cert.RingProof

open Cert.KernelIdeal Cert.KernelIdeal.Gen
open Idealize.ShloMosaic Idealize.ShloMosaic.TcCoe Idealize.SL Idealize.SL.Sem

variable {F : FTy → Type} [FloatOps F]

/-! ## Shifts -/

set_option backward.proofsInPublic true in
/-- The device `k` places further around the ring. -/
def sh (k : ℕ) (c : Dev nD) : Dev nD := ⟨(c.val + k) % 4, Nat.mod_lt _ (by decide)⟩

theorem sh_val (k : ℕ) (c : Dev nD) : (sh k c).val = (c.val + k) % 4 := rfl
theorem sh_sh (a b : ℕ) (c : Dev nD) : sh a (sh b c) = sh (b + a) c :=
  Fin.ext (by simp only [sh_val]; omega)
theorem sh_mod (a : ℕ) (c : Dev nD) : sh (a % 4) c = sh a c := Fin.ext (by simp only [sh_val]; omega)
theorem sh_zero (c : Dev nD) : sh 0 c = c := by revert c; decide
theorem sh_four (c : Dev nD) : sh 4 c = c := by revert c; decide
theorem sh_1_3 (c : Dev nD) : sh 1 (sh 3 c) = c := by revert c; decide
theorem sh_3_1 (c : Dev nD) : sh 3 (sh 1 c) = c := by revert c; decide
theorem sh_2_2 (c : Dev nD) : sh 2 (sh 2 c) = c := by revert c; decide
theorem sh_2_1 (c : Dev nD) : sh 2 (sh 1 c) = sh 3 c := by revert c; decide
theorem sh_2_3 (c : Dev nD) : sh 2 (sh 3 c) = sh 1 c := by revert c; decide

/-- How far upstream the neighbour sits that device `c` receives from, on each of the two rings. -/
def st (hf : Fin 2) : ℕ := if hf = 0 then 3 else 1
/-- The neighbour a device receives from. -/
def up (hf : Fin 2) (c : Dev nD) : Dev nD := sh (st hf) c
/-- The neighbour a device sends to. -/
def dn (hf : Fin 2) (c : Dev nD) : Dev nD := sh (4 - st hf) c

theorem up_dn (hf : Fin 2) (c : Dev nD) : up hf (dn hf c) = c := by revert hf c; decide
theorem dn_up (hf : Fin 2) (c : Dev nD) : dn hf (up hf c) = c := by revert hf c; decide

/-! ## The rectangles -/

theorem lt4 (d : Dev nD) : d.val < 4 := d.isLt

/-- First row of segment `s` of half `hf` of the chunk of device `d`. -/
abbrev ro (d : Dev nD) (hf s : Fin 2) : ℕ := 1024 * d.val + 512 * hf.val + 256 * s.val

abbrev xoff (d : Dev nD) (hf s : Fin 2) : Fin 2 → ℕ := ![ro d hf s, 0]
theorem xoff_inb (d : Dev nD) (hf s : Fin 2) : ∀ a, xoff d hf s a + S256x1024.size a ≤ S4096x1024.size a := by
  have hd := lt4 d; have h1 := hf.isLt; have h2 := s.isLt
  intro a; fin_cases a
  · show 1024 * d.val + 512 * hf.val + 256 * s.val + 256 ≤ 4096; omega
  · show 0 + 1024 ≤ 1024; omega
theorem ooff_inb (d : Dev nD) (hf s : Fin 2) : ∀ a, xoff d hf s a + S256x2048.size a ≤ S4096x2048.size a := by
  have hd := lt4 d; have h1 := hf.isLt; have h2 := s.isLt
  intro a; fin_cases a
  · show 1024 * d.val + 512 * hf.val + 256 * s.val + 256 ≤ 4096; omega
  · show 0 + 2048 ≤ 2048; omega
abbrev soff (s : Fin 2) : Fin 2 → ℕ := ![256 * s.val, 0]
theorem soff_inb (s : Fin 2) : ∀ a, soff s a + S256x2048.size a ≤ S512x2048.size a := by
  have h2 := s.isLt
  intro a; fin_cases a
  · show 256 * s.val + 256 ≤ 512; omega
  · show 0 + 2048 ≤ 2048; omega
abbrev aoff (d : Dev nD) : Fin 3 → ℕ := ![d.val, 0, 0]
theorem aoff_inb (d : Dev nD) : ∀ a, aoff d a + S1x8x128.size a ≤ S4x8x128.size a := by
  have hd := lt4 d
  intro a; fin_cases a
  · show d.val + 1 ≤ 4; omega
  · show 0 + 8 ≤ 8; omega
  · show 0 + 128 ≤ 128; omega

/-- The rows of the first operand a segment's product reads; -/
abbrev xrect (d : Dev nD) (hf s : Fin 2) : Rect S4096x1024 := Rect.unit (s := S4096x1024) (xoff d hf s) S256x1024.size (xoff_inb d hf s)
/-- a segment of the result, and of the quantised copy of it; -/
abbrev orect (d : Dev nD) (hf s : Fin 2) : Rect S4096x2048 := Rect.unit (s := S4096x2048) (xoff d hf s) S256x2048.size (ooff_inb d hf s)
/-- a segment of one of the four half-chunk buffers; -/
abbrev srect (s : Fin 2) : Rect S512x2048 := Rect.unit (s := S512x2048) (soff s) S256x2048.size (soff_inb s)
/-- the slot of device `d` among the maxima. -/
abbrev arect (d : Dev nD) : Rect S4x8x128 := Rect.unit (s := S4x8x128) (aoff d) S1x8x128.size (aoff_inb d)

/-! ## Contents -/

section Contents
variable (xs : Dev nD → Vec F S4096x1024 .bf16) (ws : Dev nD → Vec F S1024x2048 .bf16)

/-- A device's slab of rows of its first operand; -/
def slab (x : Vec F S4096x1024 .bf16) (d : Dev nD) (hf s : Fin 2) : Vec F S256x1024 .bf16 := fun j => x ((xrect d hf s).emb j)
/-- its share of a segment of the result: that slab times its second operand. -/
def dt (c d : Dev nD) (hf s : Fin 2) : Vec F S256x2048 .bf16 := k0_pay26 (slab (xs c) d hf s) (ws c)
/-- A partial sum: the local share added to what came in. -/
def acc (p o : Vec F S256x2048 .bf16) : Vec F S256x2048 .bf16 := k0_pay22 p o

/-- The running partial sum device `c` holds after `h` additions on ring `hf`. -/
def rsv (hf : Fin 2) : ℕ → Dev nD → Fin 2 → Vec F S256x2048 .bf16
  | 0, c, s => dt xs ws c (sh (st hf) c) hf s
  | h + 1, c, s => acc (dt xs ws c (sh (st hf * (h + 2) % 4) c) hf s) (rsv hf h (up hf c) s)

/-- A segment of device `c`'s own chunk of the result, summed over the ring. -/
def yv (c : Dev nD) (hf s : Fin 2) : Vec F S256x2048 .bf16 := rsv xs ws hf 3 c s

/-- The largest absolute value in two segments; then with a third; then with the fourth. -/
def amx (c : Dev nD) : F .f32 :=
  k0_pay36 (k0_pay34 (k0_pay32 (yv xs ws c 0 0) (dt xs ws c c 1 0) (rsv xs ws 1 2 (up 1 c) 0))
    (dt xs ws c c 0 1) (rsv xs ws 0 2 (up 0 c) 1)) (dt xs ws c c 1 1) (rsv xs ws 1 2 (up 1 c) 1)

/-- A device's slot of maxima; -/
def amv (c : Dev nD) : Vec F S1x8x128 .f32 := k0_pay37 (amx xs ws c)
/-- all of them. -/
def amall : Vec F S4x8x128 .f32 := fun j => amx xs ws ⟨(j 0).val, (j 0).isLt⟩
/-- The step of the quantisation; -/
def scl : F .f32 := k0_pay38 (amall xs ws)
/-- a quantised segment; -/
def qv (c : Dev nD) (hf s : Fin 2) : Vec F S256x2048 .i8 := fptosi 8 (k0_pay49 (scl xs ws) (yv xs ws c hf s))
/-- the segment as its owner writes it back; -/
def ownv (c : Dev nD) (hf s : Fin 2) : Vec F S256x2048 .bf16 := k0_pay51 (scl xs ws) (yv xs ws c hf s)
/-- as the others do, from the quantised copy. -/
def deqv (c : Dev nD) (hf s : Fin 2) : Vec F S256x2048 .bf16 := k0_pay52 (scl xs ws) (qv xs ws c hf s)

end Contents

/-! ## The compiled payloads are these -/

section Pays
variable (p o y : Vec F S256x2048 .bf16) (x : Vec F S256x1024 .bf16) (w : Vec F S1024x2048 .bf16) (sc : F .f32)
  (am : Vec F S4x8x128 .f32) (q : Vec F S256x2048 .i8)

theorem pay1_eq : k0_pay1 x w = k0_pay26 x w := rfl
theorem pay2_eq : k0_pay2 x w = k0_pay26 x w := rfl
theorem pay3_eq : k0_pay3 x w = k0_pay26 x w := rfl
theorem pay4_eq : k0_pay4 x w = k0_pay26 x w := rfl
theorem pay5_eq : k0_pay5 x w = k0_pay26 x w := rfl
theorem pay8_eq : k0_pay8 x w = k0_pay26 x w := rfl
theorem pay9_eq : k0_pay9 x w = k0_pay26 x w := rfl
theorem pay18_eq : k0_pay18 x w = k0_pay26 x w := rfl
theorem pay19_eq : k0_pay19 x w = k0_pay26 x w := rfl
theorem pay20_eq : k0_pay20 x w = k0_pay26 x w := rfl
theorem pay27_eq : k0_pay27 x w = k0_pay26 x w := rfl
theorem pay28_eq : k0_pay28 x w = k0_pay26 x w := rfl
theorem pay29_eq : k0_pay29 x w = k0_pay26 x w := rfl
theorem pay7_eq : k0_pay7 (k0_pay6 x w) = k0_pay26 x w := rfl
theorem pay17_eq : k0_pay17 (k0_pay16 x w) = k0_pay26 x w := rfl
theorem pay11_eq : k0_pay11 (k0_pay10 p) o = acc p o := by
  unfold acc k0_pay11 k0_pay10 k0_pay22; simp only [shapeCast_self]
theorem pay15_eq : k0_pay15 (k0_pay14 p) o = acc p o := by
  unfold acc k0_pay15 k0_pay14 k0_pay22; simp only [shapeCast_self]
theorem pay12_eq : k0_pay12 p o = acc p o := by
  unfold acc k0_pay12 k0_pay22; simp only [shapeCast_self]
theorem pay13_eq : k0_pay13 p o = acc p o := by
  unfold acc k0_pay13 k0_pay22; simp only [shapeCast_self]
theorem pay21_eq : k0_pay21 p o = acc p o := by
  unfold acc k0_pay21 k0_pay22; simp only [shapeCast_self]
theorem pay24_eq : k0_pay24 p o = acc p o := by
  unfold acc k0_pay24 k0_pay22; simp only [shapeCast_self]
theorem pay25_eq : k0_pay25 p o = acc p o := by
  unfold acc k0_pay25 k0_pay22; simp only [shapeCast_self]
theorem pay23_eq : k0_pay23 (k0_pay22 p o) = acc p o := by
  unfold acc k0_pay23 k0_pay22; simp only [shapeCast_self]
theorem pay30_eq : k0_pay30 p o = acc p o := rfl
theorem pay31_eq : k0_pay31 p o = acc p o := rfl
theorem pay33_eq : k0_pay33 p o = acc p o := rfl
theorem pay35_eq : k0_pay35 p o = acc p o := rfl
theorem pay40_eq : k0_pay40 am y = fptosi 8 (k0_pay49 (k0_pay38 am) y) := by
  unfold k0_pay40 k0_pay39 k0_pay49; simp only [shapeCast_self]
theorem pay41_eq : k0_pay41 am y = k0_pay51 (k0_pay38 am) y := rfl
theorem pay43_eq : k0_pay43 sc y = fptosi 8 (k0_pay49 sc y) := by
  unfold k0_pay43 k0_pay42 k0_pay49; simp only [shapeCast_self]
theorem pay44_eq : k0_pay44 sc y = k0_pay51 sc y := rfl
theorem pay47_eq : k0_pay47 (k0_pay45 sc y) = fptosi 8 (k0_pay49 sc y) := by
  unfold k0_pay47 k0_pay46 k0_pay45 k0_pay49; simp only [shapeCast_self]
theorem pay48_eq : k0_pay48 sc (k0_pay45 sc y) = k0_pay51 sc y := rfl
theorem pay50_eq : k0_pay50 sc y = fptosi 8 (k0_pay49 sc y) := by
  unfold k0_pay50 k0_pay49; simp only [shapeCast_self]
theorem pay53_eq : k0_pay53 sc q = k0_pay52 sc q := rfl
theorem pay54_eq : k0_pay54 sc q = k0_pay52 sc q := rfl
theorem pay55_eq : k0_pay55 sc q = k0_pay52 sc q := rfl
theorem pay56_eq : k0_pay56 sc q = k0_pay52 sc q := rfl
theorem pay57_eq : k0_pay57 sc q = k0_pay52 sc q := rfl
theorem pay58_eq : k0_pay58 sc q = k0_pay52 sc q := rfl
theorem pay59_eq : k0_pay59 sc q = k0_pay52 sc q := rfl
theorem pay60_eq : k0_pay60 sc q = k0_pay52 sc q := rfl
theorem pay61_eq : k0_pay61 sc q = k0_pay52 sc q := rfl
theorem pay62_eq : k0_pay62 sc q = k0_pay52 sc q := rfl
theorem pay63_eq : k0_pay63 sc q = k0_pay52 sc q := rfl

end Pays

end Cert.RingProof

end
-- ==== Proof.Sched.lean ====
/-
The protocol: the transfers, the semaphore cells they go through, what each landing hands over, and the levels.
-/
module

public import proofs.«01_k».proof.Proof.Gen.KernelIdeal.Launch
public import proofs.«01_k».proof.Proof.Vals
public import Idealize.ShloMosaic.Lib.Pipeline.Launch
public import Idealize.ShloMosaic.Lib.Pipeline.Kit
public import Idealize.ShloMosaic.Lib.Tactic
public import Mathlib.Tactic.DeriveFintype

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Memrefs -/

abbrev xM : Memref sig .tc .vmem S4096x1024 .bf16 := Memref.whole cc0_stg0_0
abbrev wM : Memref sig .tc .vmem S1024x2048 .bf16 := Memref.whole cc0_stg1_0
abbrev oM : Memref sig .tc .vmem S4096x2048 .bf16 := Memref.whole cc0_stg2_0
abbrev srM : Memref sig .tc .vmem S512x2048 .bf16 := Memref.whole cc0_scratch0
abbrev slM : Memref sig .tc .vmem S512x2048 .bf16 := Memref.whole cc0_scratch1
abbrev prM : Memref sig .tc .vmem S512x2048 .bf16 := Memref.whole cc0_scratch2
abbrev plM : Memref sig .tc .vmem S512x2048 .bf16 := Memref.whole cc0_scratch3
abbrev qM : Memref sig .tc .vmem S4096x2048 .i8 := Memref.whole cc0_scratch4
abbrev aM : Memref sig .tc .vmem S4x8x128 .f32 := Memref.whole cc0_scratch5
abbrev sM (hf : Fin 2) : Memref sig .tc .vmem S512x2048 .bf16 := if hf = 0 then srM else slM
abbrev pM (hf : Fin 2) : Memref sig .tc .vmem S512x2048 .bf16 := if hf = 0 then prM else plM

/-! ## Transfers and cells -/

/-- A transfer of one device: a step of the reducing ring, a step of the exchange of maxima, a step of the gathering ring. -/
inductive Snd where
  | rs (hf : Fin 2) (h : Fin 3) (s : Fin 2)
  | am (k : Fin 3)
  | ag (hf : Fin 2) (h : Fin 3) (s : Fin 2)
  deriving DecidableEq, Fintype

/-- A semaphore of one device: the barrier, or the sending (`false`) or receiving (`true`) side of a transfer. -/
abbrev CI : Type := Option (Bool × Snd)

set_option backward.proofsInPublic true in
def dnum : Bool → Snd → Fin 57
  | b, .rs hf h s => ⟨(3 + (if b then 6 else 0) + 12 * hf.val + 2 * h.val + s.val) % 57, Nat.mod_lt _ (by decide)⟩
  | b, .ag hf h s => ⟨(27 + (if b then 6 else 0) + 12 * hf.val + 2 * h.val + s.val) % 57, Nat.mod_lt _ (by decide)⟩
  | b, .am k => ⟨(51 + (if b then 3 else 0) + k.val) % 57, Nat.mod_lt _ (by decide)⟩

abbrev barS : Sem sig := (SemArray.scalar (sig.barrier 0 rfl) : Sems sig S_).sem

abbrev csem : CI → SemLoc sig
  | none => .reg barS
  | some (b, x) => .dma (dnum b x)

/-- The transfer and side a DMA semaphore's number stands for. -/
def dof (n : ℕ) : CI :=
  let m := n - 3
  let hf : Fin 2 := if m / 12 % 2 = 0 then 0 else 1
  let b := decide (m / 6 % 2 = 1)
  let h : Fin 3 := if m % 6 / 2 = 0 then 0 else if m % 6 / 2 = 1 then 1 else 2
  let s : Fin 2 := if m % 2 = 0 then 0 else 1
  let k : Fin 3 := if n % 3 = 0 then 0 else if n % 3 = 1 then 1 else 2
  if m < 24 then some (b, .rs hf h s) else if m < 48 then some (b, .ag hf h s) else some (decide (54 ≤ n), .am k)

theorem dof_dnum : ∀ (b : Bool) (x : Snd), dof (dnum b x).val = some (b, x) := by decide

/-- The index of one of the protocol's cells. -/
def decodeS : SemLoc sig → CI
  | .reg _ => none
  | .dma d => dof d.val

theorem decodeS_csem (i : CI) : decodeS (csem i) = i := by
  rcases i with _ | ⟨b, x⟩
  · rfl
  · exact dof_dnum b x

theorem csem_injective : Function.Injective csem := fun a b h => by
  rw [← decodeS_csem a, ← decodeS_csem b, h]

abbrev cell (c : Dev nD) (i : CI) : GSem nD τ sig := ((c : Thread nD τ), csem i)
abbrev barCell (c : Dev nD) : GSem nD τ sig := cell c none
abbrev sCell (c : Dev nD) (x : Snd) : GSem nD τ sig := cell c (some (false, x))
abbrev rCell (c : Dev nD) (x : Snd) : GSem nD τ sig := cell c (some (true, x))

theorem cell_injective : Function.Injective (fun ci : Dev nD × CI => cell ci.1 ci.2) := by
  rintro ⟨c, i⟩ ⟨c', i'⟩ h
  have h1 : c = c' := congrArg (fun g : GSem nD τ sig => g.1.1) h
  have h2 : i = i' := csem_injective (congrArg Prod.snd h)
  rw [h1, h2]

/-- The device a transfer goes to. -/
def tgt (c : Dev nD) : Snd → Dev nD
  | .rs hf _ _ => dn hf c
  | .am k => sh (k.val + 1) c
  | .ag hf _ _ => dn hf c

/-- Its place in the order the kernel issues them. -/
def sOrd : Snd → ℕ
  | .rs hf h s => 4 * h.val + 2 * s.val + hf.val
  | .am k => 12 + k.val
  | .ag hf h s => 15 + 4 * h.val + 2 * s.val + hf.val

/-- The place of a cell in the order the kernel waits on them. -/
def wOrd : CI → ℕ
  | none => 0
  | some (b, .rs hf h s) =>
    if h = 2 then 17 + (if b then 0 else 4) + 2 * s.val + hf.val
    else 1 + 8 * h.val + 4 * s.val + (if b then 0 else 2) + hf.val
  | some (b, .am k) => 25 + 2 * k.val + (if b then 1 else 0)
  | some (b, .ag hf h s) => (if b then 31 else 43) + 4 * h.val + 2 * s.val + hf.val

theorem sOrd_inj : Function.Injective sOrd := by unfold Function.Injective; decide
theorem wOrd_inj : Function.Injective wOrd := by unfold Function.Injective; decide +kernel

/-! ## Blocks -/

section Blocks
variable (xs : Dev nD → Vec F S4096x1024 .bf16) (ws : Dev nD → Vec F S1024x2048 .bf16)

/-- Device `c` holds its operands; -/
def xB (c : Dev nD) (X : Vec F S4096x1024 .bf16) : sProp 𝕄 := owns (c : Thread nD τ) xM fullShare X
def wB (c : Dev nD) (X : Vec F S1024x2048 .bf16) : sProp 𝕄 := owns (c : Thread nD τ) wM fullShare X
/-- a segment of the result, of the chunk `k` places further around; -/
def oB (c : Dev nD) (k : ℕ) (hf s : Fin 2) (X : Vec F S256x2048 .bf16) : sProp 𝕄 :=
  owns (c : Thread nD τ) (oM.slice (orect (sh k c) hf s) (fun _ => rfl)) fullShare X
/-- some share of a segment of the quantised copy; -/
def qB (c : Dev nD) (k : ℕ) (hf s : Fin 2) (q : PosShare TreeShare) (X : Vec F S256x2048 .i8) : sProp 𝕄 :=
  owns (c : Thread nD τ) (qM.slice (orect (sh k c) hf s) (fun _ => rfl)) q X
/-- a segment of its sending buffers, of its partial product buffers; -/
def sB (c : Dev nD) (hf s : Fin 2) (X : Vec F S256x2048 .bf16) : sProp 𝕄 :=
  owns (c : Thread nD τ) ((sM hf).slice (srect s) (fun _ => rfl)) fullShare X
def pB (c : Dev nD) (hf s : Fin 2) (X : Vec F S256x2048 .bf16) : sProp 𝕄 :=
  owns (c : Thread nD τ) ((pM hf).slice (srect s) (fun _ => rfl)) fullShare X
/-- some share of the slot of maxima of the device `k` places further around. -/
def aB (c : Dev nD) (k : ℕ) (q : PosShare TreeShare) (X : Vec F S1x8x128 .f32) : sProp 𝕄 :=
  owns (c : Thread nD τ) (aM.slice (arect (sh k c)) (fun _ => rfl)) q X

instance (c : Dev nD) (k hf s X) : BI.Storable (upEmb : UEmb _ 𝕄) (oB (F := F) c k hf s X) := by unfold oB; infer_instance
instance (c : Dev nD) (k hf s q X) : BI.Storable (upEmb : UEmb _ 𝕄) (qB (F := F) c k hf s q X) := by unfold qB; infer_instance
instance (c : Dev nD) (hf s X) : BI.Storable (upEmb : UEmb _ 𝕄) (sB (F := F) c hf s X) := by unfold sB; infer_instance
instance (c : Dev nD) (k q X) : BI.Storable (upEmb : UEmb _ 𝕄) (aB (F := F) c k q X) := by unfold aB; infer_instance

/-- The share of its own slot a device lends to each of its three transfers of it. -/
def ash : Fin 3 → PosShare TreeShare
  | 0 => fullShare.left
  | 1 => fullShare.right.left
  | 2 => fullShare.right.right

/-- What the transfer writes over, on the device it goes to. The slot the second exchange of maxima writes over arrives
    separately (`fwd`), its owner being no ring neighbour. -/
def dmem (c : Dev nD) : Snd → sProp 𝕄
  | .rs hf h s => iprop(∃ X, oB (F := F) (dn hf c) (st hf * (h.val + 2) % 4) hf s X)
  | .am k => if k = 1 then iprop(emp) else iprop(∃ X, aB (F := F) (sh (k.val + 1) c) (3 - k.val) fullShare X)
  | .ag hf h s => iprop(∃ X, qB (F := F) (dn hf c) (st hf * (h.val + 1) % 4) hf s fullShare X)

/-- Device `c`'s slot on the device across the ring from it. -/
def fwd (c : Dev nD) : sProp 𝕄 := iprop(∃ X, aB (F := F) (sh 2 c) 2 fullShare X)

instance (c : Dev nD) (x : Snd) : BI.Storable (upEmb : UEmb _ 𝕄) (dmem (F := F) c x) := by
  cases x with
  | am k => unfold dmem; by_cases h : k = 1
            · simp only [if_pos h]; infer_instance
            · simp only [if_neg h]; infer_instance
  | _ => unfold dmem; infer_instance
instance (c : Dev nD) : BI.Storable (upEmb : UEmb _ 𝕄) (fwd (F := F) c) := by unfold fwd; infer_instance

/-- What the landing of a transfer of device `c` gives back to it: what it sent; -/
def sendPay (c : Dev nD) : Snd → sProp 𝕄
  | .rs hf h s => sB c hf s (rsv xs ws hf h.val c s)
  | .am k => aB c 0 (ash k) (amv xs ws c)
  | .ag hf h s => qB c (st hf * h.val % 4) hf s fullShare.left (qv xs ws (sh (st hf * h.val % 4) c) hf s)

/-- what a landing on device `c` brings. -/
def recvPay (c : Dev nD) : Snd → sProp 𝕄
  | .rs hf h s =>
    if hf = 0 ∧ h = 0 ∧ s = 0 then iprop(oB c (st hf * (h.val + 2) % 4) hf s (rsv xs ws hf h.val (up hf c) s) ∗ fwd (F := F) c)
    else oB c (st hf * (h.val + 2) % 4) hf s (rsv xs ws hf h.val (up hf c) s)
  | .am k => aB c (3 - k.val) fullShare (amv xs ws (sh (3 - k.val) c))
  | .ag hf h s => qB c (st hf * (h.val + 1) % 4) hf s fullShare (qv xs ws (sh (st hf * (h.val + 1) % 4) c) hf s)

instance (c : Dev nD) (x : Snd) : BI.Storable (upEmb : UEmb _ 𝕄) (sendPay xs ws c x) := by
  cases x <;> unfold sendPay <;> infer_instance
instance (c : Dev nD) (x : Snd) : BI.Storable (upEmb : UEmb _ 𝕄) (recvPay xs ws c x) := by
  cases x with
  | rs hf h s => unfold recvPay; by_cases h : hf = 0 ∧ h = 0 ∧ s = 0
                 · simp only [if_pos h]; infer_instance
                 · simp only [if_neg h]; infer_instance
  | _ => unfold recvPay; infer_instance

/-- The transfers a device makes towards the neighbour after it, and towards the one before it. -/
def goesR : Snd → Bool
  | .rs hf _ _ => hf = 0
  | .am k => k = 0
  | .ag hf _ _ => hf = 0
def toR : Finset Snd := Finset.univ.filter fun x => goesR x = true
def toL : Finset Snd := Finset.univ.filter fun x => goesR x = false

/-- What the entry handshake hands device `c`: from the neighbour after it, and from the one before it. -/
def barPay (c : Dev nD) : Bool → sProp 𝕄
  | true => bigSep toR fun x => dmem (F := F) c x
  | false => iprop((bigSep toL fun x => dmem (F := F) c x) ∗ fwd (F := F) (sh 1 c))

instance (c : Dev nD) (d : Bool) : BI.Storable (upEmb : UEmb _ 𝕄) (barPay (F := F) c d) := by
  cases d <;> unfold barPay <;> infer_instance

end Blocks

/-! ## The schedule -/

/-- How much the landing of each transfer raises its cells by. -/
def amt : Snd → ℕ
  | .rs _ _ _ => (oM.slice (orect 0 0 0) (fun _ => rfl)).view.dmaCredit
  | .am _ => ((aM.slice (arect 0) (fun _ => rfl)).squeeze S8x128 squeezes_S1x8x128_S8x128).view.dmaCredit
  | .ag _ _ _ => (qM.slice (orect 0 0 0) (fun _ => rfl)).view.dmaCredit

theorem amt_pos (x : Snd) : 0 < amt x := by
  cases x <;> exact View.dmaCredit_pos _ (by decide)

variable (xs : Dev nD → Vec F S4096x1024 .bf16) (ws : Dev nD → Vec F S1024x2048 .bf16)

def payOf (c : Dev nD) : CI → Bool → sProp 𝕄
  | none, d => barPay c d
  | some (false, x), _ => sendPay xs ws c x
  | some (true, x), _ => recvPay xs ws c x

def amtOf : CI → ℕ
  | none => 1
  | some (_, x) => amt x

def dutOf : CI → Finset Bool
  | none => Finset.univ
  | some _ => {false}

def Rd : Rounds.Schedule (GSem nD τ sig) Bool 𝕄 where
  duties g r := if r = 0 then dutOf (decodeS g.2) else ∅
  unitless _ := False
  amount g _ _ := amtOf (decodeS g.2)
  payload g _ d := payOf xs ws g.1.1 (decodeS g.2) d
  amount_pos g _ _ _ := by
    rcases decodeS g.2 with _ | ⟨b, x⟩
    · exact Nat.one_pos
    · exact amt_pos x

instance payOf_storable (c : Dev nD) (i : CI) (d : Bool) : BI.Storable (upEmb : UEmb _ 𝕄) (payOf xs ws c i d) := by
  rcases i with _ | ⟨_ | _, x⟩ <;> unfold payOf <;> infer_instance

instance Rd_payload_storable (g : GSem nD τ sig) (r : ℕ) (d : Bool) :
    BI.Storable (upEmb : UEmb _ 𝕄) ((Rd (F := F) xs ws).payload g r d) := by
  show BI.Storable upEmb (payOf xs ws g.1.1 (decodeS g.2) d); infer_instance

theorem Rd_duties (c : Dev nD) (i : CI) : (Rd xs ws).duties (cell c i) 0 = dutOf i := by
  show dutOf (decodeS (csem i)) = _; rw [decodeS_csem]
theorem Rd_duties_later (c : Dev nD) (i : CI) : (Rd xs ws).duties (cell c i) 1 = ∅ := rfl
theorem Rd_amount (c : Dev nD) (i : CI) (r d) : (Rd xs ws).amount (cell c i) r d = amtOf i := by
  show amtOf (decodeS (csem i)) = _; rw [decodeS_csem]
theorem Rd_payload (c : Dev nD) (i : CI) (r d) : (Rd xs ws).payload (cell c i) r d = payOf xs ws c i d := by
  show payOf xs ws c (decodeS (csem i)) d = _; rw [decodeS_csem]

/-! ## Levels -/

def L (g : GSem nD τ sig) : Finset Unit := if g.1.2 = .tc then {()} else ∅

def lvS : Snd → ℕ
  | .rs _ h _ => 2 + h.val
  | .am _ => 5
  | .ag _ h _ => 6 + h.val

def lvC : CI → ℕ
  | none => 1
  | some (false, _) => 0
  | some (true, x) => lvS x

def lv (g : GSem nD τ sig) (_ : Unit) : ℕ := match g.2 with
  | .reg _ => 1
  | .dma d => if d.val < 3 then 0 else lvC (dof d.val)

theorem L_of_ne (g : GSem nD τ sig) (h : g.1.2 ≠ .tc) : L g = ∅ := if_neg h
theorem L_tc (c : Dev nD) (sm : SemLoc sig) : L ((c : Thread nD τ), sm) = {()} := if_pos rfl

theorem three_le_dnum : ∀ b x, ¬ (dnum b x).val < 3 := by decide
theorem lv_cell (c : Dev nD) (i : CI) (u : Unit) : lv (cell c i) u = lvC i := by
  rcases i with _ | ⟨b, x⟩
  · rfl
  · show (if (dnum b x).val < 3 then 0 else lvC (dof (dnum b x).val)) = _
    rw [if_neg (three_le_dnum b x), dof_dnum]

end Cert.RingProof

end
-- ==== Proof.Proto.lean ====
/-
Where a device stands in the protocol: after its first `n` transfers and its first `w` waits. One step for a transfer,
one for a wait, stated for every transfer and every cell.
-/
module

public import proofs.«01_k».proof.Proof.Sched

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (xs : Dev nD → Vec F S4096x1024 .bf16) (ws : Dev nD → Vec F S1024x2048 .bf16)

theorem bigSep_ins {I : Type} [DecidableEq I] {s : Finset I} {i : I} (hi : i ∉ s) (Φ : I → sProp 𝕄) :
    bigSep (insert i s) Φ = iprop(Φ i ∗ bigSep s Φ) := BI.bigSep_insert hi
theorem bigSep_at {I : Type} [DecidableEq I] {s : Finset I} {i : I} (hi : i ∈ s) (Φ : I → sProp 𝕄) : bigSep s Φ ⊢ Φ i := bigSep_elim hi

/-! ## The sets a position splits the transfers and the cells into -/

def sFrom (n : ℕ) : Finset Snd := Finset.univ.filter fun x => n ≤ sOrd x
def sSent (n w : ℕ) : Finset Snd := Finset.univ.filter fun x => sOrd x < n ∧ w ≤ wOrd (some (false, x))
def wFrom (w : ℕ) : Finset CI := Finset.univ.filter fun i => w ≤ wOrd i
def wDone (w : ℕ) : Finset CI := Finset.univ.filter fun i => wOrd i < w

theorem mem_sFrom {n : ℕ} {x : Snd} : x ∈ sFrom n ↔ n ≤ sOrd x := by simp [sFrom]
theorem mem_sSent {n w : ℕ} {x : Snd} : x ∈ sSent n w ↔ sOrd x < n ∧ w ≤ wOrd (some (false, x)) := by simp [sSent]
theorem mem_wFrom {w : ℕ} {i : CI} : i ∈ wFrom w ↔ w ≤ wOrd i := by simp [wFrom]
theorem mem_wDone {w : ℕ} {i : CI} : i ∈ wDone w ↔ wOrd i < w := by simp [wDone]

theorem sFrom_step (x : Snd) : sFrom (sOrd x) = insert x (sFrom (sOrd x + 1)) := by
  ext y; rw [Finset.mem_insert, mem_sFrom, mem_sFrom]
  constructor
  · intro h
    by_cases hy : y = x
    · exact Or.inl hy
    · have : sOrd x ≠ sOrd y := fun h' => hy (sOrd_inj h').symm
      exact Or.inr (by omega)
  · rintro (rfl | h)
    · exact le_rfl
    · omega
theorem sFrom_step_not (x : Snd) : x ∉ sFrom (sOrd x + 1) := by rw [mem_sFrom]; omega
theorem sSent_step (x : Snd) {w : ℕ} (h : w ≤ wOrd (some (false, x))) : sSent (sOrd x + 1) w = insert x (sSent (sOrd x) w) := by
  ext y; rw [Finset.mem_insert, mem_sSent, mem_sSent]
  constructor
  · rintro ⟨h1, h2⟩
    by_cases hy : y = x
    · exact Or.inl hy
    · have : sOrd x ≠ sOrd y := fun h' => hy (sOrd_inj h').symm
      exact Or.inr ⟨by omega, h2⟩
  · rintro (rfl | ⟨h1, h2⟩)
    · exact ⟨by omega, h⟩
    · exact ⟨by omega, h2⟩
theorem sSent_step_not (x : Snd) {w : ℕ} : x ∉ sSent (sOrd x) w := by rw [mem_sSent]; omega
theorem wFrom_step (i : CI) : wFrom (wOrd i) = insert i (wFrom (wOrd i + 1)) := by
  ext y; rw [Finset.mem_insert, mem_wFrom, mem_wFrom]
  constructor
  · intro h
    by_cases hy : y = i
    · exact Or.inl hy
    · have : wOrd i ≠ wOrd y := fun h' => hy (wOrd_inj h').symm
      exact Or.inr (by omega)
  · rintro (rfl | h)
    · exact le_rfl
    · omega
theorem wFrom_step_not (i : CI) : i ∉ wFrom (wOrd i + 1) := by rw [mem_wFrom]; omega
theorem wDone_step (i : CI) : wDone (wOrd i + 1) = insert i (wDone (wOrd i)) := by
  ext y; rw [Finset.mem_insert, mem_wDone, mem_wDone]
  constructor
  · intro h
    by_cases hy : y = i
    · exact Or.inl hy
    · have : wOrd i ≠ wOrd y := fun h' => hy (wOrd_inj h').symm
      exact Or.inr (by omega)
  · rintro (rfl | h) <;> omega
theorem wDone_step_not (i : CI) : i ∉ wDone (wOrd i) := by rw [mem_wDone]; omega
theorem sSent_wait_recv (x : Snd) (n : ℕ) : sSent n (wOrd (some (true, x)) + 1) = sSent n (wOrd (some (true, x))) := by
  ext y; rw [mem_sSent, mem_sSent]
  have : wOrd (some (true, x)) ≠ wOrd (some (false, y)) := fun h => by cases wOrd_inj h
  constructor <;> rintro ⟨h1, h2⟩ <;> exact ⟨h1, by omega⟩
theorem sSent_wait_send (x : Snd) {n : ℕ} (hn : sOrd x < n) :
    sSent n (wOrd (some (false, x))) = insert x (sSent n (wOrd (some (false, x)) + 1)) := by
  ext y; rw [Finset.mem_insert, mem_sSent, mem_sSent]
  constructor
  · rintro ⟨h1, h2⟩
    by_cases hy : y = x
    · exact Or.inl hy
    · have : wOrd (some (false, x)) ≠ wOrd (some (false, y)) := fun h => hy (by cases wOrd_inj h; rfl)
      exact Or.inr ⟨h1, by omega⟩
  · rintro (rfl | ⟨h1, h2⟩)
    · exact ⟨hn, le_rfl⟩
    · exact ⟨h1, by omega⟩
theorem sSent_wait_send_not (x : Snd) {n : ℕ} : x ∉ sSent n (wOrd (some (false, x)) + 1) := by rw [mem_sSent]; omega

/-! ## What a device holds of the protocol -/

/-- Every cell's invariant, and that its round is open. -/
def recsK (K : Dev nD × CI → ℕ) : sProp 𝕄 :=
  iprop((bigSep Finset.univ fun ci : Dev nD × CI => cellInv ER (Rd xs ws) (K ci) (cell ci.1 ci.2))
    ∗ bigSep Finset.univ fun ci : Dev nD × CI => reached ER (cell ci.1 ci.2) 0)
instance recsK_persistent (K) : BI.Persistent (recsK xs ws K) := by unfold recsK; infer_instance
def recs : sProp 𝕄 := iprop(∃ K, recsK xs ws K)
instance recs_persistent : BI.Persistent (recs xs ws) := by unfold recs; infer_instance

theorem recsK_inv (K : Dev nD × CI → ℕ) (c : Dev nD) (i : CI) : recsK xs ws K ⊢ cellInv ER (Rd xs ws) (K (c, i)) (cell c i) := by
  unfold recsK; iintro ⟨#H, -⟩
  iapply (bigSep_at (Finset.mem_univ (c, i)) fun ci : Dev nD × CI => cellInv ER (Rd xs ws) (K ci) (cell ci.1 ci.2)); iexact H
theorem recsK_reached (K : Dev nD × CI → ℕ) (c : Dev nD) (i : CI) : recsK xs ws K ⊢ reached ER (cell c i) 0 := by
  unfold recsK; iintro ⟨-, #H⟩
  iapply (bigSep_at (Finset.mem_univ (c, i)) fun ci : Dev nD × CI => reached ER (cell ci.1 ci.2) 0); iexact H

/-- What device `c` still owes when `n` of its transfers are issued. -/
def owed (c : Dev nD) (n : ℕ) : CellTallies nD τ sig Unit := ∑ x ∈ sFrom n, tallyAt (rCell (tgt c x) x) () (amt x)

theorem owed_step (c : Dev nD) (x : Snd) : owed c (sOrd x) = owed c (sOrd x + 1) + tallyAt (rCell (tgt c x) x) () (amt x) := by
  unfold owed; rw [sFrom_step x, Finset.sum_insert (sFrom_step_not x), add_comm]

/-- The tokens a transfer spends; -/
def stoks (c : Dev nD) (x : Snd) : sProp 𝕄 := iprop(dutyTok ER (sCell c x) 0 false ∗ dutyTok ER (rCell (tgt c x) x) 0 false)
/-- with the memory it writes over; -/
def sres (c : Dev nD) (x : Snd) : sProp 𝕄 := iprop(stoks (F := F) c x ∗ dmem (F := F) c x)
/-- the credit an issued transfer leaves on its sending side; -/
def scr (c : Dev nD) (x : Snd) : sProp 𝕄 := cred (tallyAt (sCell c x) () (amt x))
/-- what a wait spends; -/
def wres (c : Dev nD) : CI → sProp 𝕄
  | none => iprop(atPos ER (cell c none) 0 ∅ 0 ∗ cred (tallyAt (cell c none) () 2))
  | some (false, x) => atPos ER (cell c (some (false, x))) 0 ∅ 0
  | some (true, x) => iprop(atPos ER (cell c (some (true, x))) 0 ∅ 0 ∗ cred (tallyAt (rCell c x) () (amt x)))
/-- what it leaves. -/
def wz (c : Dev nD) (i : CI) : sProp 𝕄 := semVal (cell c i) 0

def P (c : Dev nD) (n w : ℕ) : sProp 𝕄 :=
  iprop((∃ W, owes (c : Thread nD τ) (owed c n) W) ∗ (bigSep (sFrom n) fun x => sres (F := F) c x) ∗ (bigSep (sSent n w) fun x => scr (F := F) c x)
    ∗ (bigSep (wFrom w) fun i => wres (F := F) c i) ∗ (bigSep (wDone w) fun i => wz (F := F) c i) ∗ recs xs ws ∗ levAts L lv)

/-- The same with the resources of the transfer next in turn set apart. -/
def PS (c : Dev nD) (x : Snd) (n w : ℕ) : sProp 𝕄 :=
  iprop((∃ W, owes (c : Thread nD τ) (owed c n) W) ∗ stoks (F := F) c x ∗ (bigSep (sFrom (n + 1)) fun x => sres (F := F) c x) ∗ (bigSep (sSent n w) fun x => scr (F := F) c x)
    ∗ (bigSep (wFrom w) fun i => wres (F := F) c i) ∗ (bigSep (wDone w) fun i => wz (F := F) c i) ∗ recs xs ws ∗ levAts L lv)

theorem P_open (c : Dev nD) (x : Snd) {n w : ℕ} (hn : sOrd x = n) : P xs ws c n w ⊢ iprop(dmem (F := F) c x ∗ PS xs ws c x n w) := by
  subst hn
  unfold P PS
  rw [sFrom_step x, bigSep_ins (sFrom_step_not x)]
  iintro ⟨HO, ⟨Hx, Hs⟩, Hc, Hw, Hz, #HR, #Hl⟩
  ihave Hx' := (show sres (F := F) c x ⊢ iprop(stoks (F := F) c x ∗ dmem (F := F) c x) from .rfl) $$ Hx
  icases Hx' with ⟨Ht, Hd⟩
  isplitl [Hd]; · iexact Hd
  isplitl [HO]; · iexact HO
  isplitl [Ht]; · iexact Ht
  isplitl [Hs]; · iexact Hs
  isplitl [Hc]; · iexact Hc
  isplitl [Hw]; · iexact Hw
  isplitl [Hz]; · iexact Hz
  isplitr; · iexact HR
  iexact Hl

/-- A transfer: the source and the memory it writes over are handed in, the position moves by one. -/
theorem step_send (c : Dev nD) (x : Snd) {n w : ℕ} (hn : sOrd x = n) (hw : w ≤ wOrd (some (false, x)))
    {sp sp' : Space} {s : Shape} {e : EltTy} {src : Memref sig .tc sp s e} {dst : Memref sig .tc sp' s e}
    {sS sR : DmaSem sig} (hsS : sS = dnum false x) (hsR : sR = dnum true x) {d : Dev nD} (hd : d = tgt c x)
    {hsc : dst.view.ref.isScScratch = false} {hsrc : src.view.WordExact} {hdst : dst.view.WordExact}
    {hsem : DmaTarget.Typed sp (.dma sR : SemLoc sig) (.remote (Dev.tc d) dst (.dma sS) hsc)}
    {q : PosShare TreeShare} {fs : Buf (Elt F) (src.view.loc (c : Thread nD τ))} {fd : Buf (Elt F) (dst.view.loc (d : Thread nD τ))} {Fr : sProp 𝕄}
    (hN : dst.view.amount (.dma sR : SemLoc sig) = amt x)
    (h1 : (src.view.loc (c : Thread nD τ) ↦[src.view.set]{q} fs : sProp 𝕄) ⊢ sendPay xs ws c x)
    (h2 : iprop((dst.view.loc (d : Thread nD τ) ↦[dst.view.set]{fullShare} (dst.view.write (Elt F) fd (src.view.read (Elt F) fs) Finset.univ)) ∗ Fr) ⊢ recvPay xs ws d x)
    {k : PUnit → Prog (TpuEff nD τ sig (Elt F) Λ₀ .tc) α} {Q : α → sProp 𝕄} :
    iprop(PS xs ws c x n w ∗ (src.view.loc (c : Thread nD τ) ↦[src.view.set]{q} fs) ∗ (dst.view.loc (d : Thread nD τ) ↦[dst.view.set]{fullShare} fd) ∗ Fr)
      ⊢ iprop((P xs ws c (n + 1) w -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (Dev.tc d) dst (.dma sS) hsc) (.dma sR) hsrc hdst hsem) k) Q) := by
  subst hn hsS hsR hd
  iintro ⟨HP, Hs, Hd, HF⟩ Hk
  ihave HP' := (show PS xs ws c x (sOrd x) w ⊢ iprop((∃ W, owes (c : Thread nD τ) (owed c (sOrd x)) W) ∗ stoks (F := F) c x ∗ (bigSep (sFrom (sOrd x + 1)) fun x => sres (F := F) c x) ∗ (bigSep (sSent (sOrd x) w) fun x => scr (F := F) c x)
    ∗ (bigSep (wFrom w) fun i => wres (F := F) c i) ∗ (bigSep (wDone w) fun i => wz (F := F) c i) ∗ recs xs ws ∗ levAts L lv) from .rfl) $$ HP
  icases HP' with ⟨⟨%W, HO⟩, Ht, Hsr, Hcr, Hw, Hz, #HR, #Hl⟩
  ihave HR' := (show recs xs ws ⊢ iprop(∃ K, recsK xs ws K) from .rfl) $$ HR
  icases HR' with ⟨%K, #HK⟩
  ihave Ht' := (show stoks (F := F) c x ⊢ iprop(dutyTok ER (sCell c x) 0 false ∗ dutyTok ER (rCell (tgt c x) x) 0 false) from .rfl) $$ Ht
  icases Ht' with ⟨Ht1, Ht2⟩
  iapply (Rounds.wp_send_pointsTo_with 𝒱₀ ER (Rd xs ws) (c : Thread nD τ) none (κ₁ := K (c, some (false, x))) (κ₂ := K (tgt c x, some (true, x)))
      (r₁ := 0) (r₂ := 0) (d₁ := false) (d₂ := false)
      (by rw [Rd_duties xs ws c (some (false, x))]; exact Finset.mem_singleton_self _)
      (by rw [Rd_duties xs ws (tgt c x) (some (true, x))]; exact Finset.mem_singleton_self _)
      () () (amt x) hN (Rd_amount xs ws c (some (false, x)) 0 false) (Rd_amount xs ws (tgt c x) (some (true, x)) 0 false)
      (owed c (sOrd x + 1)) (owed_step c x) (W := W)
      (by rw [Rd_payload xs ws c (some (false, x))]; exact h1)
      (by rw [Rd_payload xs ws (tgt c x) (some (true, x))]; exact h2)) $$ [Hs Hd HF HO Ht1 Ht2]
  · isplitr; · iapply (recsK_inv xs ws K c (some (false, x))); iexact HK
    isplitr; · iapply (recsK_inv xs ws K (tgt c x) (some (true, x))); iexact HK
    isplitl [Hs]; · iexact Hs
    isplitl [Hd HF]; · isplitl [Hd] <;> iassumption
    isplitl [HO]; · iexact HO
    isplitl [Ht1]; · iexact Ht1
    isplitr; · iapply (recsK_reached xs ws K c (some (false, x))); iexact HK
    isplitl [Ht2]; · iexact Ht2
    iapply (recsK_reached xs ws K (tgt c x) (some (true, x))); iexact HK
  iintro ⟨Hc, HO⟩
  iapply Hk
  unfold P
  rw [sSent_step x hw, bigSep_ins (sSent_step_not x)]
  isplitl [HO]; · iexists W; iexact HO
  isplitl [Hsr]; · iexact Hsr
  isplitl [Hc Hcr]
  · isplitl [Hc]; · unfold scr; iexact Hc
    iexact Hcr
  isplitl [Hw]; · iexact Hw
  isplitl [Hz]; · iexact Hz
  isplitr; · iexact HR
  iexact Hl

theorem owed_pos {c : Dev nD} {n : ℕ} {g : GSem nD τ sig} {u : Unit} (h : 0 < owed c n g u) : ∃ x, n ≤ sOrd x ∧ g = rCell (tgt c x) x := by
  by_contra hn
  refine Nat.lt_irrefl 0 (lt_of_lt_of_eq h ?_)
  unfold owed
  rw [Finset.sum_apply, Finsupp.finset_sum_apply]
  refine Finset.sum_eq_zero fun x hx => ?_
  rw [tallyAt_apply, if_neg]
  rintro ⟨h1, -⟩
  exact hn ⟨x, mem_sFrom.mp hx, h1⟩

/-- A wait at a cell below everything still owed. -/
theorem mayWait_cell (c : Dev nD) (i : CI) {n : ℕ} (hl : ∀ y, n ≤ sOrd y → lvC i < lvS y) :
    (levAts L lv : sProp 𝕄) ⊢ MayWait (c : Thread nD τ) (csem i) () (owed c n) := by
  refine MayOwe.of_cut (L := L) (lev := lv) (lvC i) (fun p hp => by rw [Finset.mem_singleton.mp hp, L_tc]; exact Finset.mem_singleton_self _)
    (fun g u hg => ?_) (fun p hp => ?_) (fun g u hg => ?_)
  · obtain ⟨x, -, rfl⟩ := owed_pos hg; exact Finset.mem_singleton_self _
  · rw [Finset.mem_singleton.mp hp]; exact le_of_eq (lv_cell c i ())
  · obtain ⟨x, hx, rfl⟩ := owed_pos hg
    rw [show lv (rCell (tgt c x) x) u = lvC (some (true, x)) from lv_cell (tgt c x) (some (true, x)) u]
    exact hl x hx

theorem expect_some (c : Dev nD) (b : Bool) (x : Snd) : (Rd xs ws).expect (cell c (some (b, x))) 0 = amt x := by
  unfold Schedule.expect Schedule.amountOf
  rw [Rd_duties, show dutOf (some (b, x)) = {false} from rfl, Finset.sum_singleton, Rd_amount]; rfl
theorem expect_none (c : Dev nD) : (Rd xs ws).expect (cell c none) 0 = 2 := by
  unfold Schedule.expect Schedule.amountOf
  rw [Rd_duties, Finset.sum_congr rfl fun d _ => Rd_amount xs ws c none 0 d]; rfl
theorem rest_some (c : Dev nD) (b : Bool) (x : Snd) :
    bigSep ((Rd xs ws).duties (cell c (some (b, x))) 0 \ ∅) (fun d => (Rd xs ws).payload (cell c (some (b, x))) 0 d)
      = payOf xs ws c (some (b, x)) false := by
  rw [Finset.sdiff_empty, Rd_duties, show dutOf (some (b, x)) = {false} from rfl, bigSep_singleton, Rd_payload]
theorem rest_none (c : Dev nD) :
    bigSep ((Rd xs ws).duties (cell c none) 0 \ ∅) (fun d => (Rd xs ws).payload (cell c none) 0 d)
      = iprop(barPay (F := F) c false ∗ barPay (F := F) c true) := by
  rw [Finset.sdiff_empty, Rd_duties, show dutOf none = Finset.univ from rfl, bigSep_univ_eq_bigSepL [false, true] (by decide) (by decide),
    bigSepL_cons_cons, bigSepL_singleton, Rd_payload, Rd_payload]
  rfl
theorem later (c : Dev nD) (i : CI) : ∀ r, 0 + 1 ≤ r → (Rd xs ws).duties (cell c i) r = ∅ := fun r hr => by
  show (if r = 0 then _ else ∅) = ∅
  rw [if_neg (by omega)]

/-- A wait at the receiving side of a transfer: what landed is the device's. -/
theorem step_recv (c : Dev nD) (x : Snd) {n w : ℕ} (hw : wOrd (some (true, x)) = w) (hl : ∀ y, n ≤ sOrd y → lvC (some (true, x)) < lvS y)
    {sp sp' : Space} {s s' : Shape} {e e' : EltTy} {src : Memref sig .tc sp' s' e'} {dst : Memref sig .tc sp s e}
    {sR : DmaSem sig} (hsR : sR = dnum true x) {hsrc : src.view.WordExact} {hdst : dst.view.WordExact} (hN : dst.view.dmaCredit = amt x)
    {k : PUnit → Prog (TpuEff nD τ sig (Elt F) Λ₀ .tc) α} {Q : α → sProp 𝕄} :
    P xs ws c n w
      ⊢ iprop((recvPay xs ws c x -∗ P xs ws c n (w + 1) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sR src dst hsrc hdst) k) Q) := by
  subst hw hsR
  unfold P
  rw [wFrom_step (some (true, x)), bigSep_ins (wFrom_step_not _)]
  iintro ⟨⟨%W, HO⟩, Hs, Hc, ⟨Hx, Hw⟩, Hz, #HR, #Hl⟩ Hk
  ihave HR' := (show recs xs ws ⊢ iprop(∃ K, recsK xs ws K) from .rfl) $$ HR
  icases HR' with ⟨%K, #HK⟩
  ihave Hx' := (show wres (F := F) c (some (true, x)) ⊢ iprop(atPos ER (cell c (some (true, x))) 0 ∅ 0 ∗ cred (tallyAt (rCell c x) () (amt x))) from .rfl) $$ Hx
  icases Hx' with ⟨Hat, Hcr⟩
  ihave #HI := (recsK_inv xs ws K c (some (true, x))) $$ HK
  iapply (Rounds.wp_wait_rest_token 𝒱₀ ER (Rd xs ws) (c : Thread nD τ) none (κ := K (c, some (true, x)))
      (wpE_waitDma2_eq 𝒱₀ (c : Thread nD τ) none Set.univ) (Set.mem_univ _) () (O := owed c n) (W := W) (R := 0) (m := 0) (T := ∅)
      (by rw [Nat.zero_add, expect_some xs ws c true x, hN])) $$ [Hcr HO Hat]
  · isplitr; · iexact HI
    isplitl [Hcr]; · rw [hN]; iexact Hcr
    isplitl [HO]; · iexact HO
    isplitr; · iapply (mayWait_cell c (some (true, x)) hl); iexact Hl
    iexact Hat
  iintro ⟨HO, Hat, -, Hpay⟩
  ihave Hp := ((Entails.of_eq (rest_some xs ws c true x)).trans (show payOf xs ws c (some (true, x)) false ⊢ recvPay xs ws c x from .rfl)) $$ Hpay
  imod (Rounds.cell_close ER (Rd xs ws) (Set.mem_univ (K (c, some (true, x)))) (fun h => h) (R := 0 + 1) (later xs ws c (some (true, x)))) $$ [Hat] with HzS
  · isplitr; · iexact HI
    iexact Hat
  iapply Hk $$ Hp
  rw [sSent_wait_recv, wDone_step, bigSep_ins (wDone_step_not _)]
  isplitl [HO]; · iexists _; iexact HO
  isplitl [Hs]; · iexact Hs
  isplitl [Hc]; · iexact Hc
  isplitl [Hw]; · iexact Hw
  isplitl [HzS Hz]
  · isplitl [HzS]; · unfold wz; iexact HzS
    iexact Hz
  isplitr; · iexact HR
  iexact Hl

/-- A wait at the sending side of a transfer: what was sent is the device's again. -/
theorem step_sent (c : Dev nD) (x : Snd) {n w : ℕ} (hw : wOrd (some (false, x)) = w) (hn : sOrd x < n) (hl : ∀ y, n ≤ sOrd y → 0 < lvS y)
    {sp sp' : Space} {s s' : Shape} {e e' : EltTy} {src : Memref sig .tc sp' s' e'} {dst : Memref sig .tc sp s e}
    {sS : DmaSem sig} (hsS : sS = dnum false x) {hsrc : src.view.WordExact} {hdst : dst.view.WordExact} (hN : dst.view.dmaCredit = amt x)
    {k : PUnit → Prog (TpuEff nD τ sig (Elt F) Λ₀ .tc) α} {Q : α → sProp 𝕄} :
    P xs ws c n w
      ⊢ iprop((sendPay xs ws c x -∗ P xs ws c n (w + 1) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sS src dst hsrc hdst) k) Q) := by
  subst hw hsS
  unfold P
  rw [wFrom_step (some (false, x)), bigSep_ins (wFrom_step_not _), sSent_wait_send x hn, bigSep_ins (sSent_wait_send_not x)]
  iintro ⟨⟨%W, HO⟩, Hs, ⟨Hcr, Hc⟩, ⟨Hat, Hw⟩, Hz, #HR, #Hl⟩ Hk
  ihave HR' := (show recs xs ws ⊢ iprop(∃ K, recsK xs ws K) from .rfl) $$ HR
  icases HR' with ⟨%K, #HK⟩
  ihave Hat := (show wres (F := F) c (some (false, x)) ⊢ atPos ER (cell c (some (false, x))) 0 ∅ 0 from .rfl) $$ Hat
  ihave Hcr := (show scr (F := F) c x ⊢ cred (tallyAt (sCell c x) () (amt x)) from .rfl) $$ Hcr
  ihave #HI := (recsK_inv xs ws K c (some (false, x))) $$ HK
  iapply (Rounds.wp_wait_rest_token 𝒱₀ ER (Rd xs ws) (c : Thread nD τ) none (κ := K (c, some (false, x)))
      (wpE_waitDma2_eq 𝒱₀ (c : Thread nD τ) none Set.univ) (Set.mem_univ _) () (O := owed c n) (W := W) (R := 0) (m := 0) (T := ∅)
      (by rw [Nat.zero_add, expect_some xs ws c false x, hN])) $$ [Hcr HO Hat]
  · isplitr; · iexact HI
    isplitl [Hcr]; · rw [hN]; iexact Hcr
    isplitl [HO]; · iexact HO
    isplitr; · iapply (mayWait_cell c (some (false, x)) hl); iexact Hl
    iexact Hat
  iintro ⟨HO, Hat, -, Hpay⟩
  ihave Hp := ((Entails.of_eq (rest_some xs ws c false x)).trans (show payOf xs ws c (some (false, x)) false ⊢ sendPay xs ws c x from .rfl)) $$ Hpay
  imod (Rounds.cell_close ER (Rd xs ws) (Set.mem_univ (K (c, some (false, x)))) (fun h => h) (R := 0 + 1) (later xs ws c (some (false, x)))) $$ [Hat] with HzS
  · isplitr; · iexact HI
    iexact Hat
  iapply Hk $$ Hp
  rw [wDone_step, bigSep_ins (wDone_step_not _)]
  isplitl [HO]; · iexists _; iexact HO
  isplitl [Hs]; · iexact Hs
  isplitl [Hc]; · iexact Hc
  isplitl [Hw]; · iexact Hw
  isplitl [HzS Hz]
  · isplitl [HzS]; · unfold wz; iexact HzS
    iexact Hz
  isplitr; · iexact HR
  iexact Hl

/-! ## Before the entry handshake -/

/-- What a device owes when `b` of its two signals are given. -/
def owed0 (c : Dev nD) : ℕ → CellTallies nD τ sig Unit
  | 0 => owed c 0 + tallyAt (barCell (sh 1 c)) () 1 + tallyAt (barCell (sh 3 c)) () 1
  | 1 => owed c 0 + tallyAt (barCell (sh 1 c)) () 1
  | _ => owed c 0

/-- The tokens of the signals left to give. -/
def btoks (c : Dev nD) : ℕ → sProp 𝕄
  | 0 => iprop(dutyTok ER (barCell (sh 3 c)) 0 true ∗ dutyTok ER (barCell (sh 1 c)) 0 false)
  | 1 => dutyTok ER (barCell (sh 1 c)) 0 false
  | _ => iprop(emp)

def P0 (c : Dev nD) (b : ℕ) : sProp 𝕄 :=
  iprop((∃ W, owes (c : Thread nD τ) (owed0 c b) W) ∗ btoks (F := F) c b ∗ (bigSep Finset.univ fun x => stoks (F := F) c x)
    ∗ (bigSep Finset.univ fun i => wres (F := F) c i) ∗ recs xs ws ∗ levAts L lv)

theorem step_signal0 (c : Dev nD) {d : Dev nD} (hd : d = sh 3 c)
    {k : PUnit → Prog (TpuEff nD τ sig (Elt F) Λ₀ .tc) α} {Q : α → sProp 𝕄} :
    iprop(P0 xs ws c 0 ∗ barPay (F := F) (sh 3 c) true)
      ⊢ iprop((P0 xs ws c 1 -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (Dev.tc d) barS 1) k) Q) := by
  subst hd
  unfold P0
  iintro ⟨⟨⟨%W, HO⟩, Htt, Hs, Hw, #HR, #Hl⟩, HB⟩ Hk
  ihave Htt := (show btoks (F := F) c 0 ⊢ iprop(dutyTok ER (barCell (sh 3 c)) 0 true ∗ dutyTok ER (barCell (sh 1 c)) 0 false) from .rfl) $$ Htt
  icases Htt with ⟨Ht, Ht'⟩
  ihave HR' := (show recs xs ws ⊢ iprop(∃ K, recsK xs ws K) from .rfl) $$ HR
  icases HR' with ⟨%K, #HK⟩
  iapply (Rounds.wp_signal 𝒱₀ ER (Rd xs ws) (c : Thread nD τ) none (dst := (sh 3 c : Thread nD τ)) (κ := K (sh 3 c, none)) (d := true)
      (by rw [Rd_duties xs ws (sh 3 c) none]; exact Finset.mem_univ _) (Rd_amount xs ws (sh 3 c) none 0 true) () (owed0 c 1) rfl) $$ [HO Ht HB]
  · isplitr; · iapply (recsK_inv xs ws K (sh 3 c) none); iexact HK
    isplitl [HO]; · iexact HO
    isplitl [Ht]; · iexact Ht
    isplitl [HB]; · rw [Rd_payload xs ws (sh 3 c) none]; unfold payOf; iexact HB
    iapply (recsK_reached xs ws K (sh 3 c) none); iexact HK
  iintro HO
  iapply Hk
  isplitl [HO]; · iexists W; iexact HO
  isplitl [Ht']; · unfold btoks; iexact Ht'
  isplitl [Hs]; · iexact Hs
  isplitl [Hw]; · iexact Hw
  isplitr; · iexact HR
  iexact Hl

theorem step_signal1 (c : Dev nD) {d : Dev nD} (hd : d = sh 1 c)
    {k : PUnit → Prog (TpuEff nD τ sig (Elt F) Λ₀ .tc) α} {Q : α → sProp 𝕄} :
    iprop(P0 xs ws c 1 ∗ barPay (F := F) (sh 1 c) false)
      ⊢ iprop((P0 xs ws c 2 -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (Dev.tc d) barS 1) k) Q) := by
  subst hd
  unfold P0
  iintro ⟨⟨⟨%W, HO⟩, Ht, Hs, Hw, #HR, #Hl⟩, HB⟩ Hk
  ihave HR' := (show recs xs ws ⊢ iprop(∃ K, recsK xs ws K) from .rfl) $$ HR
  icases HR' with ⟨%K, #HK⟩
  ihave Ht := (show btoks (F := F) c 1 ⊢ dutyTok ER (barCell (sh 1 c)) 0 false from .rfl) $$ Ht
  iapply (Rounds.wp_signal 𝒱₀ ER (Rd xs ws) (c : Thread nD τ) none (dst := (sh 1 c : Thread nD τ)) (κ := K (sh 1 c, none)) (d := false)
      (by rw [Rd_duties xs ws (sh 1 c) none]; exact Finset.mem_univ _) (Rd_amount xs ws (sh 1 c) none 0 false) () (owed0 c 2) rfl) $$ [HO Ht HB]
  · isplitr; · iapply (recsK_inv xs ws K (sh 1 c) none); iexact HK
    isplitl [HO]; · iexact HO
    isplitl [Ht]; · iexact Ht
    isplitl [HB]; · rw [Rd_payload xs ws (sh 1 c) none]; unfold payOf; iexact HB
    iapply (recsK_reached xs ws K (sh 1 c) none); iexact HK
  iintro HO
  iapply Hk
  isplitl [HO]; · iexists W; iexact HO
  isplitr; · unfold btoks; iempintro
  isplitl [Hs]; · iexact Hs
  isplitl [Hw]; · iexact Hw
  isplitr; · iexact HR
  iexact Hl

theorem sFrom_zero : sFrom 0 = Finset.univ := by ext x; simp [mem_sFrom]
theorem sSent_zero (w : ℕ) : sSent 0 w = ∅ := by ext x; simp [mem_sSent]
theorem wFrom_zero : wFrom 0 = Finset.univ := by ext x; simp [mem_wFrom]
theorem wDone_zero : wDone 0 = ∅ := by ext x; simp [mem_wDone]

theorem toR_toL (Φ : Snd → sProp 𝕄) : bigSep Finset.univ Φ = iprop(bigSep toR Φ ∗ bigSep toL Φ) := by
  rw [BI.bigSep_filter_split Finset.univ (fun x => goesR x = true)]
  unfold toR toL
  simp only [Bool.not_eq_true]; rfl

/-- The entry handshake's wait: the memory the transfers write over is the device's to write over. -/
theorem step_bar (c : Dev nD)
    {k : PUnit → Prog (TpuEff nD τ sig (Elt F) Λ₀ .tc) α} {Q : α → sProp 𝕄} :
    P0 xs ws c 2
      ⊢ iprop((P xs ws c 0 1 -∗ fwd (F := F) (sh 1 c) -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS 2) k) Q) := by
  unfold P0
  rw [← wFrom_zero, show wFrom 0 = insert none (wFrom 1) from wFrom_step none, bigSep_ins (i := none) (s := wFrom 1) (wFrom_step_not none)]
  iintro ⟨⟨%W, HO⟩, -, Hs, ⟨Hx, Hw⟩, #HR, #Hl⟩ Hk
  ihave HR' := (show recs xs ws ⊢ iprop(∃ K, recsK xs ws K) from .rfl) $$ HR
  icases HR' with ⟨%K, #HK⟩
  ihave Hx' := (show wres (F := F) c none ⊢ iprop(atPos ER (cell c none) 0 ∅ 0 ∗ cred (tallyAt (cell c none) () 2)) from .rfl) $$ Hx
  icases Hx' with ⟨Hat, Hcr⟩
  ihave #HI := (recsK_inv xs ws K c none) $$ HK
  iapply (Rounds.wp_wait_rest_token 𝒱₀ ER (Rd xs ws) (c : Thread nD τ) none (κ := K (c, none))
      (wpE_semWait_eq 𝒱₀ (c : Thread nD τ) none Set.univ) (Set.mem_univ _) () (O := owed c 0) (W := W) (R := 0) (m := 0) (T := ∅)
      (by rw [Nat.zero_add, expect_none xs ws c])) $$ [Hcr HO Hat]
  · isplitr; · iexact HI
    isplitl [Hcr]; · iexact Hcr
    isplitl [HO]; · iexact HO
    isplitr; · iapply (mayWait_cell c none (by decide)); iexact Hl
    iexact Hat
  iintro ⟨HO, Hat, -, Hpay⟩
  ihave Hp := (Entails.of_eq (rest_none xs ws c)) $$ Hpay
  ihave Hp := (show iprop(barPay (F := F) c false ∗ barPay (F := F) c true)
    ⊢ iprop(((bigSep toL fun x => dmem (F := F) c x) ∗ fwd (F := F) (sh 1 c)) ∗ bigSep toR fun x => dmem (F := F) c x) from .rfl) $$ Hp
  icases Hp with ⟨⟨HL, Hf⟩, HRt⟩
  imod (Rounds.cell_close ER (Rd xs ws) (Set.mem_univ (K (c, none))) (fun h => h) (R := 0 + 1) (later xs ws c none)) $$ [Hat] with HzS
  · isplitr; · iexact HI
    iexact Hat
  iapply Hk $$ [HO Hs HL HRt Hw HzS] Hf
  unfold P
  rw [sFrom_zero, sSent_zero, show wDone 1 = insert none (wDone 0) from wDone_step none, bigSep_ins (i := none) (s := wDone 0) (wDone_step_not none), wDone_zero]
  isplitl [HO]; · iexists _; iexact HO
  isplitl [Hs HL HRt]
  · unfold sres
    rw [bigSep_sep', toR_toL (fun x => dmem (F := F) c x)]
    isplitl [Hs]; · iexact Hs
    isplitl [HRt] <;> iassumption
  isplitr; · rw [bigSep_empty]; iempintro
  isplitl [Hw]; · iexact Hw
  isplitl [HzS]
  · isplitl [HzS]; · unfold wz; iexact HzS
    rw [bigSep_empty]; iempintro
  isplitr; · iexact HR
  iexact Hl

end Cert.RingProof

end
-- ==== Proof.Start.lean ====
/-
The launch: the cells and tokens every device starts from, and what it gives back.
-/
module

public import proofs.«01_k».proof.Proof.Proto

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Conjunctions over the cells of a device -/

theorem univ_CI : (Finset.univ : Finset CI) = insert none (Finset.univ.map ⟨some, Option.some_injective (Bool × Snd)⟩) := by
  ext i; rcases i with _ | i <;> simp

theorem bigSep_CI (Φ : CI → sProp 𝕄) : bigSep Finset.univ Φ
    = iprop(Φ none ∗ (bigSep Finset.univ fun x => Φ (some (false, x))) ∗ bigSep Finset.univ fun x => Φ (some (true, x))) := by
  rw [univ_CI, bigSep_ins (by simp), bigSep_map, bigSep_univ_prod, bigSep_univ_eq_bigSepL [false, true] (by decide) (by decide)]
  rfl

/-- The kernel's own semaphores: both sides of each transfer. -/
abbrev osem : Bool × Snd → SemLoc sig := fun x => csem (some x)

theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = iprop((bigSep Finset.univ fun x => semVal (cell c (some (false, x))) 0) ∗ bigSep Finset.univ fun x => semVal (cell c (some (true, x))) 0) := by
  unfold Pipeline.ownSems0
  rw [bigSep_univ_prod, bigSep_univ_eq_bigSepL [false, true] (by decide) (by decide)]
  rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      = (bigSep Finset.univ fun i : CI => semVal (cell c i) 0 : sProp 𝕄) := by
  rw [ownSems0_eq, unscopedSems0_eq, bigSep_CI]
  have h1 : iprop(((bigSep Finset.univ fun x => semVal (cell c (some (false, x))) 0) ∗ bigSep Finset.univ fun x => semVal (cell c (some (true, x))) 0) ∗ semVal (cell c none) 0)
      ⊢ (iprop(semVal (cell c none) 0 ∗ (bigSep Finset.univ fun x => semVal (cell c (some (false, x))) 0) ∗ bigSep Finset.univ fun x => semVal (cell c (some (true, x))) 0) : sProp 𝕄) := by
    iintro ⟨⟨H1, H2⟩, H3⟩
    isplitl [H3]; · iexact H3
    isplitl [H1]; · iexact H1
    iexact H2
  have h2 : (iprop(semVal (cell c none) 0 ∗ (bigSep Finset.univ fun x => semVal (cell c (some (false, x))) 0) ∗ bigSep Finset.univ fun x => semVal (cell c (some (true, x))) 0) : sProp 𝕄)
      ⊢ iprop(((bigSep Finset.univ fun x => semVal (cell c (some (false, x))) 0) ∗ bigSep Finset.univ fun x => semVal (cell c (some (true, x))) 0) ∗ semVal (cell c none) 0) := by
    iintro ⟨H3, H1, H2⟩
    isplitr [H3]
    · isplitl [H1]; · iexact H1
      iexact H2
    iexact H3
  exact BI.Entails.antisymm h1 h2

/-! ## What is minted -/

def rCells : Finset (GSem nD τ sig) := Finset.univ.map ⟨fun ci : Dev nD × CI => cell ci.1 ci.2, cell_injective⟩

/-- The token of a duty of one cell of one device. -/
abbrev tokOf (t : Dev nD × CI × Bool) : GSem nD τ sig × ℕ × Bool := (cell t.1 t.2.1, 0, t.2.2)
theorem tokOf_injective : Function.Injective tokOf := by
  rintro ⟨c, i, b⟩ ⟨c', i', b'⟩ h
  have h1 := cell_injective (a₁ := (c, i)) (a₂ := (c', i')) (congrArg Prod.fst h)
  have h2 : b = b' := congrArg (fun y : GSem nD τ sig × ℕ × Bool => y.2.2) h
  cases h1; rw [h2]
def rToks : Finset (GSem nD τ sig × ℕ × Bool) := Finset.univ.map ⟨tokOf, tokOf_injective⟩

def u₀ : UU := (initOf (Pipeline.cells cfgs cellOf_inj) (Pipeline.launchToks cfgs cellOf_inj), initOf rCells rToks)

/-- The tokens of a device's own cells; -/
def toks (c : Dev nD) : sProp 𝕄 :=
  iprop(dutyTok ER (barCell c) 0 false ∗ dutyTok ER (barCell c) 0 true ∗ (bigSep Finset.univ fun x => dutyTok ER (sCell c x) 0 false)
    ∗ bigSep Finset.univ fun x => dutyTok ER (rCell c x) 0 false)
/-- the tokens it spends. -/
def payToks (c : Dev nD) : sProp 𝕄 := iprop(btoks (F := F) c 0 ∗ bigSep Finset.univ fun x => stoks (F := F) c x)

variable (xs : Dev nD → Vec F S4096x1024 .bf16) (ws : Dev nD → Vec F S1024x2048 .bf16)

/-- A device's share of what is minted. -/
def G (c : Dev nD) : sProp 𝕄 :=
  iprop((bigSep Finset.univ fun i : CI => roundState ER (Rd xs ws) (cell c i) 0)
    ∗ (bigSep Finset.univ fun i : CI => iprop(atPos ER (cell c i) 0 ∅ 0 ∗ reached ER (cell c i) 0)) ∗ toks (F := F) c)

/-- What it has once every cell's invariant is in place. -/
def G' (c : Dev nD) : sProp 𝕄 := iprop(recs xs ws ∗ (bigSep Finset.univ fun i : CI => atPos ER (cell c i) 0 ∅ 0) ∗ payToks (F := F) c)

theorem toks_mint (c : Dev nD) : (bigSep Finset.univ fun t : CI × Bool => dutyTok ER (cell c t.1) 0 t.2 : sProp 𝕄) ⊢ toks (F := F) c := by
  rw [bigSep_univ_prod (fun t : CI × Bool => (dutyTok ER (cell c t.1) 0 t.2 : sProp 𝕄)), bigSep_CI]
  have h2 (i : CI) : (bigSep Finset.univ fun b : Bool => dutyTok ER (cell c i) 0 b : sProp 𝕄)
      = iprop(dutyTok ER (cell c i) 0 false ∗ dutyTok ER (cell c i) 0 true) := by
    rw [bigSep_univ_eq_bigSepL [false, true] (by decide) (by decide)]; rfl
  have h3 (b : Bool) : (bigSep Finset.univ fun x : Snd => bigSep Finset.univ fun d : Bool => dutyTok ER (cell c (some (b, x))) 0 d : sProp 𝕄)
      ⊢ bigSep Finset.univ fun x : Snd => dutyTok ER (cell c (some (b, x))) 0 false :=
    bigSep_mono fun x _ => by
      have h : (bigSep Finset.univ fun d : Bool => dutyTok ER (cell c (some (b, x))) 0 d : sProp 𝕄) ⊢ dutyTok ER (cell c (some (b, x))) 0 false := by
        rw [h2]; iintro ⟨H, -⟩; iexact H
      exact h
  unfold toks
  rw [h2 none]
  iintro ⟨⟨H1, H2⟩, H3, H4⟩
  isplitl [H1]; · iexact H1
  isplitl [H2]; · iexact H2
  isplitl [H3]; · iapply (h3 false) $$ H3
  iapply (h3 true) $$ H4

theorem fund_cells : BI.own (ER (initOf rCells rToks)) ⊢ (|==> bigSep Finset.univ (G xs ws) : sProp 𝕄) := by
  have hX (Φ : GSem nD τ sig → sProp 𝕄) : bigSep rCells Φ = bigSep Finset.univ fun c : Dev nD => bigSep Finset.univ fun i : CI => Φ (cell c i) := by
    unfold rCells; rw [bigSep_map, bigSep_univ_prod]; rfl
  have hT : bigSep rToks (fun x => (dutyTok ER x.1 x.2.1 x.2.2 : sProp 𝕄)) ⊢ bigSep Finset.univ fun c : Dev nD => toks (F := F) c := by
    unfold rToks; rw [bigSep_map, bigSep_univ_prod]
    exact bigSep_mono fun c _ => toks_mint c
  iintro HX
  imod (Rounds.fund ER (Rd xs ws) rCells rToks) $$ HX with ⟨Hst, Hr, Hat, Htok⟩
  imodintro
  ihave Hst' := (Entails.of_eq (hX fun g => roundState ER (Rd xs ws) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

theorem dev_alloc (c : Dev nD) :
    iprop(Pipeline.ownSems0 (Ix := Unit) (Name := ℕ) (U := UU) (Lvl := ℕ) (Val := Elt F) (τ := τ) osem c ∗ unscopedSems0 c ∗ G xs ws c)
      ⊢ |={Set.univ}=> iprop((bigSep Finset.univ fun i => iprop(∃ κ : ℕ, cellInv ER (Rd xs ws) κ (cell c i)))
          ∗ (bigSep Finset.univ fun i => iprop(atPos ER (cell c i) 0 ∅ 0 ∗ reached ER (cell c i) 0)) ∗ toks (F := F) c) := by
  unfold G
  iintro ⟨Hos, Hus, Hst, Hat, Htok⟩
  ihave Hv := (Entails.of_eq (sems0_eq (F := F) c)) $$ [Hos Hus]
  · isplitl [Hos] <;> iassumption
  imod (show iprop((bigSep Finset.univ fun i : CI => semVal (cell c i) 0) ∗ bigSep Finset.univ fun i : CI => roundState ER (Rd xs ws) (cell c i) 0)
      ⊢ (|={Set.univ}=> bigSep Finset.univ fun i => iprop(∃ κ : ℕ, cellInv ER (Rd xs ws) κ (cell c i)) : sProp 𝕄) from by
        rw [← bigSep_sep']
        exact (bigSep_mono fun i _ => (Rounds.body_intro ER (Rd xs ws) (cell c i)).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens go to the devices that spend them -/

theorem tgt_injective (x : Snd) : Function.Injective fun c => tgt c x := by revert x; decide
def tgtE (x : Snd) : Dev nD ≃ Dev nD := Equiv.ofBijective _ (Finite.injective_iff_bijective.mp (tgt_injective x))
theorem sh_injective (k : ℕ) (hk : k = 1 ∨ k = 3) : Function.Injective (sh k) := by rcases hk with rfl | rfl <;> decide
def shE (k : ℕ) (hk : k = 1 ∨ k = 3) : Dev nD ≃ Dev nD := Equiv.ofBijective _ (Finite.injective_iff_bijective.mp (sh_injective k hk))

theorem recv_around : (bigSep Finset.univ fun c : Dev nD => bigSep Finset.univ fun x : Snd => (dutyTok ER (rCell c x) 0 false : sProp 𝕄))
    = bigSep Finset.univ fun c : Dev nD => bigSep Finset.univ fun x : Snd => dutyTok ER (rCell (tgt c x) x) 0 false := by
  rw [← bigSep_univ_prod (fun cx : Dev nD × Snd => (dutyTok ER (rCell cx.1 cx.2) 0 false : sProp 𝕄)),
    ← bigSep_univ_prod (fun cx : Dev nD × Snd => (dutyTok ER (rCell (tgt cx.1 cx.2) cx.2) 0 false : sProp 𝕄)),
    bigSep_univ_equiv (Equiv.prodCongrLeft tgtE) (fun cx : Dev nD × Snd => (dutyTok ER (rCell cx.1 cx.2) 0 false : sProp 𝕄))]
  rfl

theorem toks_around : (bigSep Finset.univ fun c : Dev nD => toks (F := F) c) ⊢ bigSep Finset.univ fun c : Dev nD => payToks (F := F) c := by
  unfold toks payToks btoks stoks
  simp only [bigSep_sep']
  rw [recv_around, bigSep_univ_equiv (shE 1 (Or.inl rfl)) (fun c : Dev nD => (dutyTok ER (barCell c) 0 false : sProp 𝕄)),
    bigSep_univ_equiv (shE 3 (Or.inr rfl)) (fun c : Dev nD => (dutyTok ER (barCell c) 0 true : sProp 𝕄))]
  iintro ⟨H1, H2, H3, H4⟩
  isplitl [H1 H2]
  · isplitl [H2]; · iexact H2
    iexact H1
  isplitl [H3]; · iexact H3
  iexact H4

theorem bigSep_persist {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i => iprop(∃ κ : ℕ, cellInv ER (Rd xs ws) κ (cell c i)))
          ∗ (bigSep Finset.univ fun i => iprop(atPos ER (cell c i) 0 ∅ 0 ∗ reached ER (cell c i) 0)) ∗ toks (F := F) c) : sProp 𝕄)
      ⊢ bigSep Finset.univ (G' xs ws) := by
  rw [bigSep_sep', bigSep_sep', ← bigSep_univ_prod (fun ci : Dev nD × CI => iprop(∃ κ : ℕ, cellInv ER (Rd xs ws) κ (cell ci.1 ci.2))),
    bigSep_congr (s := Finset.univ) (fun (c : Dev nD) _ => bigSep_sep' Finset.univ (fun i : CI => (atPos ER (cell c i) 0 ∅ 0 : sProp 𝕄)) (fun i => reached ER (cell c i) 0)),
    bigSep_sep', ← bigSep_univ_prod (fun ci : Dev nD × CI => (reached ER (cell ci.1 ci.2) 0 : sProp 𝕄))]
  iintro ⟨HI, ⟨Hat, #HR⟩, Htok⟩
  ihave HK := (BI.bigSep_exists_pi Finset.univ (fun (ci : Dev nD × CI) (κ : ℕ) => (cellInv ER (Rd xs ws) κ (cell ci.1 ci.2) : sProp 𝕄))) $$ HI
  icases HK with ⟨%K, #HI⟩
  ihave Htk := (toks_around (F := F)) $$ Htok
  iapply (bigSep_persist (R := recs xs ws) (Φ := fun c : Dev nD => iprop((bigSep Finset.univ fun i : CI => (atPos ER (cell c i) 0 ∅ 0 : sProp 𝕄)) ∗ payToks (F := F) c)) fun c _ => (by
    unfold G'; exact BIBase.Entails.of_eq rfl))
  isplitr
  · unfold recs recsK; iexists K
    isplitl; · iexact HI
    iexact HR
  · rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G xs ws c) : sProp 𝕄)
    ⊢ |={Set.univ}=> bigSep Finset.univ (G' xs ws) :=
  ((bigSep_mono fun c _ => dev_alloc xs ws c).trans (bigSep_fupd _ _)).trans (BI.fupd_mono (regroup xs ws))

/-! ## The credit the devices' debts give -/

theorem creds (c : Dev nD) : (Pipeline.launchCred (fun d => owed0 d 0) c : sProp 𝕄)
    ⊢ iprop(cred (tallyAt (barCell c) () 2) ∗ bigSep Finset.univ fun x : Snd => cred (tallyAt (rCell c x) () (amt x))) := by
  have h1 : (Pipeline.launchCred (fun d => tallyAt (barCell (sh 1 d)) () 1) c : sProp 𝕄) ⊢ cred (tallyAt (barCell c) () 1) :=
    Pipeline.launchCred_tallyAt (csem none) (sh 1) (shE 1 (Or.inl rfl)).symm (fun d => (shE 1 (Or.inl rfl)).apply_symm_apply d) (fun d => (shE 1 (Or.inl rfl)).symm_apply_apply d) () 1 c
  have h3 : (Pipeline.launchCred (fun d => tallyAt (barCell (sh 3 d)) () 1) c : sProp 𝕄) ⊢ cred (tallyAt (barCell c) () 1) :=
    Pipeline.launchCred_tallyAt (csem none) (sh 3) (shE 3 (Or.inr rfl)).symm (fun d => (shE 3 (Or.inr rfl)).apply_symm_apply d) (fun d => (shE 3 (Or.inr rfl)).symm_apply_apply d) () 1 c
  have hx : (Pipeline.launchCred (fun d => owed d 0) c : sProp 𝕄) ⊢ bigSep Finset.univ fun x : Snd => cred (tallyAt (rCell c x) () (amt x)) := by
    unfold owed
    rw [Pipeline.launchCred_sum, sFrom_zero]
    exact bigSep_mono fun x _ => Pipeline.launchCred_tallyAt (csem (some (true, x))) (fun d => tgt d x) (tgtE x).symm
      (fun d => (tgtE x).apply_symm_apply d) (fun d => (tgtE x).symm_apply_apply d) () (amt x) c
  have h2 : iprop(cred (tallyAt (barCell c) () 1) ∗ cred (tallyAt (barCell c) () 1)) ⊢ (cred (tallyAt (barCell c) () 2) : sProp 𝕄) := by
    have e : (tallyAt (barCell c) () 2 : CellTallies nD τ sig Unit) = tallyAt (barCell c) () 1 + tallyAt (barCell c) () 1 := by
      unfold tallyAt; rw [← tallyOn_add, ← Finsupp.single_add]
    rw [e]; exact (cred_add _ _).2
  rw [show (fun d => owed0 d 0) = (fun d : Dev nD => (owed d 0 + tallyAt (barCell (sh 1 d)) () 1) + tallyAt (barCell (sh 3 d)) () 1) from rfl,
    Pipeline.launchCred_add, Pipeline.launchCred_add]
  iintro ⟨⟨Hx, H1⟩, H3⟩
  ihave Hx := hx $$ Hx
  ihave H1 := h1 $$ H1
  ihave H3 := h3 $$ H3
  isplitl [H1 H3]
  · iapply h2
    isplitl [H1]; · iexact H1
    iexact H3
  iexact Hx

/-! ## Where a device starts and ends -/

/-- What a device holds at the start, its debt apart. -/
def start (c : Dev nD) : sProp 𝕄 :=
  iprop(payToks (F := F) c ∗ (bigSep Finset.univ fun i => wres (F := F) c i) ∗ recs xs ws ∗ levAts L lv)

theorem start_intro (c : Dev nD) : iprop(levAts L lv ∗ Pipeline.launchCred (fun d => owed0 d 0) c ∗ G' xs ws c) ⊢ start xs ws c := by
  unfold start G'
  rw [bigSep_CI, bigSep_CI]
  have hr : (bigSep Finset.univ fun x : Snd => wres (F := F) c (some (true, x)))
      = iprop((bigSep Finset.univ fun x : Snd => atPos ER (cell c (some (true, x))) 0 ∅ 0) ∗ bigSep Finset.univ fun x : Snd => cred (tallyAt (rCell c x) () (amt x))) :=
    bigSep_sep' Finset.univ _ _
  rw [hr]
  iintro ⟨Hl, Hc, #HR, ⟨Ha, Hs, Hr⟩, Ht⟩
  ihave Hc := (creds (F := F) c) $$ Hc
  icases Hc with ⟨Hb, Hx⟩
  isplitl [Ht]; · iexact Ht
  isplitr [Hl]
  · isplitl [Ha Hb]
    · iapply (show iprop(atPos ER (cell c none) 0 ∅ 0 ∗ cred (tallyAt (cell c none) () 2)) ⊢ wres (F := F) c none from .rfl)
      isplitl [Ha]; · iexact Ha
      iexact Hb
    isplitl [Hs]
    · iapply (show (bigSep Finset.univ fun x : Snd => atPos ER (cell c (some (false, x))) 0 ∅ 0 : sProp 𝕄) ⊢ bigSep Finset.univ fun x : Snd => wres (F := F) c (some (false, x)) from .rfl) $$ Hs
    isplitl [Hr]; · iexact Hr
    iexact Hx
  isplitr; · iexact HR
  iexact Hl

theorem P0_intro (c : Dev nD) (W : Waits sig Unit) : iprop(start xs ws c ∗ owes (c : Thread nD τ) (owed0 c 0) W) ⊢ P0 xs ws c 0 := by
  unfold start payToks P0
  iintro ⟨⟨⟨Hb, Hs⟩, Hw, #HR, Hl⟩, HO⟩
  isplitl [HO]; · iexists W; iexact HO
  isplitl [Hb]; · iexact Hb
  isplitl [Hs]; · iexact Hs
  isplitl [Hw]; · iexact Hw
  isplitr; · iexact HR
  iexact Hl

theorem sOrd_lt (x : Snd) : sOrd x < 27 := by revert x; decide
theorem wOrd_lt (i : CI) : wOrd i < 55 := by revert i; decide

theorem owed_end (c : Dev nD) : owed c 27 = 0 := by
  unfold owed
  rw [show sFrom 27 = ∅ from Finset.eq_empty_of_forall_notMem fun x h => absurd (mem_sFrom.mp h) (Nat.not_le.mpr (sOrd_lt x)), Finset.sum_empty]

theorem P_end (c : Dev nD) : P xs ws c 27 55 ⊢ iprop((∃ W, owes (c : Thread nD τ) 0 W) ∗ bigSep Finset.univ fun i : CI => semVal (cell c i) 0) := by
  unfold P
  rw [owed_end, show wDone 55 = Finset.univ from Finset.eq_univ_iff_forall.mpr fun i => mem_wDone.mpr (wOrd_lt i)]
  iintro ⟨HO, -, -, -, Hz, -, -⟩
  isplitl [HO]; · iexact HO
  iapply (show (bigSep Finset.univ fun i => wz (F := F) c i) ⊢ bigSep Finset.univ fun i : CI => semVal (cell c i) 0 from .rfl) $$ Hz

end Cert.RingProof
-- ==== Proof.Steps.lean ====
/-
One step of the kernel at a time, on blocks: a load, a store, a transfer of each kind.
-/
module

public import proofs.«01_k».proof.Proof.Proto

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → Vec F S4096x1024 .bf16) (ws : Dev nD → Vec F S1024x2048 .bf16)

theorem sh_next (hf : Fin 2) (h : Fin 3) (c : Dev nD) : sh (st hf * (h.val + 1) % 4) (dn hf c) = sh (st hf * h.val % 4) c := by
  revert hf h c; decide

theorem sh_peer (kk : Fin 3) (c : Dev nD) : sh (3 - kk.val) (sh (kk.val + 1) c) = c := by
  revert kk c; decide

theorem lvS_pos : ∀ y, 0 < lvS y := by decide

/-! ## Memrefs owned at a reading -/

theorem owns_to_read (c : Dev nD) {sp : Space} {s : Shape} {e : EltTy} (m : Memref sig .tc sp s e) (q : PosShare TreeShare)
    {X : s.Idx → Elt F e} {f : Buf (Elt F) (m.view.loc (c : Thread nD τ))} (hf : m.view.read (Elt F) f = X) :
    (owns (c : Thread nD τ) m q X : sProp 𝕄) ⊢ (m.view.loc (c : Thread nD τ) ↦[m.view.set]{q} f) := by
  subst hf
  iintro H
  ihave H := (show owns (c : Thread nD τ) m q (m.view.read (Elt F) f) ⊢ (iprop(∃ g, ⌜m.view.read (Elt F) g = m.view.read (Elt F) f⌝ ∗ (m.view.loc (c : Thread nD τ) ↦[m.view.set]{q} g)) : sProp 𝕄) from .rfl) $$ H
  icases H with ⟨%g, %hg, H⟩
  rw [show (m.view.loc (c : Thread nD τ) ↦[m.view.set]{q} f : sProp 𝕄) = (m.view.loc (c : Thread nD τ) ↦[m.view.set]{q} g) from pointsTo_congr fun i hi => by
    obtain ⟨j, -, rfl⟩ := Finset.mem_map.mp hi
    have := congrFun hg j
    simp only [View.read] at this
    exact ((cast_inj _).mp this).symm]
  iexact H

/-- Owning a memref at a reading is its points-to at any contents read so. -/
theorem owns_eq_of_read (c : Dev nD) {sp : Space} {s : Shape} {e : EltTy} (m : Memref sig .tc sp s e) (q : PosShare TreeShare)
    {X : s.Idx → Elt F e} {f : Buf (Elt F) (m.view.loc (c : Thread nD τ))} (hf : m.view.read (Elt F) f = X) :
    (owns (c : Thread nD τ) m q X : sProp 𝕄) = (m.view.loc (c : Thread nD τ) ↦[m.view.set]{q} f) :=
  BI.equiv_iff.mp ⟨owns_to_read c m q hf, by subst hf; exact owns_intro (c : Thread nD τ) m q f⟩

/-- Two halves of a share are the share. -/
theorem owns_halves (c : Dev nD) {sp : Space} {s : Shape} {e : EltTy} (m : Memref sig .tc sp s e) (q : PosShare TreeShare) (X : s.Idx → Elt F e) :
    (owns (c : Thread nD τ) m q X : sProp 𝕄) ⊣⊢ iprop(owns (c : Thread nD τ) m q.left X ∗ owns (c : Thread nD τ) m q.right X) := by
  constructor
  · iintro H
    ihave H := (show owns (c : Thread nD τ) m q X ⊢ (iprop(∃ f, ⌜m.view.read (Elt F) f = X⌝ ∗ (m.view.loc (c : Thread nD τ) ↦[m.view.set]{q} f)) : sProp 𝕄) from .rfl) $$ H
    icases H with ⟨%f, %hf, H⟩
    rw [owns_eq_of_read c m q.left hf, owns_eq_of_read c m q.right hf]
    iapply (pointsTo_share (PosShare.mem_left_op_right q)).1; iexact H
  · iintro ⟨H, H'⟩
    ihave H := (show owns (c : Thread nD τ) m q.left X ⊢ (iprop(∃ f, ⌜m.view.read (Elt F) f = X⌝ ∗ (m.view.loc (c : Thread nD τ) ↦[m.view.set]{q.left} f)) : sProp 𝕄) from .rfl) $$ H
    icases H with ⟨%f, %hf, H⟩
    ihave H' := (owns_to_read c m q.right hf) $$ H'
    iapply (show (iprop((m.view.loc (c : Thread nD τ) ↦[m.view.set]{q.left} f) ∗ (m.view.loc (c : Thread nD τ) ↦[m.view.set]{q.right} f)) : sProp 𝕄)
      ⊢ owns (c : Thread nD τ) m q X from owns_eq_of_read c m q hf ▸ (pointsTo_share (PosShare.mem_left_op_right q)).2) $$ [H H']
    isplitl [H]
    · iexact H
    · iexact H'

/-! ## Loads and stores -/

theorem load_slice (c : Dev nD) {cs : CoreSpace} {s : Shape} {e : EltTy} {m : Memref sig .tc cs s e} {r : Rect s} (hr : ∀ a, r.stride a = 1)
    {hl : m.view.LoadsAt r.toLoadRect} {q : PosShare TreeShare} {X : r.shape.Idx → Elt F e}
    {k : (r.shape.Idx → Elt F e) → Prog (TpuEff nD τ sig (Elt F) Λ₀ .tc) α} {Q : α → sProp 𝕄} :
    (owns (c : Thread nD τ) (m.slice r hr) q X : sProp 𝕄)
      ⊢ iprop((owns (c : Thread nD τ) (m.slice r hr) q X -∗ wp frame (wpE (defs₀ (F := F)) 𝒱₀ (c : Thread nD τ) none) Set.univ (k X) Q) -∗ wp frame (wpE (defs₀ (F := F)) 𝒱₀ (c : Thread nD τ) none) Set.univ (.op (.load m r.toLoadRect hl) k) Q) := by
  iintro H Hk
  ihave H := (show owns (c : Thread nD τ) (m.slice r hr) q X ⊢ (iprop(∃ f, ⌜(m.slice r hr).view.read (Elt F) f = X⌝ ∗ ((m.slice r hr).view.loc (c : Thread nD τ) ↦[(m.slice r hr).view.set]{q} f)) : sProp 𝕄) from .rfl) $$ H
  icases H with ⟨%f, %hf, H⟩
  iapply (wp_load_rect 𝒱₀ (c : Thread nD τ) none Set.univ (m := m) (r := r) (S := (m.access r).set) (q := q) (f := f) (Finset.Subset.refl _)) $$ H
  iintro H
  rw [show (m.access r).read (Elt F) f = X from hf]
  iapply Hk
  rw [owns_eq_of_read c (m.slice r hr) q hf]
  iexact H

theorem store_slice (c : Dev nD) {cs : CoreSpace} {s : Shape} {e : EltTy} {m : Memref sig .tc cs s e} {r : Rect s} (hr : ∀ a, r.stride a = 1)
    {X Y : r.shape.Idx → Elt F e} {hx : (m.access r).Stores Finset.univ} {hm : _}
    {k : PUnit → Prog (TpuEff nD τ sig (Elt F) Λ₀ .tc) α} {Q : α → sProp 𝕄} :
    (owns (c : Thread nD τ) (m.slice r hr) fullShare X : sProp 𝕄)
      ⊢ iprop((owns (c : Thread nD τ) (m.slice r hr) fullShare Y -∗ wp frame (wpE (defs₀ (F := F)) 𝒱₀ (c : Thread nD τ) none) Set.univ (k ⟨⟩) Q) -∗ wp frame (wpE (defs₀ (F := F)) 𝒱₀ (c : Thread nD τ) none) Set.univ (.op (.store m r Y Finset.univ hx hm) k) Q) := by
  iintro H Hk
  ihave H := (show owns (c : Thread nD τ) (m.slice r hr) fullShare X ⊢ (iprop(∃ f, ⌜(m.slice r hr).view.read (Elt F) f = X⌝ ∗ ((m.slice r hr).view.loc (c : Thread nD τ) ↦[(m.slice r hr).view.set]{fullShare} f)) : sProp 𝕄) from .rfl) $$ H
  icases H with ⟨%f, %hf, H⟩
  iapply (wp_store 𝒱₀ (c : Thread nD τ) none Set.univ (m := m) (r := r) (Mk := Finset.univ) (S := (m.access r).set) (f := f) (Finset.Subset.refl _)) $$ H
  iintro H
  iapply Hk
  rw [owns_eq_of_read c (m.slice r hr) fullShare (f := (m.access r).write (Elt F) f Y Finset.univ) (View.read_write_univ _ _)]
  iexact H

/-- A load of rows of the first operand; -/
theorem ld_x (c d : Dev nD) (hf s : Fin 2) {X : Vec F S4096x1024 .bf16} {off : Fin 2 → ℕ} {inb} (ho : off = xoff d hf s)
    {hl : _} {k : _ → Prog (TpuEff nD τ sig (Elt F) Λ₀ .tc) α} {Q : α → sProp 𝕄} :
    xB c X ⊢ iprop((xB c X -∗ wp frame (wpE (defs₀ (F := F)) 𝒱₀ (c : Thread nD τ) none) Set.univ (k (slab X d hf s)) Q)
        -∗ wp frame (wpE (defs₀ (F := F)) 𝒱₀ (c : Thread nD τ) none) Set.univ (.op (.load xM (Rect.unit (s := S4096x1024) off S256x1024.size inb).toLoadRect hl) k) Q) := by
  subst ho
  iintro H Hk
  ihave H := (show xB c X ⊢ (iprop(∃ f, ⌜xM.view.read (Elt F) f = X⌝ ∗ (xM.view.loc (c : Thread nD τ) ↦[xM.view.set]{fullShare} f)) : sProp 𝕄) from .rfl) $$ H
  icases H with ⟨%f, %hf, H⟩
  iapply (wp_load 𝒱₀ (c : Thread nD τ) none Set.univ (m := xM) (S := xM.view.set) (q := fullShare) (f := f) (by rw [View.set_whole]; exact Finset.subset_univ _)) $$ H
  iintro H
  rw [show xM.view.readAt (Elt F) (Rect.unit (s := S4096x1024) (xoff d _ s) S256x1024.size inb).toLoadRect f = slab X d _ s from by subst hf; rfl]
  iapply Hk
  unfold xB
  rw [owns_eq_of_read c xM fullShare hf]
  iexact H

theorem full_rect {s : Shape} (off : Fin s.rank → ℕ) (h0 : ∀ a, off a = 0) (inb) (j : s.Idx) : (Rect.unit (s := s) off s.size inb).toLoadRect.idx j = j := by
  funext a; apply Fin.ext
  show off a + 1 * (j a).val = (j a).val
  rw [h0 a]; omega

/-- of the second operand; -/
theorem ld_w (c : Dev nD) {X : Vec F S1024x2048 .bf16} {inb}
    {hl : _} {k : _ → Prog (TpuEff nD τ sig (Elt F) Λ₀ .tc) α} {Q : α → sProp 𝕄} :
    wB c X ⊢ iprop((wB c X -∗ wp frame (wpE (defs₀ (F := F)) 𝒱₀ (c : Thread nD τ) none) Set.univ (k X) Q)
        -∗ wp frame (wpE (defs₀ (F := F)) 𝒱₀ (c : Thread nD τ) none) Set.univ (.op (.load wM (Rect.unit (s := S1024x2048) ![0, 0] S1024x2048.size inb).toLoadRect hl) k) Q) := by
  iintro H Hk
  ihave H := (show wB c X ⊢ (iprop(∃ f, ⌜wM.view.read (Elt F) f = X⌝ ∗ (wM.view.loc (c : Thread nD τ) ↦[wM.view.set]{fullShare} f)) : sProp 𝕄) from .rfl) $$ H
  icases H with ⟨%f, %hf, H⟩
  iapply (wp_load 𝒱₀ (c : Thread nD τ) none Set.univ (m := wM) (S := wM.view.set) (q := fullShare) (f := f) (by rw [View.set_whole]; exact Finset.subset_univ _)) $$ H
  iintro H
  rw [show wM.view.readAt (Elt F) (Rect.unit (s := S1024x2048) ![0, 0] S1024x2048.size inb).toLoadRect f = X from by
    subst hf; funext j
    exact congrArg (wM.view.read (Elt F) f) (full_rect (s := S1024x2048) ![0, 0] (by intro a; fin_cases a <;> rfl) inb j)]
  iapply Hk
  unfold wB
  rw [owns_eq_of_read c wM fullShare hf]
  iexact H

/-- All the maxima, held at one reading. -/
def amB (c : Dev nD) (X : Vec F S4x8x128 .f32) : sProp 𝕄 := owns (c : Thread nD τ) aM fullShare X

/-- of all the maxima; -/
theorem ld_am (c : Dev nD) {X : Vec F S4x8x128 .f32} {inb}
    {hl : _} {k : _ → Prog (TpuEff nD τ sig (Elt F) Λ₀ .tc) α} {Q : α → sProp 𝕄} :
    amB c X ⊢ iprop((amB c X -∗ wp frame (wpE (defs₀ (F := F)) 𝒱₀ (c : Thread nD τ) none) Set.univ (k X) Q)
        -∗ wp frame (wpE (defs₀ (F := F)) 𝒱₀ (c : Thread nD τ) none) Set.univ (.op (.load aM (Rect.unit (s := S4x8x128) ![0, 0, 0] S4x8x128.size inb).toLoadRect hl) k) Q) := by
  iintro H Hk
  ihave H := (show amB c X ⊢ (iprop(∃ f, ⌜aM.view.read (Elt F) f = X⌝ ∗ (aM.view.loc (c : Thread nD τ) ↦[aM.view.set]{fullShare} f)) : sProp 𝕄) from .rfl) $$ H
  icases H with ⟨%f, %hf, H⟩
  iapply (wp_load 𝒱₀ (c : Thread nD τ) none Set.univ (m := aM) (S := aM.view.set) (q := fullShare) (f := f) (by rw [View.set_whole]; exact Finset.subset_univ _)) $$ H
  iintro H
  rw [show aM.view.readAt (Elt F) (Rect.unit (s := S4x8x128) ![0, 0, 0] S4x8x128.size inb).toLoadRect f = X from by
    subst hf; funext j
    exact congrArg (aM.view.read (Elt F) f) (full_rect (s := S4x8x128) ![0, 0, 0] (by intro a; fin_cases a <;> rfl) inb j)]
  iapply Hk
  unfold amB
  rw [owns_eq_of_read c aM fullShare hf]
  iexact H

/-- of a segment of the result; -/
theorem ld_o (c : Dev nD) (kk : ℕ) (hf s : Fin 2) {X : Vec F S256x2048 .bf16} {off : Fin 2 → ℕ} {inb} (ho : off = xoff (sh kk c) hf s)
    {hl : _} {k : _ → Prog (TpuEff nD τ sig (Elt F) Λ₀ .tc) α} {Q : α → sProp 𝕄} :
    oB c kk hf s X ⊢ iprop((oB c kk hf s X -∗ wp frame (wpE (defs₀ (F := F)) 𝒱₀ (c : Thread nD τ) none) Set.univ (k X) Q)
        -∗ wp frame (wpE (defs₀ (F := F)) 𝒱₀ (c : Thread nD τ) none) Set.univ (.op (.load oM (Rect.unit (s := S4096x2048) off S256x2048.size inb).toLoadRect hl) k) Q) := by
  subst ho
  exact load_slice (F := F) c (m := oM) (r := Rect.unit (s := S4096x2048) _ S256x2048.size inb) (fun _ => rfl)

/-- A store there. -/
theorem st_o (c : Dev nD) (kk : ℕ) (hf s : Fin 2) {X Y : Vec F S256x2048 .bf16} {off : Fin 2 → ℕ} {inb} (ho : off = xoff (sh kk c) hf s)
    {V : Vec F S256x2048 .bf16} (hV : V = Y) {hx : _} {hm' : _} {k : PUnit → Prog (TpuEff nD τ sig (Elt F) Λ₀ .tc) α} {Q : α → sProp 𝕄} :
    oB c kk hf s X ⊢ iprop((oB c kk hf s Y -∗ wp frame (wpE (defs₀ (F := F)) 𝒱₀ (c : Thread nD τ) none) Set.univ (k ⟨⟩) Q)
        -∗ wp frame (wpE (defs₀ (F := F)) 𝒱₀ (c : Thread nD τ) none) Set.univ (.op (.store oM (Rect.unit (s := S4096x2048) off S256x2048.size inb) V Finset.univ hx hm') k) Q) := by
  subst ho hV
  exact store_slice (F := F) c (m := oM) (r := Rect.unit (s := S4096x2048) _ S256x2048.size inb) (fun _ => rfl)

/-- of a quantised segment; -/
theorem ld_q (c : Dev nD) (kk : ℕ) (hf s : Fin 2) {q : PosShare TreeShare} {X : Vec F S256x2048 .i8} {off : Fin 2 → ℕ} {inb} (ho : off = xoff (sh kk c) hf s)
    {hl : _} {k : _ → Prog (TpuEff nD τ sig (Elt F) Λ₀ .tc) α} {Q : α → sProp 𝕄} :
    qB c kk hf s q X ⊢ iprop((qB c kk hf s q X -∗ wp frame (wpE (defs₀ (F := F)) 𝒱₀ (c : Thread nD τ) none) Set.univ (k X) Q)
        -∗ wp frame (wpE (defs₀ (F := F)) 𝒱₀ (c : Thread nD τ) none) Set.univ (.op (.load qM (Rect.unit (s := S4096x2048) off S256x2048.size inb).toLoadRect hl) k) Q) := by
  subst ho
  exact load_slice (F := F) c (m := qM) (r := Rect.unit (s := S4096x2048) _ S256x2048.size inb) (fun _ => rfl)

/-- A store there. -/
theorem st_q (c : Dev nD) (kk : ℕ) (hf s : Fin 2) {X Y : Vec F S256x2048 .i8} {off : Fin 2 → ℕ} {inb} (ho : off = xoff (sh kk c) hf s)
    {V : Vec F S256x2048 .i8} (hV : V = Y) {hx : _} {hm' : _} {k : PUnit → Prog (TpuEff nD τ sig (Elt F) Λ₀ .tc) α} {Q : α → sProp 𝕄} :
    qB c kk hf s fullShare X ⊢ iprop((qB c kk hf s fullShare Y -∗ wp frame (wpE (defs₀ (F := F)) 𝒱₀ (c : Thread nD τ) none) Set.univ (k ⟨⟩) Q)
        -∗ wp frame (wpE (defs₀ (F := F)) 𝒱₀ (c : Thread nD τ) none) Set.univ (.op (.store qM (Rect.unit (s := S4096x2048) off S256x2048.size inb) V Finset.univ hx hm') k) Q) := by
  subst ho hV
  exact store_slice (F := F) c (m := qM) (r := Rect.unit (s := S4096x2048) _ S256x2048.size inb) (fun _ => rfl)

/-- of a segment of a sending buffer; -/
theorem ld_s (c : Dev nD) (hf s : Fin 2) {X : Vec F S256x2048 .bf16} {m : Memref sig .tc .vmem S512x2048 .bf16} (hm : m = sM hf) {off : Fin 2 → ℕ} {inb} (ho : off = soff s)
    {hl : _} {k : _ → Prog (TpuEff nD τ sig (Elt F) Λ₀ .tc) α} {Q : α → sProp 𝕄} :
    sB c hf s X ⊢ iprop((sB c hf s X -∗ wp frame (wpE (defs₀ (F := F)) 𝒱₀ (c : Thread nD τ) none) Set.univ (k X) Q)
        -∗ wp frame (wpE (defs₀ (F := F)) 𝒱₀ (c : Thread nD τ) none) Set.univ (.op (.load m (Rect.unit (s := S512x2048) off S256x2048.size inb).toLoadRect hl) k) Q) := by
  subst hm ho
  exact load_slice (F := F) c (m := _) (r := Rect.unit (s := S512x2048) _ S256x2048.size inb) (fun _ => rfl)

/-- A store there. -/
theorem st_s (c : Dev nD) (hf s : Fin 2) {X Y : Vec F S256x2048 .bf16} {m : Memref sig .tc .vmem S512x2048 .bf16} (hm : m = sM hf) {off : Fin 2 → ℕ} {inb} (ho : off = soff s)
    {V : Vec F S256x2048 .bf16} (hV : V = Y) {hx : _} {hm' : _} {k : PUnit → Prog (TpuEff nD τ sig (Elt F) Λ₀ .tc) α} {Q : α → sProp 𝕄} :
    sB c hf s X ⊢ iprop((sB c hf s Y -∗ wp frame (wpE (defs₀ (F := F)) 𝒱₀ (c : Thread nD τ) none) Set.univ (k ⟨⟩) Q)
        -∗ wp frame (wpE (defs₀ (F := F)) 𝒱₀ (c : Thread nD τ) none) Set.univ (.op (.store m (Rect.unit (s := S512x2048) off S256x2048.size inb) V Finset.univ hx hm') k) Q) := by
  subst hm ho hV
  exact store_slice (F := F) c (m := _) (r := Rect.unit (s := S512x2048) _ S256x2048.size inb) (fun _ => rfl)

/-- of a segment of a partial product; -/
theorem ld_p (c : Dev nD) (hf s : Fin 2) {X : Vec F S256x2048 .bf16} {m : Memref sig .tc .vmem S512x2048 .bf16} (hm : m = pM hf) {off : Fin 2 → ℕ} {inb} (ho : off = soff s)
    {hl : _} {k : _ → Prog (TpuEff nD τ sig (Elt F) Λ₀ .tc) α} {Q : α → sProp 𝕄} :
    pB c hf s X ⊢ iprop((pB c hf s X -∗ wp frame (wpE (defs₀ (F := F)) 𝒱₀ (c : Thread nD τ) none) Set.univ (k X) Q)
        -∗ wp frame (wpE (defs₀ (F := F)) 𝒱₀ (c : Thread nD τ) none) Set.univ (.op (.load m (Rect.unit (s := S512x2048) off S256x2048.size inb).toLoadRect hl) k) Q) := by
  subst hm ho
  exact load_slice (F := F) c (m := _) (r := Rect.unit (s := S512x2048) _ S256x2048.size inb) (fun _ => rfl)

/-- A store there. -/
theorem st_p (c : Dev nD) (hf s : Fin 2) {X Y : Vec F S256x2048 .bf16} {m : Memref sig .tc .vmem S512x2048 .bf16} (hm : m = pM hf) {off : Fin 2 → ℕ} {inb} (ho : off = soff s)
    {V : Vec F S256x2048 .bf16} (hV : V = Y) {hx : _} {hm' : _} {k : PUnit → Prog (TpuEff nD τ sig (Elt F) Λ₀ .tc) α} {Q : α → sProp 𝕄} :
    pB c hf s X ⊢ iprop((pB c hf s Y -∗ wp frame (wpE (defs₀ (F := F)) 𝒱₀ (c : Thread nD τ) none) Set.univ (k ⟨⟩) Q)
        -∗ wp frame (wpE (defs₀ (F := F)) 𝒱₀ (c : Thread nD τ) none) Set.univ (.op (.store m (Rect.unit (s := S512x2048) off S256x2048.size inb) V Finset.univ hx hm') k) Q) := by
  subst hm ho hV
  exact store_slice (F := F) c (m := _) (r := Rect.unit (s := S512x2048) _ S256x2048.size inb) (fun _ => rfl)

/-- of a slot of maxima. -/
theorem ld_a (c : Dev nD) (kk : ℕ) {q : PosShare TreeShare} {X : Vec F S1x8x128 .f32} {off : Fin 3 → ℕ} {inb} (ho : off = aoff (sh kk c))
    {hl : _} {k : _ → Prog (TpuEff nD τ sig (Elt F) Λ₀ .tc) α} {Q : α → sProp 𝕄} :
    aB c kk q X ⊢ iprop((aB c kk q X -∗ wp frame (wpE (defs₀ (F := F)) 𝒱₀ (c : Thread nD τ) none) Set.univ (k X) Q)
        -∗ wp frame (wpE (defs₀ (F := F)) 𝒱₀ (c : Thread nD τ) none) Set.univ (.op (.load aM (Rect.unit (s := S4x8x128) off S1x8x128.size inb).toLoadRect hl) k) Q) := by
  subst ho
  exact load_slice (F := F) c (m := aM) (r := Rect.unit (s := S4x8x128) _ S1x8x128.size inb) (fun _ => rfl)

/-- A store there. -/
theorem st_a (c : Dev nD) (kk : ℕ) {X Y : Vec F S1x8x128 .f32} {off : Fin 3 → ℕ} {inb} (ho : off = aoff (sh kk c))
    {V : Vec F S1x8x128 .f32} (hV : V = Y) {hx : _} {hm' : _} {k : PUnit → Prog (TpuEff nD τ sig (Elt F) Λ₀ .tc) α} {Q : α → sProp 𝕄} :
    aB c kk fullShare X ⊢ iprop((aB c kk fullShare Y -∗ wp frame (wpE (defs₀ (F := F)) 𝒱₀ (c : Thread nD τ) none) Set.univ (k ⟨⟩) Q)
        -∗ wp frame (wpE (defs₀ (F := F)) 𝒱₀ (c : Thread nD τ) none) Set.univ (.op (.store aM (Rect.unit (s := S4x8x128) off S1x8x128.size inb) V Finset.univ hx hm') k) Q) := by
  subst ho hV
  exact store_slice (F := F) c (m := aM) (r := Rect.unit (s := S4x8x128) _ S1x8x128.size inb) (fun _ => rfl)

/-! ## Transfers -/

theorem amt_o {off : Fin 2 → ℕ} {inb} {hr : _} {sR : DmaSem sig} (hf : Fin 2) (h : Fin 3) (s : Fin 2) :
    (oM.slice (Rect.unit (s := S4096x2048) off S256x2048.size inb) hr).view.amount (.dma sR : SemLoc sig) = amt (.rs hf h s) := rfl
theorem amt_q {off : Fin 2 → ℕ} {inb} {hr : _} {sR : DmaSem sig} (hf : Fin 2) (h : Fin 3) (s : Fin 2) :
    (qM.slice (Rect.unit (s := S4096x2048) off S256x2048.size inb) hr).view.amount (.dma sR : SemLoc sig) = amt (.ag hf h s) := rfl
theorem amt_a {off : Fin 3 → ℕ} {inb} {hr : _} {sR : DmaSem sig} (kk : Fin 3) :
    ((aM.slice (Rect.unit (s := S4x8x128) off S1x8x128.size inb) hr).squeeze S8x128 squeezes_S1x8x128_S8x128).view.amount (.dma sR : SemLoc sig) = amt (.am kk) := rfl

/-- A transfer between blocks held at readings. -/
theorem send_owns (c : Dev nD) (x : Snd) {n w : ℕ} (hn : sOrd x = n) (hw : w ≤ wOrd (some (false, x)))
    {sp sp' : Space} {s : Shape} {e : EltTy} {src : Memref sig .tc sp s e} {dst : Memref sig .tc sp' s e}
    {sS sR : DmaSem sig} (hsS : sS = dnum false x) (hsR : sR = dnum true x) {d : Dev nD} (hd : d = tgt c x)
    {hsc : dst.view.ref.isScScratch = false} {hsrc : src.view.WordExact} {hdst : dst.view.WordExact}
    {hsem : DmaTarget.Typed sp (.dma sR : SemLoc sig) (.remote (Dev.tc d) dst (.dma sS) hsc)}
    {q : PosShare TreeShare} {X Y : s.Idx → Elt F e} {Fr : sProp 𝕄}
    (hN : dst.view.amount (.dma sR : SemLoc sig) = amt x)
    (h1 : (owns (c : Thread nD τ) src q X : sProp 𝕄) ⊢ sendPay xs ws c x)
    (h2 : iprop(owns (d : Thread nD τ) dst fullShare X ∗ Fr) ⊢ recvPay xs ws d x)
    {k : PUnit → Prog (TpuEff nD τ sig (Elt F) Λ₀ .tc) α} {Q : α → sProp 𝕄} :
    iprop(PS xs ws c x n w ∗ owns (c : Thread nD τ) src q X ∗ owns (d : Thread nD τ) dst fullShare Y ∗ Fr)
      ⊢ iprop((P xs ws c (n + 1) w -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma src (.remote (Dev.tc d) dst (.dma sS) hsc) (.dma sR) hsrc hdst hsem) k) Q) := by
  iintro ⟨HP, Hs, Hd, HF⟩ Hk
  ihave Hs := (show owns (c : Thread nD τ) src q X ⊢ (iprop(∃ f : Buf (Elt F) (src.view.loc (c : Thread nD τ)), ⌜src.view.read (Elt F) f = X⌝ ∗ (src.view.loc (c : Thread nD τ) ↦[src.view.set]{q} f)) : sProp 𝕄) from .rfl) $$ Hs
  icases Hs with ⟨%fs, %hfs, Hs⟩
  ihave Hd := (show owns (d : Thread nD τ) dst fullShare Y ⊢ (iprop(∃ f : Buf (Elt F) (dst.view.loc (d : Thread nD τ)), ⌜dst.view.read (Elt F) f = Y⌝ ∗ (dst.view.loc (d : Thread nD τ) ↦[dst.view.set]{fullShare} f)) : sProp 𝕄) from .rfl) $$ Hd
  icases Hd with ⟨%fd, %hfd, Hd⟩
  iapply (step_send xs ws c x hn hw hsS hsR hd (src := src) (dst := dst) (q := q) (fs := fs) (fd := fd) (Fr := Fr) hN
    (by rw [← owns_eq_of_read c src q hfs]; exact h1)
    (by rw [← owns_eq_of_read d dst fullShare ((View.read_write_univ _ _).trans hfs)]; exact h2)) $$ [HP Hs Hd HF]
  · isplitl [HP]; · iexact HP
    isplitl [Hs]; · iexact Hs
    isplitl [Hd]; · iexact Hd
    iexact HF
  iexact Hk

/-- The same block under another shape. -/
theorem owns_reshape (c : Dev nD) {sp : Space} {s s' : Shape} {e : EltTy} (m : Memref sig .tc sp s e) (h : s.Squeezes s') (q : PosShare TreeShare) (X : s.Idx → Elt F e) :
    (owns (c : Thread nD τ) (m.squeeze s' h) q (fun j => X (Shape.reshapeEquiv h.numel_eq j)) : sProp 𝕄) = owns (c : Thread nD τ) m q X := by
  refine BI.equiv_iff.mp ⟨?_, ?_⟩
  · show (owns (c : Thread nD τ) (m.squeeze s' h) q (fun j => X (Shape.reshapeEquiv h.numel_eq j)) : sProp 𝕄) ⊢ owns (c : Thread nD τ) m q X
    iintro H
    ihave H := (show owns (c : Thread nD τ) (m.squeeze s' h) q (fun j => X (Shape.reshapeEquiv h.numel_eq j))
      ⊢ (iprop(∃ f : Buf (Elt F) (m.view.loc (c : Thread nD τ)), ⌜(m.squeeze s' h).view.read (Elt F) f = fun j => X (Shape.reshapeEquiv h.numel_eq j)⌝ ∗ (m.view.loc (c : Thread nD τ) ↦[(m.view.reshape s' h.numel_eq).set]{q} f)) : sProp 𝕄) from .rfl) $$ H
    icases H with ⟨%f, %hf, H⟩
    rw [View.set_reshape]
    iapply (show (m.view.loc (c : Thread nD τ) ↦[m.view.set]{q} f : sProp 𝕄) ⊢ owns (c : Thread nD τ) m q X from
      Entails.of_eq (owns_eq_of_read c m q (by
        funext i
        have := congrFun hf ((Shape.reshapeEquiv h.numel_eq).symm i)
        simp only [Equiv.apply_symm_apply] at this
        rw [← this]
        show m.view.read (Elt F) f i = m.view.read (Elt F) f (Shape.reshapeEquiv h.numel_eq ((Shape.reshapeEquiv h.numel_eq).symm i))
        rw [Equiv.apply_symm_apply])).symm) $$ H
  · show (owns (c : Thread nD τ) m q X : sProp 𝕄) ⊢ owns (c : Thread nD τ) (m.squeeze s' h) q (fun j => X (Shape.reshapeEquiv h.numel_eq j))
    iintro H
    ihave H := (show owns (c : Thread nD τ) m q X
      ⊢ (iprop(∃ f : Buf (Elt F) (m.view.loc (c : Thread nD τ)), ⌜m.view.read (Elt F) f = X⌝ ∗ (m.view.loc (c : Thread nD τ) ↦[m.view.set]{q} f)) : sProp 𝕄) from .rfl) $$ H
    icases H with ⟨%f, %hf, H⟩
    rw [← View.set_reshape (v := m.view) h.numel_eq]
    iapply (show (m.view.loc (c : Thread nD τ) ↦[(m.view.reshape s' h.numel_eq).set]{q} f : sProp 𝕄)
      ⊢ owns (c : Thread nD τ) (m.squeeze s' h) q (fun j => X (Shape.reshapeEquiv h.numel_eq j)) from
      Entails.of_eq (owns_eq_of_read c (m.squeeze s' h) q (f := f) (by subst hf; rfl)).symm) $$ H

/-- A step of the reducing ring, `Fr` going along. -/
theorem send_rs (c : Dev nD) (hf : Fin 2) (h : Fin 3) (s : Fin 2) {n w : ℕ} (hn : sOrd (.rs hf h s) = n) (hw : w ≤ wOrd (some (false, .rs hf h s)))
    {Fr : sProp 𝕄}
    (hF : iprop(oB (dn hf c) (st hf * (h.val + 2) % 4) hf s (rsv xs ws hf h.val c s) ∗ Fr) ⊢ recvPay xs ws (dn hf c) (.rs hf h s))
    {m : Memref sig .tc .vmem S512x2048 .bf16} (hm : m = sM hf) {so : Fin 2 → ℕ} (hso : so = soff s) {oo : Fin 2 → ℕ} {K : ℕ}
    (hK : sh K c = sh (st hf * (h.val + 2) % 4) (dn hf c)) (hoo : oo = xoff (sh K c) hf s) {inb inb'} {hr hr' : _}
    {d : Dev nD} (hd : d = dn hf c) {sS sR : DmaSem sig} (hsS : sS = dnum false (.rs hf h s)) (hsR : sR = dnum true (.rs hf h s))
    {hsc hsrc hdst hsem} {k : PUnit → Prog (TpuEff nD τ sig (Elt F) Λ₀ .tc) α} {Q : α → sProp 𝕄} :
    iprop(P xs ws c n w ∗ sB c hf s (rsv xs ws hf h.val c s) ∗ Fr)
      ⊢ iprop((P xs ws c (n + 1) w -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (m.slice (Rect.unit (s := S512x2048) so S256x2048.size inb) hr) (.remote (Dev.tc d) (oM.slice (Rect.unit (s := S4096x2048) oo S256x2048.size inb') hr') (.dma sS) hsc) (.dma sR) hsrc hdst hsem) k) Q) := by
  rw [hK] at hoo
  subst hm hso hoo hd
  iintro ⟨HP, Hs, HF⟩ Hk
  ihave HP := (P_open xs ws c (.rs hf h s) hn) $$ HP
  icases HP with ⟨Hd, HP⟩
  ihave Hd := (show dmem (F := F) c (.rs hf h s) ⊢ iprop(∃ X, owns (dn hf c : Thread nD τ) (oM.slice (orect (sh (st hf * (h.val + 2) % 4) (dn hf c)) hf s) (fun _ => rfl)) fullShare X) from .rfl) $$ Hd
  ihave Hs := (show sB c hf s (rsv xs ws hf h.val c s) ⊢ owns (c : Thread nD τ) ((sM hf).slice (srect s) (fun _ => rfl)) fullShare (rsv xs ws hf h.val c s) from .rfl) $$ Hs
  icases Hd with ⟨%X, Hd⟩
  iapply (send_owns xs ws c (.rs hf h s) hn hw hsS hsR (d := dn hf c) rfl
    (src := (sM hf).slice (srect s) (fun _ => rfl)) (dst := oM.slice (orect (sh (st hf * (h.val + 2) % 4) (dn hf c)) hf s) (fun _ => rfl))
    (q := fullShare) (X := rsv xs ws hf h.val c s) (Y := X) (Fr := Fr) (amt_o hf h s) .rfl hF) $$ [HP Hs Hd HF]
  · isplitl [HP]; · iexact HP
    isplitl [Hs]; · iexact Hs
    isplitl [Hd]; · iexact Hd
    iexact HF
  iexact Hk

/-- A step of the gathering ring. -/
theorem send_ag (c : Dev nD) (hf : Fin 2) (h : Fin 3) (s : Fin 2) {n w : ℕ} (hn : sOrd (.ag hf h s) = n) (hw : w ≤ wOrd (some (false, .ag hf h s)))
    {so oo : Fin 2 → ℕ} {K : ℕ}
    (hK : st hf * h.val % 4 = K) (hso : so = xoff (sh K c) hf s) (hoo : oo = xoff (sh K c) hf s) {inb inb'} {hr hr' : _}
    {d : Dev nD} (hd : d = dn hf c) {sS sR : DmaSem sig} (hsS : sS = dnum false (.ag hf h s)) (hsR : sR = dnum true (.ag hf h s))
    {hsc hsrc hdst hsem} {k : PUnit → Prog (TpuEff nD τ sig (Elt F) Λ₀ .tc) α} {Q : α → sProp 𝕄} :
    iprop(P xs ws c n w ∗ qB c K hf s fullShare.left (qv xs ws (sh K c) hf s))
      ⊢ iprop((P xs ws c (n + 1) w -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (qM.slice (Rect.unit (s := S4096x2048) so S256x2048.size inb) hr) (.remote (Dev.tc d) (qM.slice (Rect.unit (s := S4096x2048) oo S256x2048.size inb') hr') (.dma sS) hsc) (.dma sR) hsrc hdst hsem) k) Q) := by
  subst hK
  rw [← sh_next hf h c] at hoo
  subst hso hoo hd
  have hdev : qv xs ws (sh (st hf * h.val % 4) c) hf s = qv xs ws (sh (st hf * (h.val + 1) % 4) (dn hf c)) hf s := congrArg (fun d => qv xs ws d hf s) (sh_next hf h c).symm
  iintro ⟨HP, Hs⟩ Hk
  ihave HP := (P_open xs ws c (.ag hf h s) hn) $$ HP
  icases HP with ⟨Hd, HP⟩
  ihave Hd := (show dmem (F := F) c (.ag hf h s) ⊢ iprop(∃ X, owns (dn hf c : Thread nD τ) (qM.slice (orect (sh (st hf * (h.val + 1) % 4) (dn hf c)) hf s) (fun _ => rfl)) fullShare X) from .rfl) $$ Hd
  ihave Hs := (show qB c (st hf * h.val % 4) hf s fullShare.left (qv xs ws (sh (st hf * h.val % 4) c) hf s)
    ⊢ owns (c : Thread nD τ) (qM.slice (orect (sh (st hf * h.val % 4) c) hf s) (fun _ => rfl)) fullShare.left (qv xs ws (sh (st hf * h.val % 4) c) hf s) from .rfl) $$ Hs
  icases Hd with ⟨%X, Hd⟩
  have hS : (owns (c : Thread nD τ) (qM.slice (orect (sh (st hf * h.val % 4) c) hf s) (fun _ => rfl)) fullShare.left (qv xs ws (sh (st hf * h.val % 4) c) hf s) : sProp 𝕄)
    ⊢ sendPay xs ws c (.ag hf h s) := .rfl
  have hR : (owns (dn hf c : Thread nD τ) (qM.slice (orect (sh (st hf * (h.val + 1) % 4) (dn hf c)) hf s) (fun _ => rfl)) fullShare (qv xs ws (sh (st hf * h.val % 4) c) hf s) : sProp 𝕄)
    ⊢ recvPay xs ws (dn hf c) (.ag hf h s) := by rw [hdev]; exact .rfl
  have hT : dn hf c = tgt c (.ag hf h s) := rfl
  have hM := amt_q (off := xoff (sh (st hf * (h.val + 1) % 4) (dn hf c)) hf s) (inb := inb') (hr := hr') (sR := sR) hf h s
  generalize qv xs ws (sh (st hf * h.val % 4) c) hf s = V at *
  generalize sh (st hf * h.val % 4) c = A at *
  generalize sh (st hf * (h.val + 1) % 4) (dn hf c) = B at *
  generalize dn hf c = d at *
  generalize Snd.ag hf h s = x at *
  iapply (send_owns xs ws c x hn hw hsS hsR hT
    (src := qM.slice (orect A hf s) (fun _ => rfl)) (dst := qM.slice (orect B hf s) (fun _ => rfl))
    (q := fullShare.left) (X := V) (Y := X) (Fr := iprop(emp)) hM hS (BIBase.Entails.trans (sep_elim_left (PROP := sProp 𝕄)) hR)) $$ [HP Hs Hd]
  · isplitl [HP]; · iexact HP
    isplitl [Hs]; · iexact Hs
    isplitl [Hd]; · iexact Hd
    iempintro
  iexact Hk

/-- A step of the exchange of maxima: what the transfer writes over is handed in. -/
theorem send_am (c : Dev nD) (kk : Fin 3) {n w : ℕ} (hn : sOrd (.am kk) = n) (hw : w ≤ wOrd (some (false, .am kk))) {E : sProp 𝕄}
    (hE : iprop(dmem (F := F) c (.am kk) ∗ E) ⊢ iprop(∃ X, aB (F := F) (sh (kk.val + 1) c) (3 - kk.val) fullShare X))
    {so oo : Fin 3 → ℕ} (hso : so = aoff c) (hoo : oo = aoff c) {inb inb'} {hr hr' : _}
    {d : Dev nD} (hd : d = sh (kk.val + 1) c) {sS sR : DmaSem sig} (hsS : sS = dnum false (.am kk)) (hsR : sR = dnum true (.am kk))
    {hsc hsrc hdst hsem} {k : PUnit → Prog (TpuEff nD τ sig (Elt F) Λ₀ .tc) α} {Q : α → sProp 𝕄} :
    iprop(P xs ws c n w ∗ aB c 0 (ash kk) (amv xs ws c) ∗ E)
      ⊢ iprop((P xs ws c (n + 1) w -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma ((aM.slice (Rect.unit (s := S4x8x128) so S1x8x128.size inb) hr).squeeze S8x128 squeezes_S1x8x128_S8x128) (.remote (Dev.tc d) ((aM.slice (Rect.unit (s := S4x8x128) oo S1x8x128.size inb') hr').squeeze S8x128 squeezes_S1x8x128_S8x128) (.dma sS) hsc) (.dma sR) hsrc hdst hsem) k) Q) := by
  have e0 : aoff c = aoff (sh 0 c) := by rw [sh_zero]
  have e1 : aoff c = aoff (sh (3 - kk.val) (sh (kk.val + 1) c)) := by rw [sh_peer]
  have e2 : amv xs ws c = amv xs ws (sh (3 - kk.val) (sh (kk.val + 1) c)) := by rw [sh_peer]
  rw [e0] at hso; rw [e1] at hoo
  subst hso hoo hd
  iintro ⟨HP, Hs, HE⟩ Hk
  ihave HP := (P_open xs ws c (.am kk) hn) $$ HP
  icases HP with ⟨Hd, HP⟩
  ihave Hd := hE $$ [Hd HE]
  · isplitl [Hd] <;> iassumption
  icases Hd with ⟨%X, Hd⟩
  ihave Hd := (show aB (sh (kk.val + 1) c) (3 - kk.val) fullShare X ⊢ owns (sh (kk.val + 1) c : Thread nD τ) ((aM.slice (arect (sh (3 - kk.val) (sh (kk.val + 1) c))) (fun _ => rfl)).squeeze S8x128 squeezes_S1x8x128_S8x128) fullShare
    (fun j => X (Shape.reshapeEquiv squeezes_S1x8x128_S8x128.numel_eq j)) from by rw [owns_reshape]; exact .rfl) $$ Hd
  ihave Hs := (show aB c 0 (ash kk) (amv xs ws c) ⊢ owns (c : Thread nD τ) ((aM.slice (arect (sh 0 c)) (fun _ => rfl)).squeeze S8x128 squeezes_S1x8x128_S8x128) (ash kk)
    (fun j => amv xs ws c (Shape.reshapeEquiv squeezes_S1x8x128_S8x128.numel_eq j)) from by rw [owns_reshape]; exact .rfl) $$ Hs
  iapply (send_owns xs ws c (.am kk) hn hw hsS hsR (d := sh (kk.val + 1) c) rfl
    (src := (aM.slice (arect (sh 0 c)) (fun _ => rfl)).squeeze S8x128 squeezes_S1x8x128_S8x128)
    (dst := (aM.slice (arect (sh (3 - kk.val) (sh (kk.val + 1) c))) (fun _ => rfl)).squeeze S8x128 squeezes_S1x8x128_S8x128)
    (q := ash kk) (X := fun j => amv xs ws c (Shape.reshapeEquiv squeezes_S1x8x128_S8x128.numel_eq j)) (Fr := iprop(emp)) (amt_a kk)
    (by rw [owns_reshape]; exact .rfl)
    (by
      refine BIBase.Entails.trans (sep_elim_left (PROP := sProp 𝕄)) ?_
      rw [owns_reshape, e2]; exact .rfl)) $$ [HP Hs Hd]
  · isplitl [HP]; · iexact HP
    isplitl [Hs]; · iexact Hs
    isplitl [Hd]; · iexact Hd
    iempintro
  iexact Hk

/-- What each kind of wait gives. -/
theorem wait_rs (c : Dev nD) (hf : Fin 2) (h : Fin 3) (s : Fin 2) (K : ℕ) (hK : st hf * (h.val + 2) % 4 = K) (hne : ¬ (hf = 0 ∧ h = 0 ∧ s = 0)) {n w : ℕ}
    (hw : wOrd (some (true, .rs hf h s)) = w) (hl : ∀ y, n ≤ sOrd y → lvC (some (true, .rs hf h s)) < lvS y)
    {sp sp' : Space} {s₁ s' : Shape} {e e' : EltTy} {src : Memref sig .tc sp' s' e'} {dst : Memref sig .tc sp s₁ e}
    {sR : DmaSem sig} (hsR : sR = dnum true (.rs hf h s)) {hsrc : src.view.WordExact} {hdst : dst.view.WordExact} (hN : dst.view.dmaCredit = amt (.rs hf h s))
    {k : PUnit → Prog (TpuEff nD τ sig (Elt F) Λ₀ .tc) α} {Q : α → sProp 𝕄} :
    P xs ws c n w
      ⊢ iprop((oB c K hf s (rsv xs ws hf h.val (up hf c) s) -∗ P xs ws c n (w + 1) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sR src dst hsrc hdst) k) Q) := by
  have e : recvPay xs ws c (.rs hf h s) = oB c K hf s (rsv xs ws hf h.val (up hf c) s) := by subst hK; exact if_neg hne
  rw [← e]
  exact step_recv xs ws c (.rs hf h s) hw hl hsR hN

theorem wait_rs0 (c : Dev nD) {n w : ℕ}
    (hw : wOrd (some (true, .rs 0 0 0)) = w) (hl : ∀ y, n ≤ sOrd y → lvC (some (true, .rs 0 0 0)) < lvS y)
    {sp sp' : Space} {s₁ s' : Shape} {e e' : EltTy} {src : Memref sig .tc sp' s' e'} {dst : Memref sig .tc sp s₁ e}
    {sR : DmaSem sig} (hsR : sR = dnum true (.rs 0 0 0)) {hsrc : src.view.WordExact} {hdst : dst.view.WordExact} (hN : dst.view.dmaCredit = amt (.rs 0 0 0))
    {k : PUnit → Prog (TpuEff nD τ sig (Elt F) Λ₀ .tc) α} {Q : α → sProp 𝕄} :
    P xs ws c n w
      ⊢ iprop((iprop(oB c 2 0 0 (rsv xs ws 0 0 (up 0 c) 0) ∗ fwd (F := F) c) -∗ P xs ws c n (w + 1) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sR src dst hsrc hdst) k) Q) := by
  have e : recvPay xs ws c (.rs 0 0 0) = iprop(oB c 2 0 0 (rsv xs ws 0 0 (up 0 c) 0) ∗ fwd (F := F) c) := by
    unfold recvPay
    exact if_pos ⟨rfl, rfl, rfl⟩
  rw [← e]
  exact step_recv xs ws c (.rs 0 0 0) hw hl hsR hN

theorem wait_am (c : Dev nD) (kk : Fin 3) (K : ℕ) (hK : 3 - kk.val = K) {n w : ℕ}
    (hw : wOrd (some (true, .am kk)) = w) (hl : ∀ y, n ≤ sOrd y → lvC (some (true, .am kk)) < lvS y)
    {sp sp' : Space} {s₁ s' : Shape} {e e' : EltTy} {src : Memref sig .tc sp' s' e'} {dst : Memref sig .tc sp s₁ e}
    {sR : DmaSem sig} (hsR : sR = dnum true (.am kk)) {hsrc : src.view.WordExact} {hdst : dst.view.WordExact} (hN : dst.view.dmaCredit = amt (.am kk))
    {k : PUnit → Prog (TpuEff nD τ sig (Elt F) Λ₀ .tc) α} {Q : α → sProp 𝕄} :
    P xs ws c n w
      ⊢ iprop((aB c K fullShare (amv xs ws (sh K c)) -∗ P xs ws c n (w + 1) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sR src dst hsrc hdst) k) Q) := by
  subst hK
  exact step_recv xs ws c (.am kk) hw hl hsR hN

theorem wait_ag (c : Dev nD) (hf : Fin 2) (h : Fin 3) (s : Fin 2) (K : ℕ) (hK : st hf * (h.val + 1) % 4 = K) {n w : ℕ}
    (hw : wOrd (some (true, .ag hf h s)) = w) (hl : ∀ y, n ≤ sOrd y → lvC (some (true, .ag hf h s)) < lvS y)
    {sp sp' : Space} {s₁ s' : Shape} {e e' : EltTy} {src : Memref sig .tc sp' s' e'} {dst : Memref sig .tc sp s₁ e}
    {sR : DmaSem sig} (hsR : sR = dnum true (.ag hf h s)) {hsrc : src.view.WordExact} {hdst : dst.view.WordExact} (hN : dst.view.dmaCredit = amt (.ag hf h s))
    {k : PUnit → Prog (TpuEff nD τ sig (Elt F) Λ₀ .tc) α} {Q : α → sProp 𝕄} :
    P xs ws c n w
      ⊢ iprop((qB c K hf s fullShare (qv xs ws (sh K c) hf s) -∗ P xs ws c n (w + 1) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sR src dst hsrc hdst) k) Q) := by
  subst hK
  exact step_recv xs ws c (.ag hf h s) hw hl hsR hN

theorem done_rs (c : Dev nD) (hf : Fin 2) (h : Fin 3) (s : Fin 2) {n w : ℕ}
    (hw : wOrd (some (false, .rs hf h s)) = w) (hn : sOrd (.rs hf h s) < n)
    {sp sp' : Space} {s₁ s' : Shape} {e e' : EltTy} {src : Memref sig .tc sp' s' e'} {dst : Memref sig .tc sp s₁ e}
    {sS : DmaSem sig} (hsS : sS = dnum false (.rs hf h s)) {hsrc : src.view.WordExact} {hdst : dst.view.WordExact} (hN : dst.view.dmaCredit = amt (.rs hf h s))
    {k : PUnit → Prog (TpuEff nD τ sig (Elt F) Λ₀ .tc) α} {Q : α → sProp 𝕄} :
    P xs ws c n w
      ⊢ iprop((sB c hf s (rsv xs ws hf h.val c s) -∗ P xs ws c n (w + 1) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sS src dst hsrc hdst) k) Q) :=
  step_sent xs ws c (.rs hf h s) hw hn (fun y _ => lvS_pos y) hsS hN

theorem done_am (c : Dev nD) (kk : Fin 3) {n w : ℕ}
    (hw : wOrd (some (false, .am kk)) = w) (hn : sOrd (.am kk) < n)
    {sp sp' : Space} {s₁ s' : Shape} {e e' : EltTy} {src : Memref sig .tc sp' s' e'} {dst : Memref sig .tc sp s₁ e}
    {sS : DmaSem sig} (hsS : sS = dnum false (.am kk)) {hsrc : src.view.WordExact} {hdst : dst.view.WordExact} (hN : dst.view.dmaCredit = amt (.am kk))
    {k : PUnit → Prog (TpuEff nD τ sig (Elt F) Λ₀ .tc) α} {Q : α → sProp 𝕄} :
    P xs ws c n w
      ⊢ iprop((aB c 0 (ash kk) (amv xs ws c) -∗ P xs ws c n (w + 1) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sS src dst hsrc hdst) k) Q) :=
  step_sent xs ws c (.am kk) hw hn (fun y _ => lvS_pos y) hsS hN

theorem done_ag (c : Dev nD) (hf : Fin 2) (h : Fin 3) (s : Fin 2) (K : ℕ) (hK : st hf * h.val % 4 = K) {n w : ℕ}
    (hw : wOrd (some (false, .ag hf h s)) = w) (hn : sOrd (.ag hf h s) < n)
    {sp sp' : Space} {s₁ s' : Shape} {e e' : EltTy} {src : Memref sig .tc sp' s' e'} {dst : Memref sig .tc sp s₁ e}
    {sS : DmaSem sig} (hsS : sS = dnum false (.ag hf h s)) {hsrc : src.view.WordExact} {hdst : dst.view.WordExact} (hN : dst.view.dmaCredit = amt (.ag hf h s))
    {k : PUnit → Prog (TpuEff nD τ sig (Elt F) Λ₀ .tc) α} {Q : α → sProp 𝕄} :
    P xs ws c n w
      ⊢ iprop((qB c K hf s fullShare.left (qv xs ws (sh K c) hf s) -∗ P xs ws c n (w + 1) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sS src dst hsrc hdst) k) Q) := by
  subst hK
  exact step_sent xs ws c (.ag hf h s) hw hn (fun y _ => lvS_pos y) hsS hN

/-! ## Credits -/

theorem crd_o {off : Fin 2 → ℕ} {inb} {hr : _} (hf : Fin 2) (h : Fin 3) (s : Fin 2) :
    (oM.slice (Rect.unit (s := S4096x2048) off S256x2048.size inb) hr).view.dmaCredit = amt (.rs hf h s) := rfl
theorem crd_s (hf' : Fin 2) {off : Fin 2 → ℕ} {inb} {hr : _} (hf : Fin 2) (h : Fin 3) (s : Fin 2) :
    ((sM hf').slice (Rect.unit (s := S512x2048) off S256x2048.size inb) hr).view.dmaCredit = amt (.rs hf h s) := by
  fin_cases hf' <;> rfl
theorem crd_q {off : Fin 2 → ℕ} {inb} {hr : _} (hf : Fin 2) (h : Fin 3) (s : Fin 2) :
    (qM.slice (Rect.unit (s := S4096x2048) off S256x2048.size inb) hr).view.dmaCredit = amt (.ag hf h s) := rfl
theorem crd_a {off : Fin 3 → ℕ} {inb} {hr : _} (kk : Fin 3) :
    ((aM.slice (Rect.unit (s := S4x8x128) off S1x8x128.size inb) hr).squeeze S8x128 squeezes_S1x8x128_S8x128).view.dmaCredit = amt (.am kk) := rfl

/-! ## Shares -/

theorem q_split (c : Dev nD) (K : ℕ) (hf s : Fin 2) (X : Vec F S256x2048 .i8) :
    qB c K hf s fullShare X ⊢ iprop(qB c K hf s fullShare.left X ∗ qB c K hf s fullShare.right X) :=
  (owns_halves c (qM.slice (orect (sh K c) hf s) (fun _ => rfl)) fullShare X).1
theorem q_join (c : Dev nD) (K : ℕ) (hf s : Fin 2) (X : Vec F S256x2048 .i8) :
    iprop(qB c K hf s fullShare.left X ∗ qB c K hf s fullShare.right X) ⊢ qB c K hf s fullShare X :=
  (owns_halves c (qM.slice (orect (sh K c) hf s) (fun _ => rfl)) fullShare X).2

theorem a_split (c : Dev nD) (X : Vec F S1x8x128 .f32) :
    aB c 0 fullShare X ⊢ iprop(aB c 0 (ash 0) X ∗ aB c 0 (ash 1) X ∗ aB c 0 (ash 2) X) :=
  (owns_halves c (aM.slice (arect (sh 0 c)) (fun _ => rfl)) fullShare X).1.trans
    (sep_mono_right (owns_halves c (aM.slice (arect (sh 0 c)) (fun _ => rfl)) fullShare.right X).1)
theorem a_join (c : Dev nD) (X : Vec F S1x8x128 .f32) :
    iprop(aB c 0 (ash 0) X ∗ aB c 0 (ash 1) X ∗ aB c 0 (ash 2) X) ⊢ aB c 0 fullShare X :=
  (sep_mono_right (owns_halves c (aM.slice (arect (sh 0 c)) (fun _ => rfl)) fullShare.right X).2).trans
    (owns_halves c (aM.slice (arect (sh 0 c)) (fun _ => rfl)) fullShare X).2

/-- One more addition around the ring. -/
theorem acc_rsv (c : Dev nD) (hf : Fin 2) (h : ℕ) (s : Fin 2) (K : ℕ) (hK : st hf * (h + 2) % 4 = K) :
    acc (dt xs ws c (sh K c) hf s) (rsv xs ws hf h (up hf c) s) = rsv xs ws hf (h + 1) c s := by subst hK; rfl

theorem rs_chunk (hf : Fin 2) (h : Fin 3) (c : Dev nD) : sh (st hf * (h.val + 1) % 4) c = sh (st hf * (h.val + 2) % 4) (dn hf c) := by
  revert hf h c; decide

/-- A step of the reducing ring; -/
theorem send_rs1 (c : Dev nD) (hf : Fin 2) (h : Fin 3) (s : Fin 2) (hne : ¬ (hf = 0 ∧ h = 0 ∧ s = 0)) {n w : ℕ} (hn : sOrd (.rs hf h s) = n) (hw : w ≤ wOrd (some (false, .rs hf h s)))
    {m : Memref sig .tc .vmem S512x2048 .bf16} (hm : m = sM hf) {so : Fin 2 → ℕ} (hso : so = soff s) {oo : Fin 2 → ℕ} {K : ℕ}
    (hK : st hf * (h.val + 1) % 4 = K) (hoo : oo = xoff (sh K c) hf s) {inb inb'} {hr hr' : _}
    {d : Dev nD} (hd : d = dn hf c) {sS sR : DmaSem sig} (hsS : sS = dnum false (.rs hf h s)) (hsR : sR = dnum true (.rs hf h s))
    {hsc hsrc hdst hsem} {k : PUnit → Prog (TpuEff nD τ sig (Elt F) Λ₀ .tc) α} {Q : α → sProp 𝕄} :
    iprop(P xs ws c n w ∗ sB c hf s (rsv xs ws hf h.val c s))
      ⊢ iprop((P xs ws c (n + 1) w -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (m.slice (Rect.unit (s := S512x2048) so S256x2048.size inb) hr) (.remote (Dev.tc d) (oM.slice (Rect.unit (s := S4096x2048) oo S256x2048.size inb') hr') (.dma sS) hsc) (.dma sR) hsrc hdst hsem) k) Q) := by
  have hR : iprop(oB (dn hf c) (st hf * (h.val + 2) % 4) hf s (rsv xs ws hf h.val c s) ∗ emp) ⊢ recvPay xs ws (dn hf c) (.rs hf h s) := by
    have e : recvPay xs ws (dn hf c) (.rs hf h s) = oB (dn hf c) (st hf * (h.val + 2) % 4) hf s (rsv xs ws hf h.val (up hf (dn hf c)) s) := if_neg hne
    rw [e, up_dn]
    exact sep_elim_left (PROP := sProp 𝕄)
  iintro ⟨HP, Hs⟩
  iapply (send_rs xs ws c hf h s hn hw (Fr := iprop(emp)) hR hm hso (by rw [← hK]; exact rs_chunk hf h c) hoo hd hsS hsR) $$ [HP Hs]
  isplitl [HP]; · iexact HP
  isplitl [Hs]; · iexact Hs
  iempintro

/-- the first one also carries a slot of maxima along. -/
theorem send_rs0 (c : Dev nD) {n w : ℕ} (hn : sOrd (.rs 0 0 0) = n) (hw : w ≤ wOrd (some (false, .rs 0 0 0)))
    {m : Memref sig .tc .vmem S512x2048 .bf16} (hm : m = sM 0) {so : Fin 2 → ℕ} (hso : so = soff 0) {oo : Fin 2 → ℕ}
    (hoo : oo = xoff (sh 3 c) 0 0) {inb inb'} {hr hr' : _}
    {d : Dev nD} (hd : d = dn 0 c) {sS sR : DmaSem sig} (hsS : sS = dnum false (.rs 0 0 0)) (hsR : sR = dnum true (.rs 0 0 0))
    {hsc hsrc hdst hsem} {k : PUnit → Prog (TpuEff nD τ sig (Elt F) Λ₀ .tc) α} {Q : α → sProp 𝕄} :
    iprop(P xs ws c n w ∗ sB c 0 0 (rsv xs ws 0 0 c 0) ∗ fwd (F := F) (sh 1 c))
      ⊢ iprop((P xs ws c (n + 1) w -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (m.slice (Rect.unit (s := S512x2048) so S256x2048.size inb) hr) (.remote (Dev.tc d) (oM.slice (Rect.unit (s := S4096x2048) oo S256x2048.size inb') hr') (.dma sS) hsc) (.dma sR) hsrc hdst hsem) k) Q) :=
  send_rs xs ws c 0 0 0 hn hw (Fr := fwd (F := F) (sh 1 c)) (by
    have e : recvPay xs ws (dn 0 c) (.rs 0 0 0) = iprop(oB (dn 0 c) 2 0 0 (rsv xs ws 0 0 (up 0 (dn 0 c)) 0) ∗ fwd (F := F) (dn 0 c)) := by
      unfold recvPay
      exact if_pos ⟨rfl, rfl, rfl⟩
    rw [e, up_dn]
    exact .rfl) hm hso (rs_chunk 0 0 c) hoo hd hsS hsR

theorem am_dst (c : Dev nD) (kk : Fin 3) (h : kk ≠ 1) : iprop(dmem (F := F) c (.am kk) ∗ emp) ⊢ iprop(∃ X, aB (F := F) (sh (kk.val + 1) c) (3 - kk.val) fullShare X) := by
  have e : dmem (F := F) c (.am kk) = iprop(∃ X, aB (F := F) (sh (kk.val + 1) c) (3 - kk.val) fullShare X) := if_neg h
  rw [e]
  exact sep_elim_left (PROP := sProp 𝕄)
theorem am_dst1 (c : Dev nD) : iprop(dmem (F := F) c (.am 1) ∗ fwd (F := F) c) ⊢ iprop(∃ X, aB (F := F) (sh ((1 : Fin 3).val + 1) c) (3 - (1 : Fin 3).val) fullShare X) :=
  sep_elim_right (PROP := sProp 𝕄)

theorem qv_own (c : Dev nD) (hf s : Fin 2) : fptosi 8 (k0_pay49 (k0_pay38 (amall xs ws)) (yv xs ws c hf s)) = qv xs ws (sh 0 c) hf s := by
  rw [sh_zero]; rfl
theorem amv_raw (c : Dev nD) :
    k0_pay37 (k0_pay36 (k0_pay34 (k0_pay32 (k0_pay30 (dt xs ws c (sh 0 c) 0 0) (rsv xs ws 0 2 (up 0 c) 0)) (dt xs ws c (sh 0 c) 1 0) (rsv xs ws 1 2 (up 1 c) 0))
      (dt xs ws c (sh 0 c) 0 1) (rsv xs ws 0 2 (up 0 c) 1)) (dt xs ws c (sh 0 c) 1 1) (rsv xs ws 1 2 (up 1 c) 1)) = amv xs ws c := by
  rw [(pay30_eq _ _).trans (acc_rsv xs ws c 0 2 0 0 rfl), sh_zero]; rfl

end Cert.RingProof

end
-- ==== Proof.Blocks.lean ====
/-
A device's arrays cut into the blocks the kernel moves, and put back together.
-/
module

public import proofs.«01_k».proof.Proof.Steps

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
/-! ## The cuts -/

/-- A segment of the result: which chunk, which half, which segment of the half. -/
abbrev TO : Type := Fin 4 × Fin 2 × Fin 2

/-- The segments of the result, the chunks counted from device `c`'s own; -/
abbrev oR (c : Dev nD) (t : TO) : Rect S4096x2048 := orect (sh t.1.val c) t.2.1 t.2.2
/-- the slots of maxima, likewise. -/
abbrev aR (c : Dev nD) (t : Fin 4) : Rect S4x8x128 := arect (sh t.val c)

theorem oR_mem {c : Dev nD} {t : TO} {y : S4096x2048.Idx} :
    y ∈ (oR c t).set ↔ ro (sh t.1.val c) t.2.1 t.2.2 ≤ (y 0).val ∧ (y 0).val < ro (sh t.1.val c) t.2.1 t.2.2 + 256 := by
  rw [Rect.mem_set_unit]
  constructor
  · intro h; exact h 0
  · intro h a
    fin_cases a
    · exact h
    · exact ⟨Nat.zero_le _, by have := (y 1).isLt; show (y 1).val < 0 + 2048; exact this⟩

theorem oR_disjoint (c : Dev nD) (t t' : TO) (h : t ≠ t') : Disjoint (oR c t).set (oR c t').set := by
  rw [Finset.disjoint_left]
  intro y h1 h2
  rw [oR_mem] at h1 h2
  simp only [ro, sh_val] at h1 h2
  refine h ?_
  obtain ⟨k, hf, s⟩ := t; obtain ⟨k', hf', s'⟩ := t'
  have := lt4 c; have := k.isLt; have := k'.isLt; have := hf.isLt; have := hf'.isLt; have := s.isLt; have := s'.isLt
  simp only at h1 h2
  refine Prod.ext (Fin.ext ?_) (Prod.ext (Fin.ext ?_) (Fin.ext ?_)) <;> simp only <;> omega

theorem oR_cover (c : Dev nD) : (Finset.univ : Finset TO).biUnion (fun t => (oR c t).set) = Finset.univ := by
  refine Finset.eq_univ_iff_forall.mpr fun y => Finset.mem_biUnion.mpr ?_
  have hy : (y 0).val < 4096 := (y 0).isLt
  have hc := lt4 c
  refine ⟨(⟨((y 0).val / 1024 + 4 - c.val) % 4, Nat.mod_lt _ (by decide)⟩, ⟨(y 0).val / 512 % 2, Nat.mod_lt _ (by decide)⟩,
    ⟨(y 0).val / 256 % 2, Nat.mod_lt _ (by decide)⟩), Finset.mem_univ _, ?_⟩
  rw [oR_mem]
  simp only [ro, sh_val]
  omega

theorem sR_mem {t : Fin 2} {y : S512x2048.Idx} : y ∈ (srect t).set ↔ 256 * t.val ≤ (y 0).val ∧ (y 0).val < 256 * t.val + 256 := by
  rw [Rect.mem_set_unit]
  constructor
  · intro h; exact h 0
  · intro h a
    fin_cases a
    · exact h
    · exact ⟨Nat.zero_le _, by have := (y 1).isLt; show (y 1).val < 0 + 2048; exact this⟩
theorem sR_disjoint (t t' : Fin 2) (h : t ≠ t') : Disjoint (srect t).set (srect t').set := by
  rw [Finset.disjoint_left]
  intro y h1 h2
  rw [sR_mem] at h1 h2
  exact h (Fin.ext (by omega))
theorem sR_cover : (Finset.univ : Finset (Fin 2)).biUnion (fun t => (srect t).set) = Finset.univ := by
  refine Finset.eq_univ_iff_forall.mpr fun y => Finset.mem_biUnion.mpr ?_
  have hy : (y 0).val < 512 := (y 0).isLt
  refine ⟨⟨(y 0).val / 256, by omega⟩, Finset.mem_univ _, ?_⟩
  rw [sR_mem]
  simp only
  omega

theorem aR_mem {c : Dev nD} {t : Fin 4} {y : S4x8x128.Idx} : y ∈ (aR c t).set ↔ (y 0).val = (sh t.val c).val := by
  rw [Rect.mem_set_unit]
  constructor
  · intro h
    have h0 : (sh t.val c).val ≤ (y 0).val ∧ (y 0).val < (sh t.val c).val + 1 := h 0
    omega
  · intro h a
    fin_cases a
    · show (sh t.val c).val ≤ (y 0).val ∧ (y 0).val < (sh t.val c).val + 1
      omega
    · exact ⟨Nat.zero_le _, by have := (y 1).isLt; show (y 1).val < 0 + 8; exact this⟩
    · exact ⟨Nat.zero_le _, by have := (y 2).isLt; show (y 2).val < 0 + 128; exact this⟩
theorem aR_disjoint (c : Dev nD) (t t' : Fin 4) (h : t ≠ t') : Disjoint (aR c t).set (aR c t').set := by
  rw [Finset.disjoint_left]
  intro y h1 h2
  rw [aR_mem, sh_val] at h1 h2
  have := lt4 c; have := t.isLt; have := t'.isLt
  exact h (Fin.ext (by omega))
theorem aR_cover (c : Dev nD) : (Finset.univ : Finset (Fin 4)).biUnion (fun t => (aR c t).set) = Finset.univ := by
  refine Finset.eq_univ_iff_forall.mpr fun y => Finset.mem_biUnion.mpr ?_
  have hy : (y 0).val < 4 := (y 0).isLt
  have hc := lt4 c
  refine ⟨⟨((y 0).val + 4 - c.val) % 4, Nat.mod_lt _ (by decide)⟩, Finset.mem_univ _, ?_⟩
  rw [aR_mem, sh_val]
  simp only
  omega

/-! ## Lists of blocks -/

theorem bigSep_TO (Φ : TO → sProp 𝕄) : bigSep Finset.univ Φ = bigSepL
    [(0, 0, 0), (0, 0, 1), (0, 1, 0), (0, 1, 1), (1, 0, 0), (1, 0, 1), (1, 1, 0), (1, 1, 1),
     (2, 0, 0), (2, 0, 1), (2, 1, 0), (2, 1, 1), (3, 0, 0), (3, 0, 1), (3, 1, 0), (3, 1, 1)] Φ :=
  bigSep_univ_eq_bigSepL _ (by decide) (by decide) _
theorem bigSep_four (Φ : Fin 4 → sProp 𝕄) : bigSep Finset.univ Φ = iprop(Φ 0 ∗ Φ 1 ∗ Φ 2 ∗ Φ 3) := by
  rw [bigSep_univ_eq_bigSepL [0, 1, 2, 3] (by decide) (by decide)]
  rfl
theorem bigSep_two (Φ : Fin 2 → sProp 𝕄) : bigSep Finset.univ Φ = iprop(Φ 0 ∗ Φ 1) := by
  rw [bigSep_univ_eq_bigSepL [0, 1] (by decide) (by decide)]
  rfl

/-- The maxima of all four devices, from their four slots. -/
theorem am_all (xs : Dev nD → Vec F S4096x1024 .bf16) (ws : Dev nD → Vec F S1024x2048 .bf16) (c : Dev nD) :
    iprop(aB c 0 fullShare (amv xs ws c) ∗ aB c 1 fullShare (amv xs ws (sh 1 c)) ∗ aB c 2 fullShare (amv xs ws (sh 2 c)) ∗ aB c 3 fullShare (amv xs ws (sh 3 c)))
      ⊢ amB c (amall xs ws) := by
  have e : ∀ t : Fin 4, (fun j => amall xs ws ((aR c t).emb j)) = amv xs ws (sh t.val c) := fun t => by
    funext j
    have hj : (⟨((aR c t).emb j 0).val, ((aR c t).emb j 0).isLt⟩ : Dev nD) = sh t.val c := by
      apply Fin.ext
      show (sh t.val c).val + 1 * (j 0).val = (sh t.val c).val
      have : (j 0).val < 1 := (j 0).isLt
      omega
    exact congrArg (amx xs ws) hj
  refine BIBase.Entails.trans ?_ (owns_of_rects (c : Thread nD τ) aM fullShare (aR c) (fun _ _ => rfl) (aR_disjoint c) (aR_cover c) (amall xs ws))
  rw [bigSep_four, e 0, e 1, e 2, e 3, show sh (0 : Fin 4).val c = c from sh_zero c]
  exact .of_eq (by unfold aB; rfl)

/-- Cutting a result array of unknown contents into its segments; -/
theorem o_cut (c : Dev nD) (X : Vec F S4096x2048 .bf16) : owns (c : Thread nD τ) oM fullShare X ⊢
    iprop((∃ Y, oB (F := F) c 0 0 0 Y) ∗ (∃ Y, oB (F := F) c 0 0 1 Y) ∗ (∃ Y, oB (F := F) c 0 1 0 Y) ∗ (∃ Y, oB (F := F) c 0 1 1 Y) ∗ (∃ Y, oB (F := F) c 1 0 0 Y) ∗ (∃ Y, oB (F := F) c 1 0 1 Y) ∗ (∃ Y, oB (F := F) c 1 1 0 Y) ∗ (∃ Y, oB (F := F) c 1 1 1 Y) ∗ (∃ Y, oB (F := F) c 2 0 0 Y) ∗ (∃ Y, oB (F := F) c 2 0 1 Y) ∗ (∃ Y, oB (F := F) c 2 1 0 Y) ∗ (∃ Y, oB (F := F) c 2 1 1 Y) ∗ (∃ Y, oB (F := F) c 3 0 0 Y) ∗ (∃ Y, oB (F := F) c 3 0 1 Y) ∗ (∃ Y, oB (F := F) c 3 1 0 Y) ∗ (∃ Y, oB (F := F) c 3 1 1 Y)) := by
  have h1 : ∀ t : TO, (owns (c : Thread nD τ) (oM.slice ((oR c) t) (fun _ => rfl)) fullShare (fun j => X ((oR c t).emb j)) : sProp 𝕄) ⊢ iprop(∃ Y, oB (F := F) c t.1.val t.2.1 t.2.2 Y) := fun t => by
    iintro H
    iexists (fun j => X ((oR c t).emb j))
    iapply (show (owns (c : Thread nD τ) (oM.slice ((oR c) t) (fun _ => rfl)) fullShare (fun j => X ((oR c t).emb j)) : sProp 𝕄) ⊢ oB (F := F) c t.1.val t.2.1 t.2.2 (fun j => X ((oR c t).emb j)) from .rfl) $$ H
  have h2 : bigSep Finset.univ (fun t : TO => (iprop(∃ Y, oB (F := F) c t.1.val t.2.1 t.2.2 Y) : sProp 𝕄)) ⊢ _ := .of_eq (bigSep_TO _)
  exact BIBase.Entails.trans (owns_rects (c : Thread nD τ) oM fullShare (oR c) (fun _ _ => rfl) (oR_disjoint c) (oR_cover c) X) (BIBase.Entails.trans (bigSep_mono fun t _ => h1 t) h2)

/-- the quantised copy; -/
theorem q_cut (c : Dev nD) (X : Vec F S4096x2048 .i8) : owns (c : Thread nD τ) qM fullShare X ⊢
    iprop((∃ Y, qB (F := F) c 0 0 0 fullShare Y) ∗ (∃ Y, qB (F := F) c 0 0 1 fullShare Y) ∗ (∃ Y, qB (F := F) c 0 1 0 fullShare Y) ∗ (∃ Y, qB (F := F) c 0 1 1 fullShare Y) ∗ (∃ Y, qB (F := F) c 1 0 0 fullShare Y) ∗ (∃ Y, qB (F := F) c 1 0 1 fullShare Y) ∗ (∃ Y, qB (F := F) c 1 1 0 fullShare Y) ∗ (∃ Y, qB (F := F) c 1 1 1 fullShare Y) ∗ (∃ Y, qB (F := F) c 2 0 0 fullShare Y) ∗ (∃ Y, qB (F := F) c 2 0 1 fullShare Y) ∗ (∃ Y, qB (F := F) c 2 1 0 fullShare Y) ∗ (∃ Y, qB (F := F) c 2 1 1 fullShare Y) ∗ (∃ Y, qB (F := F) c 3 0 0 fullShare Y) ∗ (∃ Y, qB (F := F) c 3 0 1 fullShare Y) ∗ (∃ Y, qB (F := F) c 3 1 0 fullShare Y) ∗ (∃ Y, qB (F := F) c 3 1 1 fullShare Y)) := by
  have h1 : ∀ t : TO, (owns (c : Thread nD τ) (qM.slice ((oR c) t) (fun _ => rfl)) fullShare (fun j => X ((oR c t).emb j)) : sProp 𝕄) ⊢ iprop(∃ Y, qB (F := F) c t.1.val t.2.1 t.2.2 fullShare Y) := fun t => by
    iintro H
    iexists (fun j => X ((oR c t).emb j))
    iapply (show (owns (c : Thread nD τ) (qM.slice ((oR c) t) (fun _ => rfl)) fullShare (fun j => X ((oR c t).emb j)) : sProp 𝕄) ⊢ qB (F := F) c t.1.val t.2.1 t.2.2 fullShare (fun j => X ((oR c t).emb j)) from .rfl) $$ H
  have h2 : bigSep Finset.univ (fun t : TO => (iprop(∃ Y, qB (F := F) c t.1.val t.2.1 t.2.2 fullShare Y) : sProp 𝕄)) ⊢ _ := .of_eq (bigSep_TO _)
  exact BIBase.Entails.trans (owns_rects (c : Thread nD τ) qM fullShare (oR c) (fun _ _ => rfl) (oR_disjoint c) (oR_cover c) X) (BIBase.Entails.trans (bigSep_mono fun t _ => h1 t) h2)

/-- the maxima; -/
theorem a_cut (c : Dev nD) (X : Vec F S4x8x128 .f32) : owns (c : Thread nD τ) aM fullShare X ⊢
    iprop((∃ Y, aB (F := F) c 0 fullShare Y) ∗ (∃ Y, aB (F := F) c 1 fullShare Y) ∗ (∃ Y, aB (F := F) c 2 fullShare Y) ∗ (∃ Y, aB (F := F) c 3 fullShare Y)) := by
  have h1 : ∀ t : Fin 4, (owns (c : Thread nD τ) (aM.slice ((aR c) t) (fun _ => rfl)) fullShare (fun j => X ((aR c t).emb j)) : sProp 𝕄) ⊢ iprop(∃ Y, aB (F := F) c t.val fullShare Y) := fun t => by
    iintro H
    iexists (fun j => X ((aR c t).emb j))
    iapply (show (owns (c : Thread nD τ) (aM.slice ((aR c) t) (fun _ => rfl)) fullShare (fun j => X ((aR c t).emb j)) : sProp 𝕄) ⊢ aB (F := F) c t.val fullShare (fun j => X ((aR c t).emb j)) from .rfl) $$ H
  have h2 : bigSep Finset.univ (fun t : Fin 4 => (iprop(∃ Y, aB (F := F) c t.val fullShare Y) : sProp 𝕄)) ⊢ _ := .of_eq (bigSep_four _)
  exact BIBase.Entails.trans (owns_rects (c : Thread nD τ) aM fullShare (aR c) (fun _ _ => rfl) (aR_disjoint c) (aR_cover c) X) (BIBase.Entails.trans (bigSep_mono fun t _ => h1 t) h2)
/-- a half-chunk buffer. -/
theorem s_cut (c : Dev nD) (m : Memref sig .tc .vmem S512x2048 .bf16) (X : Vec F S512x2048 .bf16) : (owns (c : Thread nD τ) m fullShare X : sProp 𝕄) ⊢
    (iprop((∃ Y, owns (Val := Elt F) (c : Thread nD τ) (m.slice (srect 0) (fun _ => rfl)) fullShare Y) ∗ (∃ Y, owns (Val := Elt F) (c : Thread nD τ) (m.slice (srect 1) (fun _ => rfl)) fullShare Y)) : sProp 𝕄) := by
  have h1 : ∀ t : Fin 2, (owns (c : Thread nD τ) (m.slice (srect t) (fun _ => rfl)) fullShare (fun j => X ((srect t).emb j)) : sProp 𝕄) ⊢ iprop(∃ Y, owns (Val := Elt F) (c : Thread nD τ) (m.slice (srect t) (fun _ => rfl)) fullShare Y) := fun t => by
    iintro H
    iexists (fun j => X ((srect t).emb j))
    iapply (show (owns (c : Thread nD τ) (m.slice (srect t) (fun _ => rfl)) fullShare (fun j => X ((srect t).emb j)) : sProp 𝕄) ⊢ owns (Val := Elt F) (c : Thread nD τ) (m.slice (srect t) (fun _ => rfl)) fullShare (fun j => X ((srect t).emb j)) from .rfl) $$ H
  have h2 : bigSep Finset.univ (fun t : Fin 2 => (iprop(∃ Y, owns (Val := Elt F) (c : Thread nD τ) (m.slice (srect t) (fun _ => rfl)) fullShare Y) : sProp 𝕄)) ⊢ _ := .of_eq (bigSep_two _)
  exact BIBase.Entails.trans (owns_rects (c : Thread nD τ) m fullShare srect (fun _ _ => rfl) sR_disjoint sR_cover X) (BIBase.Entails.trans (bigSep_mono fun t _ => h1 t) h2)

/-- Back together: a half-chunk buffer, -/
theorem s_glue (c : Dev nD) (m : Memref sig .tc .vmem S512x2048 .bf16) (X Y : Vec F S256x2048 .bf16) :
    (iprop(owns (c : Thread nD τ) (m.slice (srect 0) (fun _ => rfl)) fullShare X ∗ owns (c : Thread nD τ) (m.slice (srect 1) (fun _ => rfl)) fullShare Y) : sProp 𝕄)
      ⊢ iprop(∃ Z, owns (Val := Elt F) (c : Thread nD τ) m fullShare Z) := by
  let Zs : Fin 2 → Vec F S256x2048 .bf16 := fun t => if t = 0 then X else Y
  have e (t : Fin 2) : (fun j => Rect.glue srect sR_cover Zs ((srect t).emb j)) = Zs t := funext fun y => Rect.glue_emb srect sR_cover sR_disjoint Zs t y
  have h := owns_of_rects (Ix := Unit) (Name := ℕ) (U := UU) (Lvl := ℕ) (Val := Elt F) (c : Thread nD τ) m fullShare srect (fun _ _ => rfl) sR_disjoint sR_cover (Rect.glue srect sR_cover Zs)
  rw [bigSep_two, e 0, e 1] at h
  iintro H
  iexists (Rect.glue srect sR_cover Zs)
  iapply (show (iprop(owns (c : Thread nD τ) (m.slice (srect 0) (fun _ => rfl)) fullShare X ∗ owns (c : Thread nD τ) (m.slice (srect 1) (fun _ => rfl)) fullShare Y) : sProp 𝕄) ⊢ owns (c : Thread nD τ) m fullShare (Rect.glue srect sR_cover Zs) from h) $$ H

/-- the quantised copy, -/
theorem q_glue (c : Dev nD) (X : TO → Vec F S256x2048 .i8) :
    iprop(qB c 0 0 0 fullShare (X (0, 0, 0)) ∗ qB c 0 0 1 fullShare (X (0, 0, 1)) ∗ qB c 0 1 0 fullShare (X (0, 1, 0)) ∗ qB c 0 1 1 fullShare (X (0, 1, 1)) ∗ qB c 1 0 0 fullShare (X (1, 0, 0)) ∗ qB c 1 0 1 fullShare (X (1, 0, 1)) ∗ qB c 1 1 0 fullShare (X (1, 1, 0)) ∗ qB c 1 1 1 fullShare (X (1, 1, 1)) ∗ qB c 2 0 0 fullShare (X (2, 0, 0)) ∗ qB c 2 0 1 fullShare (X (2, 0, 1)) ∗ qB c 2 1 0 fullShare (X (2, 1, 0)) ∗ qB c 2 1 1 fullShare (X (2, 1, 1)) ∗ qB c 3 0 0 fullShare (X (3, 0, 0)) ∗ qB c 3 0 1 fullShare (X (3, 0, 1)) ∗ qB c 3 1 0 fullShare (X (3, 1, 0)) ∗ qB c 3 1 1 fullShare (X (3, 1, 1)))
      ⊢ iprop(∃ Z, owns (Val := Elt F) (c : Thread nD τ) qM fullShare Z) := by
  have e (t : TO) : (fun j => Rect.glue (oR c) (oR_cover c) X ((oR c t).emb j)) = X t := funext fun y => Rect.glue_emb (oR c) (oR_cover c) (oR_disjoint c) X t y
  have h := owns_of_rects (Ix := Unit) (Name := ℕ) (U := UU) (Lvl := ℕ) (Val := Elt F) (c : Thread nD τ) qM fullShare (oR c) (fun _ _ => rfl) (oR_disjoint c) (oR_cover c) (Rect.glue (oR c) (oR_cover c) X)
  simp only [e] at h
  rw [bigSep_TO] at h
  iintro H
  iexists (Rect.glue (oR c) (oR_cover c) X)
  iapply (show iprop(qB c 0 0 0 fullShare (X (0, 0, 0)) ∗ qB c 0 0 1 fullShare (X (0, 0, 1)) ∗ qB c 0 1 0 fullShare (X (0, 1, 0)) ∗ qB c 0 1 1 fullShare (X (0, 1, 1)) ∗ qB c 1 0 0 fullShare (X (1, 0, 0)) ∗ qB c 1 0 1 fullShare (X (1, 0, 1)) ∗ qB c 1 1 0 fullShare (X (1, 1, 0)) ∗ qB c 1 1 1 fullShare (X (1, 1, 1)) ∗ qB c 2 0 0 fullShare (X (2, 0, 0)) ∗ qB c 2 0 1 fullShare (X (2, 0, 1)) ∗ qB c 2 1 0 fullShare (X (2, 1, 0)) ∗ qB c 2 1 1 fullShare (X (2, 1, 1)) ∗ qB c 3 0 0 fullShare (X (3, 0, 0)) ∗ qB c 3 0 1 fullShare (X (3, 0, 1)) ∗ qB c 3 1 0 fullShare (X (3, 1, 0)) ∗ qB c 3 1 1 fullShare (X (3, 1, 1))) ⊢ owns (c : Thread nD τ) qM fullShare (Rect.glue (oR c) (oR_cover c) X) from h) $$ H

/-- the result. -/
def oval (xs : Dev nD → Vec F S4096x1024 .bf16) (ws : Dev nD → Vec F S1024x2048 .bf16) (c : Dev nD) (t : TO) : Vec F S256x2048 .bf16 :=
  if t.1 = 0 then ownv xs ws c t.2.1 t.2.2 else deqv xs ws (sh t.1.val c) t.2.1 t.2.2
def outv (xs : Dev nD → Vec F S4096x1024 .bf16) (ws : Dev nD → Vec F S1024x2048 .bf16) (c : Dev nD) : Vec F S4096x2048 .bf16 :=
  Rect.glue (oR c) (oR_cover c) (oval xs ws c)
theorem outv_emb (xs : Dev nD → Vec F S4096x1024 .bf16) (ws : Dev nD → Vec F S1024x2048 .bf16) (c : Dev nD) (t : TO) (j : S256x2048.Idx) :
    outv xs ws c ((oR c t).emb j) = oval xs ws c t j := Rect.glue_emb (oR c) (oR_cover c) (oR_disjoint c) (oval xs ws c) t j
theorem o_glue (xs : Dev nD → Vec F S4096x1024 .bf16) (ws : Dev nD → Vec F S1024x2048 .bf16) (c : Dev nD) :
    iprop(oB c 0 0 0 (ownv xs ws c 0 0) ∗ oB c 0 0 1 (ownv xs ws c 0 1) ∗ oB c 0 1 0 (ownv xs ws c 1 0) ∗ oB c 0 1 1 (ownv xs ws c 1 1) ∗ oB c 1 0 0 (deqv xs ws (sh 1 c) 0 0) ∗ oB c 1 0 1 (deqv xs ws (sh 1 c) 0 1) ∗ oB c 1 1 0 (deqv xs ws (sh 1 c) 1 0) ∗ oB c 1 1 1 (deqv xs ws (sh 1 c) 1 1) ∗ oB c 2 0 0 (deqv xs ws (sh 2 c) 0 0) ∗ oB c 2 0 1 (deqv xs ws (sh 2 c) 0 1) ∗ oB c 2 1 0 (deqv xs ws (sh 2 c) 1 0) ∗ oB c 2 1 1 (deqv xs ws (sh 2 c) 1 1) ∗ oB c 3 0 0 (deqv xs ws (sh 3 c) 0 0) ∗ oB c 3 0 1 (deqv xs ws (sh 3 c) 0 1) ∗ oB c 3 1 0 (deqv xs ws (sh 3 c) 1 0) ∗ oB c 3 1 1 (deqv xs ws (sh 3 c) 1 1))
      ⊢ owns (c : Thread nD τ) oM fullShare (outv xs ws c) := by
  have e (t : TO) : (fun j => outv xs ws c ((oR c t).emb j)) = oval xs ws c t := funext fun y => outv_emb xs ws c t y
  have h := owns_of_rects (Ix := Unit) (Name := ℕ) (U := UU) (Lvl := ℕ) (Val := Elt F) (c : Thread nD τ) oM fullShare (oR c) (fun _ _ => rfl) (oR_disjoint c) (oR_cover c) (outv xs ws c)
  simp only [e] at h
  rw [bigSep_TO] at h
  exact h

theorem sh_2_1_1 (c : Dev nD) : sh 2 (sh 1 (sh 1 c)) = c := by revert c; decide

/-! ## What is handed over at entry -/

theorem dm_rs (c d : Dev nD) (hf : Fin 2) (h : Fin 3) (s : Fin 2) (K : ℕ) (hd : dn hf d = c) (hK : st hf * (h.val + 2) % 4 = K) :
    iprop(∃ Y, oB (F := F) c K hf s Y) ⊢ dmem (F := F) d (.rs hf h s) := by
  subst hd hK; exact .rfl
theorem dm_ag (c d : Dev nD) (hf : Fin 2) (h : Fin 3) (s : Fin 2) (K : ℕ) (hd : dn hf d = c) (hK : st hf * (h.val + 1) % 4 = K) :
    iprop(∃ Y, qB (F := F) c K hf s fullShare Y) ⊢ dmem (F := F) d (.ag hf h s) := by
  subst hd hK; exact .rfl
theorem dm_am (c d : Dev nD) (kk : Fin 3) (K : ℕ) (hk : kk ≠ 1) (hd : sh (kk.val + 1) d = c) (hK : 3 - kk.val = K) :
    iprop(∃ Y, aB (F := F) c K fullShare Y) ⊢ dmem (F := F) d (.am kk) := by
  subst hd hK
  exact .of_eq (by unfold dmem; exact (if_neg hk).symm)

theorem toR_list (Φ : Snd → sProp 𝕄) : bigSep toR Φ = bigSepL [.rs 0 0 0, .rs 0 0 1, .rs 0 1 0, .rs 0 1 1, .rs 0 2 0, .rs 0 2 1, .ag 0 0 0, .ag 0 0 1, .ag 0 1 0, .ag 0 1 1, .ag 0 2 0, .ag 0 2 1, .am 0] Φ :=
  bigSep_eq_bigSepL_of_eq _ (by decide) (by decide) _

/-- What a device hands to its neighbour at entry: the blocks of its own arrays that the neighbour will write. -/
theorem payR (c : Dev nD) : iprop((∃ Y, oB (F := F) c 2 0 0 Y) ∗ (∃ Y, oB (F := F) c 2 0 1 Y) ∗ (∃ Y, oB (F := F) c 1 0 0 Y) ∗ (∃ Y, oB (F := F) c 1 0 1 Y) ∗ (∃ Y, oB (F := F) c 0 0 0 Y) ∗ (∃ Y, oB (F := F) c 0 0 1 Y) ∗ (∃ Y, qB (F := F) c 3 0 0 fullShare Y) ∗ (∃ Y, qB (F := F) c 3 0 1 fullShare Y) ∗ (∃ Y, qB (F := F) c 2 0 0 fullShare Y) ∗ (∃ Y, qB (F := F) c 2 0 1 fullShare Y) ∗ (∃ Y, qB (F := F) c 1 0 0 fullShare Y) ∗ (∃ Y, qB (F := F) c 1 0 1 fullShare Y) ∗ (∃ Y, aB (F := F) c 3 fullShare Y)) ⊢ barPay (F := F) (sh 3 c) true := by
  have hd : dn 0 (sh 3 c) = c := by revert c; decide
  have e_Ho200 : iprop(∃ Y, oB (F := F) c 2 0 0 Y) ⊢ dmem (F := F) (sh 3 c) (.rs 0 0 0) := dm_rs c _ 0 0 0 _ hd rfl
  have e_Ho201 : iprop(∃ Y, oB (F := F) c 2 0 1 Y) ⊢ dmem (F := F) (sh 3 c) (.rs 0 0 1) := dm_rs c _ 0 0 1 _ hd rfl
  have e_Ho100 : iprop(∃ Y, oB (F := F) c 1 0 0 Y) ⊢ dmem (F := F) (sh 3 c) (.rs 0 1 0) := dm_rs c _ 0 1 0 _ hd rfl
  have e_Ho101 : iprop(∃ Y, oB (F := F) c 1 0 1 Y) ⊢ dmem (F := F) (sh 3 c) (.rs 0 1 1) := dm_rs c _ 0 1 1 _ hd rfl
  have e_Ho000 : iprop(∃ Y, oB (F := F) c 0 0 0 Y) ⊢ dmem (F := F) (sh 3 c) (.rs 0 2 0) := dm_rs c _ 0 2 0 _ hd rfl
  have e_Ho001 : iprop(∃ Y, oB (F := F) c 0 0 1 Y) ⊢ dmem (F := F) (sh 3 c) (.rs 0 2 1) := dm_rs c _ 0 2 1 _ hd rfl
  have e_Hq300 : iprop(∃ Y, qB (F := F) c 3 0 0 fullShare Y) ⊢ dmem (F := F) (sh 3 c) (.ag 0 0 0) := dm_ag c _ 0 0 0 _ hd rfl
  have e_Hq301 : iprop(∃ Y, qB (F := F) c 3 0 1 fullShare Y) ⊢ dmem (F := F) (sh 3 c) (.ag 0 0 1) := dm_ag c _ 0 0 1 _ hd rfl
  have e_Hq200 : iprop(∃ Y, qB (F := F) c 2 0 0 fullShare Y) ⊢ dmem (F := F) (sh 3 c) (.ag 0 1 0) := dm_ag c _ 0 1 0 _ hd rfl
  have e_Hq201 : iprop(∃ Y, qB (F := F) c 2 0 1 fullShare Y) ⊢ dmem (F := F) (sh 3 c) (.ag 0 1 1) := dm_ag c _ 0 1 1 _ hd rfl
  have e_Hq100 : iprop(∃ Y, qB (F := F) c 1 0 0 fullShare Y) ⊢ dmem (F := F) (sh 3 c) (.ag 0 2 0) := dm_ag c _ 0 2 0 _ hd rfl
  have e_Hq101 : iprop(∃ Y, qB (F := F) c 1 0 1 fullShare Y) ⊢ dmem (F := F) (sh 3 c) (.ag 0 2 1) := dm_ag c _ 0 2 1 _ hd rfl
  have e_Ha3 : iprop(∃ Y, aB (F := F) c 3 fullShare Y) ⊢ dmem (F := F) (sh 3 c) (.am 0) := dm_am c _ 0 _ (by decide) (sh_1_3 c) rfl
  have hl : bigSepL [.rs 0 0 0, .rs 0 0 1, .rs 0 1 0, .rs 0 1 1, .rs 0 2 0, .rs 0 2 1, .ag 0 0 0, .ag 0 0 1, .ag 0 1 0, .ag 0 1 1, .ag 0 2 0, .ag 0 2 1, .am 0] (fun x => dmem (F := F) (sh 3 c) x) = iprop(dmem (F := F) (sh 3 c) (.rs 0 0 0) ∗ dmem (F := F) (sh 3 c) (.rs 0 0 1) ∗ dmem (F := F) (sh 3 c) (.rs 0 1 0) ∗ dmem (F := F) (sh 3 c) (.rs 0 1 1) ∗ dmem (F := F) (sh 3 c) (.rs 0 2 0) ∗ dmem (F := F) (sh 3 c) (.rs 0 2 1) ∗ dmem (F := F) (sh 3 c) (.ag 0 0 0) ∗ dmem (F := F) (sh 3 c) (.ag 0 0 1) ∗ dmem (F := F) (sh 3 c) (.ag 0 1 0) ∗ dmem (F := F) (sh 3 c) (.ag 0 1 1) ∗ dmem (F := F) (sh 3 c) (.ag 0 2 0) ∗ dmem (F := F) (sh 3 c) (.ag 0 2 1) ∗ dmem (F := F) (sh 3 c) (.am 0)) := rfl
  show _ ⊢ bigSep toR fun x => dmem (F := F) (sh 3 c) x
  rw [toR_list, hl]
  iintro ⟨Ho200, Ho201, Ho100, Ho101, Ho000, Ho001, Hq300, Hq301, Hq200, Hq201, Hq100, Hq101, Ha3⟩
  isplitl [Ho200]; · iapply e_Ho200 $$ Ho200
  isplitl [Ho201]; · iapply e_Ho201 $$ Ho201
  isplitl [Ho100]; · iapply e_Ho100 $$ Ho100
  isplitl [Ho101]; · iapply e_Ho101 $$ Ho101
  isplitl [Ho000]; · iapply e_Ho000 $$ Ho000
  isplitl [Ho001]; · iapply e_Ho001 $$ Ho001
  isplitl [Hq300]; · iapply e_Hq300 $$ Hq300
  isplitl [Hq301]; · iapply e_Hq301 $$ Hq301
  isplitl [Hq200]; · iapply e_Hq200 $$ Hq200
  isplitl [Hq201]; · iapply e_Hq201 $$ Hq201
  isplitl [Hq100]; · iapply e_Hq100 $$ Hq100
  isplitl [Hq101]; · iapply e_Hq101 $$ Hq101
  iapply e_Ha3 $$ Ha3

theorem toL_list (Φ : Snd → sProp 𝕄) : bigSep toL Φ = bigSepL [.rs 1 0 0, .rs 1 0 1, .rs 1 1 0, .rs 1 1 1, .rs 1 2 0, .rs 1 2 1, .ag 1 0 0, .ag 1 0 1, .ag 1 1 0, .ag 1 1 1, .ag 1 2 0, .ag 1 2 1, .am 1, .am 2] Φ :=
  bigSep_eq_bigSepL_of_eq _ (by decide) (by decide) _

/-- What a device hands to its neighbour at entry: the blocks of its own arrays that the neighbour will write. -/
theorem payL (c : Dev nD) : iprop((∃ Y, oB (F := F) c 2 1 0 Y) ∗ (∃ Y, oB (F := F) c 2 1 1 Y) ∗ (∃ Y, oB (F := F) c 3 1 0 Y) ∗ (∃ Y, oB (F := F) c 3 1 1 Y) ∗ (∃ Y, oB (F := F) c 0 1 0 Y) ∗ (∃ Y, oB (F := F) c 0 1 1 Y) ∗ (∃ Y, qB (F := F) c 1 1 0 fullShare Y) ∗ (∃ Y, qB (F := F) c 1 1 1 fullShare Y) ∗ (∃ Y, qB (F := F) c 2 1 0 fullShare Y) ∗ (∃ Y, qB (F := F) c 2 1 1 fullShare Y) ∗ (∃ Y, qB (F := F) c 3 1 0 fullShare Y) ∗ (∃ Y, qB (F := F) c 3 1 1 fullShare Y) ∗ (∃ Y, aB (F := F) c 1 fullShare Y) ∗ (∃ Y, aB (F := F) c 2 fullShare Y)) ⊢ barPay (F := F) (sh 1 c) false := by
  have hd : dn 1 (sh 1 c) = c := by revert c; decide
  have e_Ho210 : iprop(∃ Y, oB (F := F) c 2 1 0 Y) ⊢ dmem (F := F) (sh 1 c) (.rs 1 0 0) := dm_rs c _ 1 0 0 _ hd rfl
  have e_Ho211 : iprop(∃ Y, oB (F := F) c 2 1 1 Y) ⊢ dmem (F := F) (sh 1 c) (.rs 1 0 1) := dm_rs c _ 1 0 1 _ hd rfl
  have e_Ho310 : iprop(∃ Y, oB (F := F) c 3 1 0 Y) ⊢ dmem (F := F) (sh 1 c) (.rs 1 1 0) := dm_rs c _ 1 1 0 _ hd rfl
  have e_Ho311 : iprop(∃ Y, oB (F := F) c 3 1 1 Y) ⊢ dmem (F := F) (sh 1 c) (.rs 1 1 1) := dm_rs c _ 1 1 1 _ hd rfl
  have e_Ho010 : iprop(∃ Y, oB (F := F) c 0 1 0 Y) ⊢ dmem (F := F) (sh 1 c) (.rs 1 2 0) := dm_rs c _ 1 2 0 _ hd rfl
  have e_Ho011 : iprop(∃ Y, oB (F := F) c 0 1 1 Y) ⊢ dmem (F := F) (sh 1 c) (.rs 1 2 1) := dm_rs c _ 1 2 1 _ hd rfl
  have e_Hq110 : iprop(∃ Y, qB (F := F) c 1 1 0 fullShare Y) ⊢ dmem (F := F) (sh 1 c) (.ag 1 0 0) := dm_ag c _ 1 0 0 _ hd rfl
  have e_Hq111 : iprop(∃ Y, qB (F := F) c 1 1 1 fullShare Y) ⊢ dmem (F := F) (sh 1 c) (.ag 1 0 1) := dm_ag c _ 1 0 1 _ hd rfl
  have e_Hq210 : iprop(∃ Y, qB (F := F) c 2 1 0 fullShare Y) ⊢ dmem (F := F) (sh 1 c) (.ag 1 1 0) := dm_ag c _ 1 1 0 _ hd rfl
  have e_Hq211 : iprop(∃ Y, qB (F := F) c 2 1 1 fullShare Y) ⊢ dmem (F := F) (sh 1 c) (.ag 1 1 1) := dm_ag c _ 1 1 1 _ hd rfl
  have e_Hq310 : iprop(∃ Y, qB (F := F) c 3 1 0 fullShare Y) ⊢ dmem (F := F) (sh 1 c) (.ag 1 2 0) := dm_ag c _ 1 2 0 _ hd rfl
  have e_Hq311 : iprop(∃ Y, qB (F := F) c 3 1 1 fullShare Y) ⊢ dmem (F := F) (sh 1 c) (.ag 1 2 1) := dm_ag c _ 1 2 1 _ hd rfl
  have e_am1 : iprop(emp) ⊢ dmem (F := F) (sh 1 c) (.am 1) := .rfl
  have e_Ha1 : iprop(∃ Y, aB (F := F) c 1 fullShare Y) ⊢ dmem (F := F) (sh 1 c) (.am 2) := dm_am c _ 2 _ (by decide) (sh_3_1 c) rfl
  have hl : bigSepL [.rs 1 0 0, .rs 1 0 1, .rs 1 1 0, .rs 1 1 1, .rs 1 2 0, .rs 1 2 1, .ag 1 0 0, .ag 1 0 1, .ag 1 1 0, .ag 1 1 1, .ag 1 2 0, .ag 1 2 1, .am 1, .am 2] (fun x => dmem (F := F) (sh 1 c) x) = iprop(dmem (F := F) (sh 1 c) (.rs 1 0 0) ∗ dmem (F := F) (sh 1 c) (.rs 1 0 1) ∗ dmem (F := F) (sh 1 c) (.rs 1 1 0) ∗ dmem (F := F) (sh 1 c) (.rs 1 1 1) ∗ dmem (F := F) (sh 1 c) (.rs 1 2 0) ∗ dmem (F := F) (sh 1 c) (.rs 1 2 1) ∗ dmem (F := F) (sh 1 c) (.ag 1 0 0) ∗ dmem (F := F) (sh 1 c) (.ag 1 0 1) ∗ dmem (F := F) (sh 1 c) (.ag 1 1 0) ∗ dmem (F := F) (sh 1 c) (.ag 1 1 1) ∗ dmem (F := F) (sh 1 c) (.ag 1 2 0) ∗ dmem (F := F) (sh 1 c) (.ag 1 2 1) ∗ dmem (F := F) (sh 1 c) (.am 1) ∗ dmem (F := F) (sh 1 c) (.am 2)) := rfl
  show _ ⊢ iprop((bigSep toL fun x => dmem (F := F) (sh 1 c) x) ∗ fwd (F := F) (sh 1 (sh 1 c)))
  rw [toL_list, hl]
  iintro ⟨Ho210, Ho211, Ho310, Ho311, Ho010, Ho011, Hq110, Hq111, Hq210, Hq211, Hq310, Hq311, Ha1, Ha2⟩
  have e_Ha2 : iprop(∃ Y, aB (F := F) c 2 fullShare Y) ⊢ fwd (F := F) (sh 1 (sh 1 c)) := by unfold fwd; rw [sh_2_1_1 c]
  isplitr [Ha2]
  · isplitl [Ho210]; · iapply e_Ho210 $$ Ho210
    isplitl [Ho211]; · iapply e_Ho211 $$ Ho211
    isplitl [Ho310]; · iapply e_Ho310 $$ Ho310
    isplitl [Ho311]; · iapply e_Ho311 $$ Ho311
    isplitl [Ho010]; · iapply e_Ho010 $$ Ho010
    isplitl [Ho011]; · iapply e_Ho011 $$ Ho011
    isplitl [Hq110]; · iapply e_Hq110 $$ Hq110
    isplitl [Hq111]; · iapply e_Hq111 $$ Hq111
    isplitl [Hq210]; · iapply e_Hq210 $$ Hq210
    isplitl [Hq211]; · iapply e_Hq211 $$ Hq211
    isplitl [Hq310]; · iapply e_Hq310 $$ Hq310
    isplitl [Hq311]; · iapply e_Hq311 $$ Hq311
    isplitr; · iapply e_am1; iempintro
    iapply e_Ha1 $$ Ha1
  · iapply e_Ha2 $$ Ha2

end Cert.RingProof
-- ==== Proof.Offs.lean ====
/-
Where the kernel's offsets and its peers lie, for every device.
-/
module

public import proofs.«01_k».proof.Proof.Vals

@[expose] public section

noncomputable section

namespace Cert.RingProof

open Cert.KernelIdeal Cert.KernelIdeal.Gen
open Idealize.ShloMosaic Idealize.ShloMosaic.TcCoe

theorem of1_0 (c : Dev nD) : k0_off1 c 0#32 = xoff (sh 3 c) 0 0 := by revert c; decide
theorem of2_1_0 (c : Dev nD) : k0_off2 c 1#32 0#32 = xoff (sh 3 c) 0 0 := by revert c; decide
theorem of3_0 (c : Dev nD) : k0_off3 c 0#32 = xoff (sh 1 c) 1 0 := by revert c; decide
theorem of4_1_0 (c : Dev nD) : k0_off4 c 1#32 0#32 = xoff (sh 1 c) 1 0 := by revert c; decide
theorem of1_1 (c : Dev nD) : k0_off1 c 256#32 = xoff (sh 3 c) 0 1 := by revert c; decide
theorem of2_1_1 (c : Dev nD) : k0_off2 c 1#32 256#32 = xoff (sh 3 c) 0 1 := by revert c; decide
theorem of3_1 (c : Dev nD) : k0_off3 c 256#32 = xoff (sh 1 c) 1 1 := by revert c; decide
theorem of4_1_1 (c : Dev nD) : k0_off4 c 1#32 256#32 = xoff (sh 1 c) 1 1 := by revert c; decide
theorem of5_0_0 (c : Dev nD) : k0_off5 c 0#32 0#32 = xoff (sh 2 c) 0 0 := by revert c; decide
theorem of6_0_0 (c : Dev nD) : k0_off6 c 0#32 0#32 = xoff (sh 2 c) 1 0 := by revert c; decide
theorem of5_0_1 (c : Dev nD) : k0_off5 c 0#32 256#32 = xoff (sh 2 c) 0 1 := by revert c; decide
theorem of6_0_1 (c : Dev nD) : k0_off6 c 0#32 256#32 = xoff (sh 2 c) 1 1 := by revert c; decide
theorem of9_0_2_0 (c : Dev nD) : k0_off9 c 0#32 2#32 0#32 = xoff (sh 2 c) 0 0 := by revert c; decide
theorem of10_0_2_0 (c : Dev nD) : k0_off10 c 0#32 2#32 0#32 = xoff (sh 2 c) 1 0 := by revert c; decide
theorem of7_0_2_0 (c : Dev nD) : k0_off7 c 0#32 2#32 0#32 = xoff (sh 2 c) 0 0 := by revert c; decide
theorem of8_0_2_0 (c : Dev nD) : k0_off8 c 0#32 2#32 0#32 = xoff (sh 2 c) 1 0 := by revert c; decide
theorem of9_0_2_1 (c : Dev nD) : k0_off9 c 0#32 2#32 256#32 = xoff (sh 2 c) 0 1 := by revert c; decide
theorem of10_0_2_1 (c : Dev nD) : k0_off10 c 0#32 2#32 256#32 = xoff (sh 2 c) 1 1 := by revert c; decide
theorem of7_0_2_1 (c : Dev nD) : k0_off7 c 0#32 2#32 256#32 = xoff (sh 2 c) 0 1 := by revert c; decide
theorem of8_0_2_1 (c : Dev nD) : k0_off8 c 0#32 2#32 256#32 = xoff (sh 2 c) 1 1 := by revert c; decide
theorem of5_1_0 (c : Dev nD) : k0_off5 c 1#32 0#32 = xoff (sh 1 c) 0 0 := by revert c; decide
theorem of6_1_0 (c : Dev nD) : k0_off6 c 1#32 0#32 = xoff (sh 3 c) 1 0 := by revert c; decide
theorem of5_1_1 (c : Dev nD) : k0_off5 c 1#32 256#32 = xoff (sh 1 c) 0 1 := by revert c; decide
theorem of6_1_1 (c : Dev nD) : k0_off6 c 1#32 256#32 = xoff (sh 3 c) 1 1 := by revert c; decide
theorem of9_1_2_0 (c : Dev nD) : k0_off9 c 1#32 2#32 0#32 = xoff (sh 1 c) 0 0 := by revert c; decide
theorem of10_1_2_0 (c : Dev nD) : k0_off10 c 1#32 2#32 0#32 = xoff (sh 3 c) 1 0 := by revert c; decide
theorem of7_1_2_0 (c : Dev nD) : k0_off7 c 1#32 2#32 0#32 = xoff (sh 1 c) 0 0 := by revert c; decide
theorem of8_1_2_0 (c : Dev nD) : k0_off8 c 1#32 2#32 0#32 = xoff (sh 3 c) 1 0 := by revert c; decide
theorem of9_1_2_1 (c : Dev nD) : k0_off9 c 1#32 2#32 256#32 = xoff (sh 1 c) 0 1 := by revert c; decide
theorem of10_1_2_1 (c : Dev nD) : k0_off10 c 1#32 2#32 256#32 = xoff (sh 3 c) 1 1 := by revert c; decide
theorem of7_1_2_1 (c : Dev nD) : k0_off7 c 1#32 2#32 256#32 = xoff (sh 1 c) 0 1 := by revert c; decide
theorem of8_1_2_1 (c : Dev nD) : k0_off8 c 1#32 2#32 256#32 = xoff (sh 3 c) 1 1 := by revert c; decide
theorem of11_0 (c : Dev nD) : k0_off11 c 0#32 = xoff (sh 0 c) 0 0 := by revert c; decide
theorem of12_0 (c : Dev nD) : k0_off12 c 0#32 = xoff (sh 0 c) 1 0 := by revert c; decide
theorem of11_1 (c : Dev nD) : k0_off11 c 256#32 = xoff (sh 0 c) 0 1 := by revert c; decide
theorem of12_1 (c : Dev nD) : k0_off12 c 256#32 = xoff (sh 0 c) 1 1 := by revert c; decide
theorem of15_0 (c : Dev nD) : k0_off15 c 0#32 = xoff (sh 0 c) 0 0 := by revert c; decide
theorem of16_0 (c : Dev nD) : k0_off16 c 0#32 = xoff (sh 0 c) 1 0 := by revert c; decide
theorem of15_1 (c : Dev nD) : k0_off15 c 256#32 = xoff (sh 0 c) 0 1 := by revert c; decide
theorem of16_1 (c : Dev nD) : k0_off16 c 256#32 = xoff (sh 0 c) 1 1 := by revert c; decide
theorem of17 (c : Dev nD) : k0_off17 c = aoff (sh 0 c) := by revert c; decide
theorem of18 (c : Dev nD) : k0_off18 c = aoff c := by revert c; decide
theorem of2_0_0 (c : Dev nD) : k0_off2 c 0#32 0#32 = xoff (sh 0 c) 0 0 := by revert c; decide
theorem of4_0_0 (c : Dev nD) : k0_off4 c 0#32 0#32 = xoff (sh 0 c) 1 0 := by revert c; decide
theorem of2_0_1 (c : Dev nD) : k0_off2 c 0#32 256#32 = xoff (sh 0 c) 0 1 := by revert c; decide
theorem of4_0_1 (c : Dev nD) : k0_off4 c 0#32 256#32 = xoff (sh 0 c) 1 1 := by revert c; decide
theorem of9_0_1_0 (c : Dev nD) : k0_off9 c 0#32 1#32 0#32 = xoff (sh 3 c) 0 0 := by revert c; decide
theorem of10_0_1_0 (c : Dev nD) : k0_off10 c 0#32 1#32 0#32 = xoff (sh 1 c) 1 0 := by revert c; decide
theorem of9_0_1_1 (c : Dev nD) : k0_off9 c 0#32 1#32 256#32 = xoff (sh 3 c) 0 1 := by revert c; decide
theorem of10_0_1_1 (c : Dev nD) : k0_off10 c 0#32 1#32 256#32 = xoff (sh 1 c) 1 1 := by revert c; decide
theorem of2_2_0 (c : Dev nD) : k0_off2 c 2#32 0#32 = xoff (sh 2 c) 0 0 := by revert c; decide
theorem of4_2_0 (c : Dev nD) : k0_off4 c 2#32 0#32 = xoff (sh 2 c) 1 0 := by revert c; decide
theorem of9_1_1_0 (c : Dev nD) : k0_off9 c 1#32 1#32 0#32 = xoff (sh 2 c) 0 0 := by revert c; decide
theorem of10_1_1_0 (c : Dev nD) : k0_off10 c 1#32 1#32 0#32 = xoff (sh 2 c) 1 0 := by revert c; decide
theorem of2_2_1 (c : Dev nD) : k0_off2 c 2#32 256#32 = xoff (sh 2 c) 0 1 := by revert c; decide
theorem of4_2_1 (c : Dev nD) : k0_off4 c 2#32 256#32 = xoff (sh 2 c) 1 1 := by revert c; decide
theorem of9_1_1_1 (c : Dev nD) : k0_off9 c 1#32 1#32 256#32 = xoff (sh 2 c) 0 1 := by revert c; decide
theorem of10_1_1_1 (c : Dev nD) : k0_off10 c 1#32 1#32 256#32 = xoff (sh 2 c) 1 1 := by revert c; decide
theorem of9_2_1_0 (c : Dev nD) : k0_off9 c 2#32 1#32 0#32 = xoff (sh 1 c) 0 0 := by revert c; decide
theorem of10_2_1_0 (c : Dev nD) : k0_off10 c 2#32 1#32 0#32 = xoff (sh 3 c) 1 0 := by revert c; decide
theorem of9_2_1_1 (c : Dev nD) : k0_off9 c 2#32 1#32 256#32 = xoff (sh 1 c) 0 1 := by revert c; decide
theorem of10_2_1_1 (c : Dev nD) : k0_off10 c 2#32 1#32 256#32 = xoff (sh 3 c) 1 1 := by revert c; decide
theorem dv1 (c : Dev nD) : (⟨k0_dev1 c, k0_dev1_lt c⟩ : Dev nD) = sh 3 c := by revert c; decide
theorem dv2 (c : Dev nD) : (⟨k0_dev2 c, k0_dev2_lt c⟩ : Dev nD) = sh 1 c := by revert c; decide
theorem dv3 (c : Dev nD) : (⟨k0_dev3 c, k0_dev3_lt c⟩ : Dev nD) = dn 0 c := by revert c; decide
theorem dv4 (c : Dev nD) : (⟨k0_dev4 c, k0_dev4_lt c⟩ : Dev nD) = dn 1 c := by revert c; decide
theorem dv5 (c : Dev nD) : (⟨k0_dev5 c, k0_dev5_lt c⟩ : Dev nD) = dn 0 c := by revert c; decide
theorem dv6 (c : Dev nD) : (⟨k0_dev6 c, k0_dev6_lt c⟩ : Dev nD) = dn 1 c := by revert c; decide
theorem dv7 (c : Dev nD) : (⟨k0_dev7 c, k0_dev7_lt c⟩ : Dev nD) = dn 0 c := by revert c; decide
theorem dv8 (c : Dev nD) : (⟨k0_dev8 c, k0_dev8_lt c⟩ : Dev nD) = dn 1 c := by revert c; decide
theorem dv9 (c : Dev nD) : (⟨k0_dev9 c, k0_dev9_lt c⟩ : Dev nD) = dn 0 c := by revert c; decide
theorem dv10 (c : Dev nD) : (⟨k0_dev10 c, k0_dev10_lt c⟩ : Dev nD) = dn 1 c := by revert c; decide
theorem dv11 (c : Dev nD) : (⟨k0_dev11 c, k0_dev11_lt c⟩ : Dev nD) = dn 0 c := by revert c; decide
theorem dv12 (c : Dev nD) : (⟨k0_dev12 c, k0_dev12_lt c⟩ : Dev nD) = dn 1 c := by revert c; decide
theorem dv13 (c : Dev nD) : (⟨k0_dev13 c, k0_dev13_lt c⟩ : Dev nD) = dn 0 c := by revert c; decide
theorem dv14 (c : Dev nD) : (⟨k0_dev14 c, k0_dev14_lt c⟩ : Dev nD) = dn 1 c := by revert c; decide
theorem dv15 (c : Dev nD) : (⟨k0_dev15 c, k0_dev15_lt c⟩ : Dev nD) = sh 1 c := by revert c; decide
theorem dv16 (c : Dev nD) : (⟨k0_dev16 c, k0_dev16_lt c⟩ : Dev nD) = sh 2 c := by revert c; decide
theorem dv17 (c : Dev nD) : (⟨k0_dev17 c, k0_dev17_lt c⟩ : Dev nD) = sh 3 c := by revert c; decide
theorem dv18 (c : Dev nD) : (⟨k0_dev18 c, k0_dev18_lt c⟩ : Dev nD) = dn 0 c := by revert c; decide
theorem dv19 (c : Dev nD) : (⟨k0_dev19 c, k0_dev19_lt c⟩ : Dev nD) = dn 1 c := by revert c; decide
theorem dv20 (c : Dev nD) : (⟨k0_dev20 c, k0_dev20_lt c⟩ : Dev nD) = dn 0 c := by revert c; decide
theorem dv21 (c : Dev nD) : (⟨k0_dev21 c, k0_dev21_lt c⟩ : Dev nD) = dn 1 c := by revert c; decide
theorem dv22 (c : Dev nD) : (⟨k0_dev22 c, k0_dev22_lt c⟩ : Dev nD) = dn 0 c := by revert c; decide
theorem dv23 (c : Dev nD) : (⟨k0_dev23 c, k0_dev23_lt c⟩ : Dev nD) = dn 1 c := by revert c; decide
theorem dv24 (c : Dev nD) : (⟨k0_dev24 c, k0_dev24_lt c⟩ : Dev nD) = dn 0 c := by revert c; decide
theorem dv25 (c : Dev nD) : (⟨k0_dev25 c, k0_dev25_lt c⟩ : Dev nD) = dn 1 c := by revert c; decide
theorem dv26 (c : Dev nD) : (⟨k0_dev26 c, k0_dev26_lt c⟩ : Dev nD) = dn 0 c := by revert c; decide
theorem dv27 (c : Dev nD) : (⟨k0_dev27 c, k0_dev27_lt c⟩ : Dev nD) = dn 1 c := by revert c; decide
theorem dv28 (c : Dev nD) : (⟨k0_dev28 c, k0_dev28_lt c⟩ : Dev nD) = dn 0 c := by revert c; decide
theorem dv29 (c : Dev nD) : (⟨k0_dev29 c, k0_dev29_lt c⟩ : Dev nD) = dn 1 c := by revert c; decide

end Cert.RingProof
-- ==== Proof.Parts1.lean ====
/-
What each stretch of the kernel does to the blocks a device holds.
-/
module

public import proofs.«01_k».proof.Proof.Blocks
public import proofs.«01_k».proof.Proof.Offs

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
variable (xs : Dev nD → Vec F S4096x1024 .bf16) (ws : Dev nD → Vec F S1024x2048 .bf16)

theorem part1 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) {Q : _ → sProp 𝕄} :
    iprop(P0 xs ws c 0 ∗ barPay (F := F) (sh 3 c) true ∗ barPay (F := F) (sh 1 c) false)
      ⊢ iprop((∀ r0 : BitVec 32, ∀ r1 : BitVec 32, ∀ r2 : BitVec 32, ∀ r3 : BitVec 32, ∀ r4 : BitVec 32, P0 xs ws c 2 -∗ Q ⟨c, r0, r1, r2, (SemArray.scalar (sig.barrier 0 rfl)), r3, r4⟩)
        -∗ wp frame (wpE (defs₀ (F := F)) 𝒱₀ (c : Thread nD τ) none) Set.univ (k0_part1 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15) Q) := by
  rw [k0_part1_eq_skeleton]; unfold k0_part1_skel
  simp only [semSignalWord, semWaitWord, Prog.lift, Prog.bind_op, Prog.bind_ret, Prog.pure_eq_ret, wp_deviceId]
  iintro ⟨HP, Hbp1, Hbp0⟩ Hk
  iapply (step_signal0 xs ws c (dv1 c)) $$ [HP Hbp1]
  · isplitl [HP]; · iexact HP
    iexact Hbp1
  iintro HP
  iapply (step_signal1 xs ws c (dv2 c)) $$ [HP Hbp0]
  · isplitl [HP]; · iexact HP
    iexact Hbp0
  iintro HP
  rw [wp_ret]; imodintro
  iapply Hk $$ [HP]
  iexact HP

theorem part2 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v2 : BitVec 32) (v31 : BitVec 32) (c1_i32_21 : BitVec 32) {Xs00 : Vec F S256x2048 .bf16} {Q : _ → sProp 𝕄} :
    iprop(P0 xs ws c 2 ∗ xB c (xs c) ∗ wB c (ws c) ∗ sB c 0 0 Xs00)
      ⊢ iprop((∀ r0 : BitVec 32, ∀ r1 : BitVec 32, ∀ r2 : BitVec 32, (P xs ws c 0 1 ∗ xB c (xs c) ∗ wB c (ws c) ∗ sB c 0 0 (rsv xs ws 0 0 c 0) ∗ fwd (F := F) (sh 1 c)) -∗ Q ⟨r0, r1, r2⟩)
        -∗ wp frame (wpE (defs₀ (F := F)) 𝒱₀ (c : Thread nD τ) none) Set.univ (k0_part2 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v2 (SemArray.scalar (sig.barrier 0 rfl)) v31 c1_i32_21) Q) := by
  rw [k0_part2_eq_skeleton]; unfold k0_part2_skel
  simp only [semSignalWord, semWaitWord, Prog.lift, Prog.bind_op, Prog.bind_ret, Prog.pure_eq_ret, wp_deviceId]
  iintro ⟨HP, Hx, Hw, Hs00⟩ Hk
  iapply (ld_x c (sh 3 c) 0 0 (of1_0 c)) $$ Hx
  iintro Hx
  iapply (ld_w c) $$ Hw
  iintro Hw
  iapply (ld_s c 0 0 rfl rfl) $$ Hs00
  iintro Hs00
  iapply (st_s c 0 0 (Y := rsv xs ws 0 0 c 0) rfl rfl (show k0_pay1 (slab (xs c) (sh 3 c) 0 0) (ws c) = rsv xs ws 0 0 c 0 from pay1_eq _ _)) $$ Hs00
  iintro Hs00
  iapply (step_bar xs ws c) $$ HP
  iintro HP Hfwd1
  rw [wp_ret]; imodintro
  iapply Hk $$ [HP Hx Hw Hs00 Hfwd1]
  isplitl [HP]; · iexact HP
  isplitl [Hx]; · iexact Hx
  isplitl [Hw]; · iexact Hw
  isplitl [Hs00]; · iexact Hs00
  iexact Hfwd1

theorem part3 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v14 : BitVec 32) (v25 : BitVec 32) (v42 : BitVec 32) (v53 : BitVec 32) (c1024_i32_40 : BitVec 32) {Xs10 : Vec F S256x2048 .bf16} {Q : _ → sProp 𝕄} :
    iprop(P xs ws c 0 1 ∗ sB c 0 0 (rsv xs ws 0 0 c 0) ∗ fwd (F := F) (sh 1 c) ∗ xB c (xs c) ∗ wB c (ws c) ∗ sB c 1 0 Xs10)
      ⊢ iprop(((P xs ws c 1 1 ∗ xB c (xs c) ∗ wB c (ws c) ∗ sB c 1 0 (rsv xs ws 1 0 c 0)) -∗ Q ⟨⟩)
        -∗ wp frame (wpE (defs₀ (F := F)) 𝒱₀ (c : Thread nD τ) none) Set.univ (k0_part3 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v14 v25 v42 v53 c1024_i32_40) Q) := by
  rw [k0_part3_eq_skeleton]; unfold k0_part3_skel
  simp only [semSignalWord, semWaitWord, Prog.lift, Prog.bind_op, Prog.bind_ret, Prog.pure_eq_ret, wp_deviceId]
  iintro ⟨HP, Hs00, Hfwd1, Hx, Hw, Hs10⟩ Hk
  iapply (send_rs0 (n := 0) (w := 1) xs ws c rfl (by decide) rfl rfl (of2_1_0 c) (dv3 c) rfl rfl) $$ [HP Hs00 Hfwd1]
  · isplitl [HP]; · iexact HP
    isplitl [Hs00]; · iexact Hs00
    iexact Hfwd1
  iintro HP
  iapply (ld_x c (sh 1 c) 1 0 (of3_0 c)) $$ Hx
  iintro Hx
  iapply (ld_w c) $$ Hw
  iintro Hw
  iapply (ld_s c 1 0 rfl rfl) $$ Hs10
  iintro Hs10
  iapply (st_s c 1 0 (Y := rsv xs ws 1 0 c 0) rfl rfl (show k0_pay2 (slab (xs c) (sh 1 c) 1 0) (ws c) = rsv xs ws 1 0 c 0 from pay2_eq _ _)) $$ Hs10
  iintro Hs10
  rw [wp_ret]; imodintro
  iapply Hk $$ [HP Hx Hw Hs10]
  isplitl [HP]; · iexact HP
  isplitl [Hx]; · iexact Hx
  isplitl [Hw]; · iexact Hw
  iexact Hs10

theorem part4 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v25 : BitVec 32) (v42 : BitVec 32) (v53 : BitVec 32) {Xs01 : Vec F S256x2048 .bf16} {Q : _ → sProp 𝕄} :
    iprop(P xs ws c 1 1 ∗ sB c 1 0 (rsv xs ws 1 0 c 0) ∗ xB c (xs c) ∗ wB c (ws c) ∗ sB c 0 1 Xs01)
      ⊢ iprop(((P xs ws c 3 1 ∗ xB c (xs c) ∗ wB c (ws c)) -∗ Q (slab (xs c) (sh 1 c) 1 1))
        -∗ wp frame (wpE (defs₀ (F := F)) 𝒱₀ (c : Thread nD τ) none) Set.univ (k0_part4 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v25 v42 v53) Q) := by
  rw [k0_part4_eq_skeleton]; unfold k0_part4_skel
  simp only [semSignalWord, semWaitWord, Prog.lift, Prog.bind_op, Prog.bind_ret, Prog.pure_eq_ret, wp_deviceId]
  iintro ⟨HP, Hs10, Hx, Hw, Hs01⟩ Hk
  iapply (send_rs1 (n := 1) (w := 1) xs ws c 1 0 0 (by decide) rfl (by decide) rfl rfl (K := 1) rfl (of4_1_0 c) (dv4 c) rfl rfl) $$ [HP Hs10]
  · isplitl [HP]; · iexact HP
    iexact Hs10
  iintro HP
  iapply (ld_x c (sh 3 c) 0 1 (of1_1 c)) $$ Hx
  iintro Hx
  iapply (ld_w c) $$ Hw
  iintro Hw
  iapply (ld_s c 0 1 rfl rfl) $$ Hs01
  iintro Hs01
  iapply (st_s c 0 1 (Y := rsv xs ws 0 0 c 1) rfl rfl (show k0_pay3 (slab (xs c) (sh 3 c) 0 1) (ws c) = rsv xs ws 0 0 c 1 from pay3_eq _ _)) $$ Hs01
  iintro Hs01
  iapply (send_rs1 (n := 2) (w := 1) xs ws c 0 0 1 (by decide) rfl (by decide) rfl rfl (K := 3) rfl (of2_1_1 c) (dv5 c) rfl rfl) $$ [HP Hs01]
  · isplitl [HP]; · iexact HP
    iexact Hs01
  iintro HP
  iapply (ld_x c (sh 1 c) 1 1 (of3_1 c)) $$ Hx
  iintro Hx
  rw [wp_ret]; imodintro
  iapply Hk $$ [HP Hx Hw]
  isplitl [HP]; · iexact HP
  isplitl [Hx]; · iexact Hx
  iexact Hw

theorem part5 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v2 : BitVec 32) (v14 : BitVec 32) (v53 : BitVec 32) {Xs11 : Vec F S256x2048 .bf16} {Q : _ → sProp 𝕄} :
    iprop(P xs ws c 3 1 ∗ wB c (ws c) ∗ sB c 1 1 Xs11)
      ⊢ iprop((∀ r0 : BitVec 32, (P xs ws c 4 1 ∗ wB c (ws c)) -∗ Q r0)
        -∗ wp frame (wpE (defs₀ (F := F)) 𝒱₀ (c : Thread nD τ) none) Set.univ (k0_part5 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v2 v14 v53 (slab (xs c) (sh 1 c) 1 1)) Q) := by
  rw [k0_part5_eq_skeleton]; unfold k0_part5_skel
  simp only [semSignalWord, semWaitWord, Prog.lift, Prog.bind_op, Prog.bind_ret, Prog.pure_eq_ret, wp_deviceId]
  iintro ⟨HP, Hw, Hs11⟩ Hk
  iapply (ld_w c) $$ Hw
  iintro Hw
  iapply (ld_s c 1 1 rfl rfl) $$ Hs11
  iintro Hs11
  iapply (st_s c 1 1 (Y := rsv xs ws 1 0 c 1) rfl rfl (show k0_pay4 (slab (xs c) (sh 1 c) 1 1) (ws c) = rsv xs ws 1 0 c 1 from pay4_eq _ _)) $$ Hs11
  iintro Hs11
  iapply (send_rs1 (n := 3) (w := 1) xs ws c 1 0 1 (by decide) rfl (by decide) rfl rfl (K := 1) rfl (of4_1_1 c) (dv6 c) rfl rfl) $$ [HP Hs11]
  · isplitl [HP]; · iexact HP
    iexact Hs11
  iintro HP
  rw [wp_ret]; imodintro
  iapply Hk $$ [HP Hw]
  isplitl [HP]; · iexact HP
  iexact Hw

theorem part6 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v2 : BitVec 32) (v158 : BitVec 32) {Xp00 : Vec F S256x2048 .bf16} {Q : _ → sProp 𝕄} :
    iprop(xB c (xs c) ∗ wB c (ws c) ∗ pB c 0 0 Xp00)
      ⊢ iprop((∀ r0 : BitVec 32, (xB c (xs c) ∗ wB c (ws c) ∗ pB c 0 0 (dt xs ws c (sh 2 c) 0 0)) -∗ Q ⟨r0, (k0_pay6 (slab (xs c) (sh 2 c) 1 0) (ws c))⟩)
        -∗ wp frame (wpE (defs₀ (F := F)) 𝒱₀ (c : Thread nD τ) none) Set.univ (k0_part6 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v2 v158) Q) := by
  rw [k0_part6_eq_skeleton]; unfold k0_part6_skel
  simp only [semSignalWord, semWaitWord, Prog.lift, Prog.bind_op, Prog.bind_ret, Prog.pure_eq_ret, wp_deviceId]
  iintro ⟨Hx, Hw, Hp00⟩ Hk
  iapply (ld_x c (sh 2 c) 0 0 (of5_0_0 c)) $$ Hx
  iintro Hx
  iapply (ld_w c) $$ Hw
  iintro Hw
  iapply (ld_p c 0 0 rfl rfl) $$ Hp00
  iintro Hp00
  iapply (st_p c 0 0 (Y := dt xs ws c (sh 2 c) 0 0) rfl rfl (show k0_pay5 (slab (xs c) (sh 2 c) 0 0) (ws c) = dt xs ws c (sh 2 c) 0 0 from pay5_eq _ _)) $$ Hp00
  iintro Hp00
  iapply (ld_x c (sh 2 c) 1 0 (of6_0_0 c)) $$ Hx
  iintro Hx
  iapply (ld_w c) $$ Hw
  iintro Hw
  rw [wp_ret]; imodintro
  iapply Hk $$ [Hx Hw Hp00]
  isplitl [Hx]; · iexact Hx
  isplitl [Hw]; · iexact Hw
  iexact Hp00

theorem part7 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v25 : BitVec 32) (v158 : BitVec 32) (v170 : BitVec 32) {Xp10 : Vec F S256x2048 .bf16} {Xp01 : Vec F S256x2048 .bf16} {Xp11 : Vec F S256x2048 .bf16} {Q : _ → sProp 𝕄} :
    iprop(pB c 1 0 Xp10 ∗ xB c (xs c) ∗ wB c (ws c) ∗ pB c 0 1 Xp01 ∗ pB c 1 1 Xp11)
      ⊢ iprop(((pB c 1 0 (dt xs ws c (sh 2 c) 1 0) ∗ xB c (xs c) ∗ wB c (ws c) ∗ pB c 0 1 (dt xs ws c (sh 2 c) 0 1) ∗ pB c 1 1 (dt xs ws c (sh 2 c) 1 1)) -∗ Q ⟨⟩)
        -∗ wp frame (wpE (defs₀ (F := F)) 𝒱₀ (c : Thread nD τ) none) Set.univ (k0_part7 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v25 v158 v170 (k0_pay6 (slab (xs c) (sh 2 c) 1 0) (ws c))) Q) := by
  rw [k0_part7_eq_skeleton]; unfold k0_part7_skel
  simp only [semSignalWord, semWaitWord, Prog.lift, Prog.bind_op, Prog.bind_ret, Prog.pure_eq_ret, wp_deviceId]
  iintro ⟨Hp10, Hx, Hw, Hp01, Hp11⟩ Hk
  iapply (ld_p c 1 0 rfl rfl) $$ Hp10
  iintro Hp10
  iapply (st_p c 1 0 (Y := dt xs ws c (sh 2 c) 1 0) rfl rfl (show k0_pay7 (k0_pay6 (slab (xs c) (sh 2 c) 1 0) (ws c)) = dt xs ws c (sh 2 c) 1 0 from pay7_eq _ _)) $$ Hp10
  iintro Hp10
  iapply (ld_x c (sh 2 c) 0 1 (of5_0_1 c)) $$ Hx
  iintro Hx
  iapply (ld_w c) $$ Hw
  iintro Hw
  iapply (ld_p c 0 1 rfl rfl) $$ Hp01
  iintro Hp01
  iapply (st_p c 0 1 (Y := dt xs ws c (sh 2 c) 0 1) rfl rfl (show k0_pay8 (slab (xs c) (sh 2 c) 0 1) (ws c) = dt xs ws c (sh 2 c) 0 1 from pay8_eq _ _)) $$ Hp01
  iintro Hp01
  iapply (ld_x c (sh 2 c) 1 1 (of6_0_1 c)) $$ Hx
  iintro Hx
  iapply (ld_w c) $$ Hw
  iintro Hw
  iapply (ld_p c 1 1 rfl rfl) $$ Hp11
  iintro Hp11
  iapply (st_p c 1 1 (Y := dt xs ws c (sh 2 c) 1 1) rfl rfl (show k0_pay9 (slab (xs c) (sh 2 c) 1 1) (ws c) = dt xs ws c (sh 2 c) 1 1 from pay9_eq _ _)) $$ Hp11
  iintro Hp11
  rw [wp_ret]; imodintro
  iapply Hk $$ [Hp10 Hx Hw Hp01 Hp11]
  isplitl [Hp10]; · iexact Hp10
  isplitl [Hx]; · iexact Hx
  isplitl [Hw]; · iexact Hw
  isplitl [Hp01]; · iexact Hp01
  iexact Hp11

theorem part8 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v14 : BitVec 32) (v170 : BitVec 32) {Q : _ → sProp 𝕄} :
    iprop(P xs ws c 4 1 ∗ pB c 0 0 (dt xs ws c (sh 2 c) 0 0))
      ⊢ iprop(((P xs ws c 4 5 ∗ pB c 0 0 (dt xs ws c (sh 2 c) 0 0) ∗ fwd (F := F) c ∗ oB c 2 0 0 (rsv xs ws 0 ((0 : Fin 3) : ℕ) (up 0 c) 0) ∗ oB c 2 1 0 (rsv xs ws 1 ((0 : Fin 3) : ℕ) (up 1 c) 0) ∗ sB c 0 0 (rsv xs ws 0 0 c 0) ∗ sB c 1 0 (rsv xs ws 1 0 c 0)) -∗ Q (k0_pay10 (dt xs ws c (sh 2 c) 0 0)))
        -∗ wp frame (wpE (defs₀ (F := F)) 𝒱₀ (c : Thread nD τ) none) Set.univ (k0_part8 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v14 v170) Q) := by
  rw [k0_part8_eq_skeleton]; unfold k0_part8_skel
  simp only [semSignalWord, semWaitWord, Prog.lift, Prog.bind_op, Prog.bind_ret, Prog.pure_eq_ret, wp_deviceId]
  iintro ⟨HP, Hp00⟩ Hk
  iapply (wait_rs0 (n := 4) (w := 1) xs ws c rfl (by decide) rfl (crd_o 0 0 0)) $$ HP
  iintro ⟨Ho200, Hfwdc⟩ HP
  iapply (wait_rs (n := 4) (w := 2) xs ws c 1 0 0 2 rfl (by decide) rfl (by decide) rfl (crd_o 1 0 0)) $$ HP
  iintro Ho210 HP
  iapply (done_rs (n := 4) (w := 3) xs ws c 0 0 0 rfl (by decide) rfl (crd_s 0 0 0 0)) $$ HP
  iintro Hs00 HP
  iapply (done_rs (n := 4) (w := 4) xs ws c 1 0 0 rfl (by decide) rfl (crd_s 1 1 0 0)) $$ HP
  iintro Hs10 HP
  iapply (ld_p c 0 0 rfl rfl) $$ Hp00
  iintro Hp00
  rw [wp_ret]; imodintro
  iapply Hk $$ [HP Hp00 Hfwdc Ho200 Ho210 Hs00 Hs10]
  isplitl [HP]; · iexact HP
  isplitl [Hp00]; · iexact Hp00
  isplitl [Hfwdc]; · iexact Hfwdc
  isplitl [Ho200]; · iexact Ho200
  isplitl [Ho210]; · iexact Ho210
  isplitl [Hs00]; · iexact Hs00
  iexact Hs10

theorem part9 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v25 : BitVec 32) (v158 : BitVec 32) (v170 : BitVec 32) {Q : _ → sProp 𝕄} :
    iprop(oB c 2 0 0 (rsv xs ws 0 ((0 : Fin 3) : ℕ) (up 0 c) 0) ∗ sB c 0 0 (rsv xs ws 0 0 c 0) ∗ pB c 1 0 (dt xs ws c (sh 2 c) 1 0) ∗ oB c 2 1 0 (rsv xs ws 1 ((0 : Fin 3) : ℕ) (up 1 c) 0) ∗ sB c 1 0 (rsv xs ws 1 0 c 0))
      ⊢ iprop(((oB c 2 0 0 (rsv xs ws 0 ((0 : Fin 3) : ℕ) (up 0 c) 0) ∗ sB c 0 0 (rsv xs ws 0 1 c 0) ∗ pB c 1 0 (dt xs ws c (sh 2 c) 1 0) ∗ oB c 2 1 0 (rsv xs ws 1 ((0 : Fin 3) : ℕ) (up 1 c) 0) ∗ sB c 1 0 (rsv xs ws 1 1 c 0)) -∗ Q ⟨⟩)
        -∗ wp frame (wpE (defs₀ (F := F)) 𝒱₀ (c : Thread nD τ) none) Set.univ (k0_part9 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v25 v158 v170 (k0_pay10 (dt xs ws c (sh 2 c) 0 0))) Q) := by
  rw [k0_part9_eq_skeleton]; unfold k0_part9_skel
  simp only [semSignalWord, semWaitWord, Prog.lift, Prog.bind_op, Prog.bind_ret, Prog.pure_eq_ret, wp_deviceId]
  iintro ⟨Ho200, Hs00, Hp10, Ho210, Hs10⟩ Hk
  iapply (ld_o c 2 0 0 (of9_0_2_0 c)) $$ Ho200
  iintro Ho200
  iapply (ld_s c 0 0 rfl rfl) $$ Hs00
  iintro Hs00
  iapply (st_s c 0 0 (Y := rsv xs ws 0 1 c 0) rfl rfl (show k0_pay11 (k0_pay10 (dt xs ws c (sh 2 c) 0 0)) (rsv xs ws 0 ((0 : Fin 3) : ℕ) (up 0 c) 0) = rsv xs ws 0 1 c 0 from (pay11_eq _ _).trans (acc_rsv xs ws c 0 0 0 2 rfl))) $$ Hs00
  iintro Hs00
  iapply (ld_p c 1 0 rfl rfl) $$ Hp10
  iintro Hp10
  iapply (ld_o c 2 1 0 (of10_0_2_0 c)) $$ Ho210
  iintro Ho210
  iapply (ld_s c 1 0 rfl rfl) $$ Hs10
  iintro Hs10
  iapply (st_s c 1 0 (Y := rsv xs ws 1 1 c 0) rfl rfl (show k0_pay12 (dt xs ws c (sh 2 c) 1 0) (rsv xs ws 1 ((0 : Fin 3) : ℕ) (up 1 c) 0) = rsv xs ws 1 1 c 0 from (pay12_eq _ _).trans (acc_rsv xs ws c 1 0 0 2 rfl))) $$ Hs10
  iintro Hs10
  rw [wp_ret]; imodintro
  iapply Hk $$ [Ho200 Hs00 Hp10 Ho210 Hs10]
  isplitl [Ho200]; · iexact Ho200
  isplitl [Hs00]; · iexact Hs00
  isplitl [Hp10]; · iexact Hp10
  isplitl [Ho210]; · iexact Ho210
  iexact Hs10

theorem part10 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v14 : BitVec 32) (v25 : BitVec 32) (v158 : BitVec 32) (v170 : BitVec 32) {Q : _ → sProp 𝕄} :
    iprop(P xs ws c 4 5 ∗ sB c 0 0 (rsv xs ws 0 1 c 0) ∗ sB c 1 0 (rsv xs ws 1 1 c 0))
      ⊢ iprop(((P xs ws c 6 6 ∗ oB c 2 0 1 (rsv xs ws 0 ((0 : Fin 3) : ℕ) (up 0 c) 1)) -∗ Q ⟨⟩)
        -∗ wp frame (wpE (defs₀ (F := F)) 𝒱₀ (c : Thread nD τ) none) Set.univ (k0_part10 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v14 v25 v158 v170) Q) := by
  rw [k0_part10_eq_skeleton]; unfold k0_part10_skel
  simp only [semSignalWord, semWaitWord, Prog.lift, Prog.bind_op, Prog.bind_ret, Prog.pure_eq_ret, wp_deviceId]
  iintro ⟨HP, Hs00, Hs10⟩ Hk
  iapply (send_rs1 (n := 4) (w := 5) xs ws c 0 1 0 (by decide) rfl (by decide) rfl rfl (K := 2) rfl (of7_0_2_0 c) (dv7 c) rfl rfl) $$ [HP Hs00]
  · isplitl [HP]; · iexact HP
    iexact Hs00
  iintro HP
  iapply (send_rs1 (n := 5) (w := 5) xs ws c 1 1 0 (by decide) rfl (by decide) rfl rfl (K := 2) rfl (of8_0_2_0 c) (dv8 c) rfl rfl) $$ [HP Hs10]
  · isplitl [HP]; · iexact HP
    iexact Hs10
  iintro HP
  iapply (wait_rs (n := 6) (w := 5) xs ws c 0 0 1 2 rfl (by decide) rfl (by decide) rfl (crd_o 0 0 1)) $$ HP
  iintro Ho201 HP
  rw [wp_ret]; imodintro
  iapply Hk $$ [HP Ho201]
  isplitl [HP]; · iexact HP
  iexact Ho201

theorem part11 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v158 : BitVec 32) {Q : _ → sProp 𝕄} :
    iprop(P xs ws c 6 6 ∗ pB c 0 1 (dt xs ws c (sh 2 c) 0 1) ∗ oB c 2 0 1 (rsv xs ws 0 ((0 : Fin 3) : ℕ) (up 0 c) 1) ∗ pB c 1 1 (dt xs ws c (sh 2 c) 1 1))
      ⊢ iprop((∀ r0 : BitVec 32, (P xs ws c 6 9 ∗ pB c 0 1 (dt xs ws c (sh 2 c) 0 1) ∗ oB c 2 0 1 (rsv xs ws 0 ((0 : Fin 3) : ℕ) (up 0 c) 1) ∗ pB c 1 1 (dt xs ws c (sh 2 c) 1 1) ∗ oB c 2 1 1 (rsv xs ws 1 ((0 : Fin 3) : ℕ) (up 1 c) 1) ∗ sB c 0 1 (rsv xs ws 0 1 c 1) ∗ sB c 1 1 (rsv xs ws 1 0 c 1)) -∗ Q ⟨(k0_pay14 (dt xs ws c (sh 2 c) 1 1)), r0⟩)
        -∗ wp frame (wpE (defs₀ (F := F)) 𝒱₀ (c : Thread nD τ) none) Set.univ (k0_part11 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v158) Q) := by
  rw [k0_part11_eq_skeleton]; unfold k0_part11_skel
  simp only [semSignalWord, semWaitWord, Prog.lift, Prog.bind_op, Prog.bind_ret, Prog.pure_eq_ret, wp_deviceId]
  iintro ⟨HP, Hp01, Ho201, Hp11⟩ Hk
  iapply (wait_rs (n := 6) (w := 6) xs ws c 1 0 1 2 rfl (by decide) rfl (by decide) rfl (crd_o 1 0 1)) $$ HP
  iintro Ho211 HP
  iapply (done_rs (n := 6) (w := 7) xs ws c 0 0 1 rfl (by decide) rfl (crd_s 0 0 0 1)) $$ HP
  iintro Hs01 HP
  iapply (done_rs (n := 6) (w := 8) xs ws c 1 0 1 rfl (by decide) rfl (crd_s 1 1 0 1)) $$ HP
  iintro Hs11 HP
  iapply (ld_p c 0 1 rfl rfl) $$ Hp01
  iintro Hp01
  iapply (ld_o c 2 0 1 (of9_0_2_1 c)) $$ Ho201
  iintro Ho201
  iapply (ld_s c 0 1 rfl rfl) $$ Hs01
  iintro Hs01
  iapply (st_s c 0 1 (Y := rsv xs ws 0 1 c 1) rfl rfl (show k0_pay13 (dt xs ws c (sh 2 c) 0 1) (rsv xs ws 0 ((0 : Fin 3) : ℕ) (up 0 c) 1) = rsv xs ws 0 1 c 1 from (pay13_eq _ _).trans (acc_rsv xs ws c 0 0 1 2 rfl))) $$ Hs01
  iintro Hs01
  iapply (ld_p c 1 1 rfl rfl) $$ Hp11
  iintro Hp11
  rw [wp_ret]; imodintro
  iapply Hk $$ [HP Hp01 Ho201 Hp11 Ho211 Hs01 Hs11]
  isplitl [HP]; · iexact HP
  isplitl [Hp01]; · iexact Hp01
  isplitl [Ho201]; · iexact Ho201
  isplitl [Hp11]; · iexact Hp11
  isplitl [Ho211]; · iexact Ho211
  isplitl [Hs01]; · iexact Hs01
  iexact Hs11

theorem part12 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v14 : BitVec 32) (v25 : BitVec 32) (v158 : BitVec 32) (v170 : BitVec 32) (c1024_i32_284 : BitVec 32) {Q : _ → sProp 𝕄} :
    iprop(P xs ws c 6 9 ∗ oB c 2 1 1 (rsv xs ws 1 ((0 : Fin 3) : ℕ) (up 1 c) 1) ∗ sB c 1 1 (rsv xs ws 1 0 c 1) ∗ sB c 0 1 (rsv xs ws 0 1 c 1))
      ⊢ iprop(((P xs ws c 7 9 ∗ oB c 2 1 1 (rsv xs ws 1 ((0 : Fin 3) : ℕ) (up 1 c) 1) ∗ sB c 1 1 (rsv xs ws 1 1 c 1)) -∗ Q ⟨⟩)
        -∗ wp frame (wpE (defs₀ (F := F)) 𝒱₀ (c : Thread nD τ) none) Set.univ (k0_part12 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v14 v25 v158 v170 (k0_pay14 (dt xs ws c (sh 2 c) 1 1)) c1024_i32_284) Q) := by
  rw [k0_part12_eq_skeleton]; unfold k0_part12_skel
  simp only [semSignalWord, semWaitWord, Prog.lift, Prog.bind_op, Prog.bind_ret, Prog.pure_eq_ret, wp_deviceId]
  iintro ⟨HP, Ho211, Hs11, Hs01⟩ Hk
  iapply (ld_o c 2 1 1 (of10_0_2_1 c)) $$ Ho211
  iintro Ho211
  iapply (ld_s c 1 1 rfl rfl) $$ Hs11
  iintro Hs11
  iapply (st_s c 1 1 (Y := rsv xs ws 1 1 c 1) rfl rfl (show k0_pay15 (k0_pay14 (dt xs ws c (sh 2 c) 1 1)) (rsv xs ws 1 ((0 : Fin 3) : ℕ) (up 1 c) 1) = rsv xs ws 1 1 c 1 from (pay15_eq _ _).trans (acc_rsv xs ws c 1 0 1 2 rfl))) $$ Hs11
  iintro Hs11
  iapply (send_rs1 (n := 6) (w := 9) xs ws c 0 1 1 (by decide) rfl (by decide) rfl rfl (K := 2) rfl (of7_0_2_1 c) (dv9 c) rfl rfl) $$ [HP Hs01]
  · isplitl [HP]; · iexact HP
    iexact Hs01
  iintro HP
  rw [wp_ret]; imodintro
  iapply Hk $$ [HP Ho211 Hs11]
  isplitl [HP]; · iexact HP
  isplitl [Ho211]; · iexact Ho211
  iexact Hs11

theorem part13 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v2 : BitVec 32) {Q : _ → sProp 𝕄} :
    iprop(P xs ws c 7 9 ∗ sB c 1 1 (rsv xs ws 1 1 c 1) ∗ xB c (xs c) ∗ wB c (ws c))
      ⊢ iprop((∀ r0 : BitVec 32, ∀ r1 : BitVec 32, (P xs ws c 8 9 ∗ xB c (xs c) ∗ wB c (ws c)) -∗ Q ⟨r0, r1, (k0_pay16 (slab (xs c) (sh 1 c) 0 0) (ws c))⟩)
        -∗ wp frame (wpE (defs₀ (F := F)) 𝒱₀ (c : Thread nD τ) none) Set.univ (k0_part13 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v2) Q) := by
  rw [k0_part13_eq_skeleton]; unfold k0_part13_skel
  simp only [semSignalWord, semWaitWord, Prog.lift, Prog.bind_op, Prog.bind_ret, Prog.pure_eq_ret, wp_deviceId]
  iintro ⟨HP, Hs11, Hx, Hw⟩ Hk
  iapply (send_rs1 (n := 7) (w := 9) xs ws c 1 1 1 (by decide) rfl (by decide) rfl rfl (K := 2) rfl (of8_0_2_1 c) (dv10 c) rfl rfl) $$ [HP Hs11]
  · isplitl [HP]; · iexact HP
    iexact Hs11
  iintro HP
  iapply (ld_x c (sh 1 c) 0 0 (of5_1_0 c)) $$ Hx
  iintro Hx
  iapply (ld_w c) $$ Hw
  iintro Hw
  rw [wp_ret]; imodintro
  iapply Hk $$ [HP Hx Hw]
  isplitl [HP]; · iexact HP
  isplitl [Hx]; · iexact Hx
  iexact Hw

theorem part14 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v379 : BitVec 32) (v391 : BitVec 32) {Q : _ → sProp 𝕄} :
    iprop(pB c 0 0 (dt xs ws c (sh 2 c) 0 0) ∗ xB c (xs c) ∗ wB c (ws c) ∗ pB c 1 0 (dt xs ws c (sh 2 c) 1 0) ∗ pB c 0 1 (dt xs ws c (sh 2 c) 0 1))
      ⊢ iprop(((pB c 0 0 (dt xs ws c (sh 1 c) 0 0) ∗ xB c (xs c) ∗ wB c (ws c) ∗ pB c 1 0 (dt xs ws c (sh 3 c) 1 0) ∗ pB c 0 1 (dt xs ws c (sh 1 c) 0 1)) -∗ Q (slab (xs c) (sh 3 c) 1 1))
        -∗ wp frame (wpE (defs₀ (F := F)) 𝒱₀ (c : Thread nD τ) none) Set.univ (k0_part14 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v379 v391 (k0_pay16 (slab (xs c) (sh 1 c) 0 0) (ws c))) Q) := by
  rw [k0_part14_eq_skeleton]; unfold k0_part14_skel
  simp only [semSignalWord, semWaitWord, Prog.lift, Prog.bind_op, Prog.bind_ret, Prog.pure_eq_ret, wp_deviceId]
  iintro ⟨Hp00, Hx, Hw, Hp10, Hp01⟩ Hk
  iapply (ld_p c 0 0 rfl rfl) $$ Hp00
  iintro Hp00
  iapply (st_p c 0 0 (Y := dt xs ws c (sh 1 c) 0 0) rfl rfl (show k0_pay17 (k0_pay16 (slab (xs c) (sh 1 c) 0 0) (ws c)) = dt xs ws c (sh 1 c) 0 0 from pay17_eq _ _)) $$ Hp00
  iintro Hp00
  iapply (ld_x c (sh 3 c) 1 0 (of6_1_0 c)) $$ Hx
  iintro Hx
  iapply (ld_w c) $$ Hw
  iintro Hw
  iapply (ld_p c 1 0 rfl rfl) $$ Hp10
  iintro Hp10
  iapply (st_p c 1 0 (Y := dt xs ws c (sh 3 c) 1 0) rfl rfl (show k0_pay18 (slab (xs c) (sh 3 c) 1 0) (ws c) = dt xs ws c (sh 3 c) 1 0 from pay18_eq _ _)) $$ Hp10
  iintro Hp10
  iapply (ld_x c (sh 1 c) 0 1 (of5_1_1 c)) $$ Hx
  iintro Hx
  iapply (ld_w c) $$ Hw
  iintro Hw
  iapply (ld_p c 0 1 rfl rfl) $$ Hp01
  iintro Hp01
  iapply (st_p c 0 1 (Y := dt xs ws c (sh 1 c) 0 1) rfl rfl (show k0_pay19 (slab (xs c) (sh 1 c) 0 1) (ws c) = dt xs ws c (sh 1 c) 0 1 from pay19_eq _ _)) $$ Hp01
  iintro Hp01
  iapply (ld_x c (sh 3 c) 1 1 (of6_1_1 c)) $$ Hx
  iintro Hx
  rw [wp_ret]; imodintro
  iapply Hk $$ [Hp00 Hx Hw Hp10 Hp01]
  isplitl [Hp00]; · iexact Hp00
  isplitl [Hx]; · iexact Hx
  isplitl [Hw]; · iexact Hw
  isplitl [Hp10]; · iexact Hp10
  iexact Hp01

theorem part15 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v14 : BitVec 32) (v25 : BitVec 32) (v379 : BitVec 32) (v391 : BitVec 32) {Q : _ → sProp 𝕄} :
    iprop(P xs ws c 8 9 ∗ wB c (ws c) ∗ pB c 1 1 (dt xs ws c (sh 2 c) 1 1))
      ⊢ iprop(((P xs ws c 8 11 ∗ wB c (ws c) ∗ pB c 1 1 (dt xs ws c (sh 3 c) 1 1) ∗ oB c 1 0 0 (rsv xs ws 0 ((1 : Fin 3) : ℕ) (up 0 c) 0) ∗ oB c 3 1 0 (rsv xs ws 1 ((1 : Fin 3) : ℕ) (up 1 c) 0)) -∗ Q ⟨⟩)
        -∗ wp frame (wpE (defs₀ (F := F)) 𝒱₀ (c : Thread nD τ) none) Set.univ (k0_part15 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v14 v25 v379 v391 (slab (xs c) (sh 3 c) 1 1)) Q) := by
  rw [k0_part15_eq_skeleton]; unfold k0_part15_skel
  simp only [semSignalWord, semWaitWord, Prog.lift, Prog.bind_op, Prog.bind_ret, Prog.pure_eq_ret, wp_deviceId]
  iintro ⟨HP, Hw, Hp11⟩ Hk
  iapply (ld_w c) $$ Hw
  iintro Hw
  iapply (ld_p c 1 1 rfl rfl) $$ Hp11
  iintro Hp11
  iapply (st_p c 1 1 (Y := dt xs ws c (sh 3 c) 1 1) rfl rfl (show k0_pay20 (slab (xs c) (sh 3 c) 1 1) (ws c) = dt xs ws c (sh 3 c) 1 1 from pay20_eq _ _)) $$ Hp11
  iintro Hp11
  iapply (wait_rs (n := 8) (w := 9) xs ws c 0 1 0 1 rfl (by decide) rfl (by decide) rfl (crd_o 0 1 0)) $$ HP
  iintro Ho100 HP
  iapply (wait_rs (n := 8) (w := 10) xs ws c 1 1 0 3 rfl (by decide) rfl (by decide) rfl (crd_o 1 1 0)) $$ HP
  iintro Ho310 HP
  rw [wp_ret]; imodintro
  iapply Hk $$ [HP Hw Hp11 Ho100 Ho310]
  isplitl [HP]; · iexact HP
  isplitl [Hw]; · iexact Hw
  isplitl [Hp11]; · iexact Hp11
  isplitl [Ho100]; · iexact Ho100
  iexact Ho310

theorem part16 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v379 : BitVec 32) (v391 : BitVec 32) {Q : _ → sProp 𝕄} :
    iprop(P xs ws c 8 11 ∗ pB c 0 0 (dt xs ws c (sh 1 c) 0 0) ∗ oB c 1 0 0 (rsv xs ws 0 ((1 : Fin 3) : ℕ) (up 0 c) 0) ∗ pB c 1 0 (dt xs ws c (sh 3 c) 1 0) ∗ oB c 3 1 0 (rsv xs ws 1 ((1 : Fin 3) : ℕ) (up 1 c) 0))
      ⊢ iprop(((P xs ws c 8 13 ∗ pB c 0 0 (dt xs ws c (sh 1 c) 0 0) ∗ oB c 1 0 0 (rsv xs ws 0 ((1 : Fin 3) : ℕ) (up 0 c) 0) ∗ pB c 1 0 (dt xs ws c (sh 3 c) 1 0) ∗ oB c 3 1 0 (rsv xs ws 1 ((1 : Fin 3) : ℕ) (up 1 c) 0) ∗ sB c 0 0 (rsv xs ws 0 2 c 0) ∗ sB c 1 0 (rsv xs ws 1 1 c 0)) -∗ Q (k0_pay22 (dt xs ws c (sh 3 c) 1 0) (rsv xs ws 1 ((1 : Fin 3) : ℕ) (up 1 c) 0)))
        -∗ wp frame (wpE (defs₀ (F := F)) 𝒱₀ (c : Thread nD τ) none) Set.univ (k0_part16 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v379 v391) Q) := by
  rw [k0_part16_eq_skeleton]; unfold k0_part16_skel
  simp only [semSignalWord, semWaitWord, Prog.lift, Prog.bind_op, Prog.bind_ret, Prog.pure_eq_ret, wp_deviceId]
  iintro ⟨HP, Hp00, Ho100, Hp10, Ho310⟩ Hk
  iapply (done_rs (n := 8) (w := 11) xs ws c 0 1 0 rfl (by decide) rfl (crd_s 0 0 1 0)) $$ HP
  iintro Hs00 HP
  iapply (done_rs (n := 8) (w := 12) xs ws c 1 1 0 rfl (by decide) rfl (crd_s 1 1 1 0)) $$ HP
  iintro Hs10 HP
  iapply (ld_p c 0 0 rfl rfl) $$ Hp00
  iintro Hp00
  iapply (ld_o c 1 0 0 (of9_1_2_0 c)) $$ Ho100
  iintro Ho100
  iapply (ld_s c 0 0 rfl rfl) $$ Hs00
  iintro Hs00
  iapply (st_s c 0 0 (Y := rsv xs ws 0 2 c 0) rfl rfl (show k0_pay21 (dt xs ws c (sh 1 c) 0 0) (rsv xs ws 0 ((1 : Fin 3) : ℕ) (up 0 c) 0) = rsv xs ws 0 2 c 0 from (pay21_eq _ _).trans (acc_rsv xs ws c 0 1 0 1 rfl))) $$ Hs00
  iintro Hs00
  iapply (ld_p c 1 0 rfl rfl) $$ Hp10
  iintro Hp10
  iapply (ld_o c 3 1 0 (of10_1_2_0 c)) $$ Ho310
  iintro Ho310
  rw [wp_ret]; imodintro
  iapply Hk $$ [HP Hp00 Ho100 Hp10 Ho310 Hs00 Hs10]
  isplitl [HP]; · iexact HP
  isplitl [Hp00]; · iexact Hp00
  isplitl [Ho100]; · iexact Ho100
  isplitl [Hp10]; · iexact Hp10
  isplitl [Ho310]; · iexact Ho310
  isplitl [Hs00]; · iexact Hs00
  iexact Hs10

theorem part17 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v14 : BitVec 32) (v25 : BitVec 32) (v379 : BitVec 32) (v391 : BitVec 32) {Q : _ → sProp 𝕄} :
    iprop(P xs ws c 8 13 ∗ sB c 1 0 (rsv xs ws 1 1 c 0) ∗ sB c 0 0 (rsv xs ws 0 2 c 0))
      ⊢ iprop((P xs ws c 10 13 -∗ Q ⟨⟩)
        -∗ wp frame (wpE (defs₀ (F := F)) 𝒱₀ (c : Thread nD τ) none) Set.univ (k0_part17 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v14 v25 v379 v391 (k0_pay22 (dt xs ws c (sh 3 c) 1 0) (rsv xs ws 1 ((1 : Fin 3) : ℕ) (up 1 c) 0))) Q) := by
  rw [k0_part17_eq_skeleton]; unfold k0_part17_skel
  simp only [semSignalWord, semWaitWord, Prog.lift, Prog.bind_op, Prog.bind_ret, Prog.pure_eq_ret, wp_deviceId]
  iintro ⟨HP, Hs10, Hs00⟩ Hk
  iapply (ld_s c 1 0 rfl rfl) $$ Hs10
  iintro Hs10
  iapply (st_s c 1 0 (Y := rsv xs ws 1 2 c 0) rfl rfl (show k0_pay23 (k0_pay22 (dt xs ws c (sh 3 c) 1 0) (rsv xs ws 1 ((1 : Fin 3) : ℕ) (up 1 c) 0)) = rsv xs ws 1 2 c 0 from (pay23_eq _ _).trans (acc_rsv xs ws c 1 1 0 3 rfl))) $$ Hs10
  iintro Hs10
  iapply (send_rs1 (n := 8) (w := 13) xs ws c 0 2 0 (by decide) rfl (by decide) rfl rfl (K := 1) rfl (of7_1_2_0 c) (dv11 c) rfl rfl) $$ [HP Hs00]
  · isplitl [HP]; · iexact HP
    iexact Hs00
  iintro HP
  iapply (send_rs1 (n := 9) (w := 13) xs ws c 1 2 0 (by decide) rfl (by decide) rfl rfl (K := 3) rfl (of8_1_2_0 c) (dv12 c) rfl rfl) $$ [HP Hs10]
  · isplitl [HP]; · iexact HP
    iexact Hs10
  iintro HP
  rw [wp_ret]; imodintro
  iapply Hk $$ [HP]
  iexact HP

theorem part18 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v14 : BitVec 32) (v25 : BitVec 32) (v391 : BitVec 32) {Q : _ → sProp 𝕄} :
    P xs ws c 10 13
      ⊢ iprop(((P xs ws c 10 17 ∗ oB c 1 0 1 (rsv xs ws 0 ((1 : Fin 3) : ℕ) (up 0 c) 1) ∗ oB c 3 1 1 (rsv xs ws 1 ((1 : Fin 3) : ℕ) (up 1 c) 1) ∗ sB c 0 1 (rsv xs ws 0 1 c 1) ∗ sB c 1 1 (rsv xs ws 1 1 c 1)) -∗ Q ⟨⟩)
        -∗ wp frame (wpE (defs₀ (F := F)) 𝒱₀ (c : Thread nD τ) none) Set.univ (k0_part18 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v14 v25 v391) Q) := by
  rw [k0_part18_eq_skeleton]; unfold k0_part18_skel
  simp only [semSignalWord, semWaitWord, Prog.lift, Prog.bind_op, Prog.bind_ret, Prog.pure_eq_ret, wp_deviceId]
  iintro HP Hk
  iapply (wait_rs (n := 10) (w := 13) xs ws c 0 1 1 1 rfl (by decide) rfl (by decide) rfl (crd_o 0 1 1)) $$ HP
  iintro Ho101 HP
  iapply (wait_rs (n := 10) (w := 14) xs ws c 1 1 1 3 rfl (by decide) rfl (by decide) rfl (crd_o 1 1 1)) $$ HP
  iintro Ho311 HP
  iapply (done_rs (n := 10) (w := 15) xs ws c 0 1 1 rfl (by decide) rfl (crd_s 0 0 1 1)) $$ HP
  iintro Hs01 HP
  iapply (done_rs (n := 10) (w := 16) xs ws c 1 1 1 rfl (by decide) rfl (crd_s 1 1 1 1)) $$ HP
  iintro Hs11 HP
  rw [wp_ret]; imodintro
  iapply Hk $$ [HP Ho101 Ho311 Hs01 Hs11]
  isplitl [HP]; · iexact HP
  isplitl [Ho101]; · iexact Ho101
  isplitl [Ho311]; · iexact Ho311
  isplitl [Hs01]; · iexact Hs01
  iexact Hs11

theorem part19 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v25 : BitVec 32) (v379 : BitVec 32) (v391 : BitVec 32) {Q : _ → sProp 𝕄} :
    iprop(pB c 0 1 (dt xs ws c (sh 1 c) 0 1) ∗ oB c 1 0 1 (rsv xs ws 0 ((1 : Fin 3) : ℕ) (up 0 c) 1) ∗ sB c 0 1 (rsv xs ws 0 1 c 1) ∗ pB c 1 1 (dt xs ws c (sh 3 c) 1 1) ∗ oB c 3 1 1 (rsv xs ws 1 ((1 : Fin 3) : ℕ) (up 1 c) 1) ∗ sB c 1 1 (rsv xs ws 1 1 c 1))
      ⊢ iprop((∀ r0 : BitVec 32, (pB c 0 1 (dt xs ws c (sh 1 c) 0 1) ∗ oB c 1 0 1 (rsv xs ws 0 ((1 : Fin 3) : ℕ) (up 0 c) 1) ∗ sB c 0 1 (rsv xs ws 0 2 c 1) ∗ pB c 1 1 (dt xs ws c (sh 3 c) 1 1) ∗ oB c 3 1 1 (rsv xs ws 1 ((1 : Fin 3) : ℕ) (up 1 c) 1) ∗ sB c 1 1 (rsv xs ws 1 2 c 1)) -∗ Q r0)
        -∗ wp frame (wpE (defs₀ (F := F)) 𝒱₀ (c : Thread nD τ) none) Set.univ (k0_part19 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v25 v379 v391) Q) := by
  rw [k0_part19_eq_skeleton]; unfold k0_part19_skel
  simp only [semSignalWord, semWaitWord, Prog.lift, Prog.bind_op, Prog.bind_ret, Prog.pure_eq_ret, wp_deviceId]
  iintro ⟨Hp01, Ho101, Hs01, Hp11, Ho311, Hs11⟩ Hk
  iapply (ld_p c 0 1 rfl rfl) $$ Hp01
  iintro Hp01
  iapply (ld_o c 1 0 1 (of9_1_2_1 c)) $$ Ho101
  iintro Ho101
  iapply (ld_s c 0 1 rfl rfl) $$ Hs01
  iintro Hs01
  iapply (st_s c 0 1 (Y := rsv xs ws 0 2 c 1) rfl rfl (show k0_pay24 (dt xs ws c (sh 1 c) 0 1) (rsv xs ws 0 ((1 : Fin 3) : ℕ) (up 0 c) 1) = rsv xs ws 0 2 c 1 from (pay24_eq _ _).trans (acc_rsv xs ws c 0 1 1 1 rfl))) $$ Hs01
  iintro Hs01
  iapply (ld_p c 1 1 rfl rfl) $$ Hp11
  iintro Hp11
  iapply (ld_o c 3 1 1 (of10_1_2_1 c)) $$ Ho311
  iintro Ho311
  iapply (ld_s c 1 1 rfl rfl) $$ Hs11
  iintro Hs11
  iapply (st_s c 1 1 (Y := rsv xs ws 1 2 c 1) rfl rfl (show k0_pay25 (dt xs ws c (sh 3 c) 1 1) (rsv xs ws 1 ((1 : Fin 3) : ℕ) (up 1 c) 1) = rsv xs ws 1 2 c 1 from (pay25_eq _ _).trans (acc_rsv xs ws c 1 1 1 3 rfl))) $$ Hs11
  iintro Hs11
  rw [wp_ret]; imodintro
  iapply Hk $$ [Hp01 Ho101 Hs01 Hp11 Ho311 Hs11]
  isplitl [Hp01]; · iexact Hp01
  isplitl [Ho101]; · iexact Ho101
  isplitl [Hs01]; · iexact Hs01
  isplitl [Hp11]; · iexact Hp11
  isplitl [Ho311]; · iexact Ho311
  iexact Hs11

theorem part20 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v2 : BitVec 32) (v14 : BitVec 32) (v572 : BitVec 32) {Q : _ → sProp 𝕄} :
    iprop(P xs ws c 10 17 ∗ sB c 0 1 (rsv xs ws 0 2 c 1) ∗ sB c 1 1 (rsv xs ws 1 2 c 1) ∗ xB c (xs c) ∗ wB c (ws c) ∗ pB c 0 0 (dt xs ws c (sh 1 c) 0 0))
      ⊢ iprop(((P xs ws c 12 17 ∗ xB c (xs c) ∗ wB c (ws c) ∗ pB c 0 0 (dt xs ws c (sh 0 c) 0 0)) -∗ Q (slab (xs c) (sh 0 c) 1 0))
        -∗ wp frame (wpE (defs₀ (F := F)) 𝒱₀ (c : Thread nD τ) none) Set.univ (k0_part20 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v2 v14 v572) Q) := by
  rw [k0_part20_eq_skeleton]; unfold k0_part20_skel
  simp only [semSignalWord, semWaitWord, Prog.lift, Prog.bind_op, Prog.bind_ret, Prog.pure_eq_ret, wp_deviceId]
  iintro ⟨HP, Hs01, Hs11, Hx, Hw, Hp00⟩ Hk
  iapply (send_rs1 (n := 10) (w := 17) xs ws c 0 2 1 (by decide) rfl (by decide) rfl rfl (K := 1) rfl (of7_1_2_1 c) (dv13 c) rfl rfl) $$ [HP Hs01]
  · isplitl [HP]; · iexact HP
    iexact Hs01
  iintro HP
  iapply (send_rs1 (n := 11) (w := 17) xs ws c 1 2 1 (by decide) rfl (by decide) rfl rfl (K := 3) rfl (of8_1_2_1 c) (dv14 c) rfl rfl) $$ [HP Hs11]
  · isplitl [HP]; · iexact HP
    iexact Hs11
  iintro HP
  iapply (ld_x c (sh 0 c) 0 0 (of11_0 c)) $$ Hx
  iintro Hx
  iapply (ld_w c) $$ Hw
  iintro Hw
  iapply (ld_p c 0 0 rfl rfl) $$ Hp00
  iintro Hp00
  iapply (st_p c 0 0 (Y := dt xs ws c (sh 0 c) 0 0) rfl rfl (show k0_pay26 (slab (xs c) (sh 0 c) 0 0) (ws c) = dt xs ws c (sh 0 c) 0 0 from rfl)) $$ Hp00
  iintro Hp00
  iapply (ld_x c (sh 0 c) 1 0 (of12_0 c)) $$ Hx
  iintro Hx
  rw [wp_ret]; imodintro
  iapply Hk $$ [HP Hx Hw Hp00]
  isplitl [HP]; · iexact HP
  isplitl [Hx]; · iexact Hx
  isplitl [Hw]; · iexact Hw
  iexact Hp00

theorem part21 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v2 : BitVec 32) {Q : _ → sProp 𝕄} :
    iprop(wB c (ws c) ∗ pB c 1 0 (dt xs ws c (sh 3 c) 1 0) ∗ xB c (xs c) ∗ pB c 0 1 (dt xs ws c (sh 1 c) 0 1) ∗ pB c 1 1 (dt xs ws c (sh 3 c) 1 1))
      ⊢ iprop((∀ r0 : BitVec 32, (wB c (ws c) ∗ pB c 1 0 (dt xs ws c (sh 0 c) 1 0) ∗ xB c (xs c) ∗ pB c 0 1 (dt xs ws c (sh 0 c) 0 1) ∗ pB c 1 1 (dt xs ws c (sh 0 c) 1 1)) -∗ Q r0)
        -∗ wp frame (wpE (defs₀ (F := F)) 𝒱₀ (c : Thread nD τ) none) Set.univ (k0_part21 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v2 (slab (xs c) (sh 0 c) 1 0)) Q) := by
  rw [k0_part21_eq_skeleton]; unfold k0_part21_skel
  simp only [semSignalWord, semWaitWord, Prog.lift, Prog.bind_op, Prog.bind_ret, Prog.pure_eq_ret, wp_deviceId]
  iintro ⟨Hw, Hp10, Hx, Hp01, Hp11⟩ Hk
  iapply (ld_w c) $$ Hw
  iintro Hw
  iapply (ld_p c 1 0 rfl rfl) $$ Hp10
  iintro Hp10
  iapply (st_p c 1 0 (Y := dt xs ws c (sh 0 c) 1 0) rfl rfl (show k0_pay27 (slab (xs c) (sh 0 c) 1 0) (ws c) = dt xs ws c (sh 0 c) 1 0 from pay27_eq _ _)) $$ Hp10
  iintro Hp10
  iapply (ld_x c (sh 0 c) 0 1 (of11_1 c)) $$ Hx
  iintro Hx
  iapply (ld_w c) $$ Hw
  iintro Hw
  iapply (ld_p c 0 1 rfl rfl) $$ Hp01
  iintro Hp01
  iapply (st_p c 0 1 (Y := dt xs ws c (sh 0 c) 0 1) rfl rfl (show k0_pay28 (slab (xs c) (sh 0 c) 0 1) (ws c) = dt xs ws c (sh 0 c) 0 1 from pay28_eq _ _)) $$ Hp01
  iintro Hp01
  iapply (ld_x c (sh 0 c) 1 1 (of12_1 c)) $$ Hx
  iintro Hx
  iapply (ld_w c) $$ Hw
  iintro Hw
  iapply (ld_p c 1 1 rfl rfl) $$ Hp11
  iintro Hp11
  iapply (st_p c 1 1 (Y := dt xs ws c (sh 0 c) 1 1) rfl rfl (show k0_pay29 (slab (xs c) (sh 0 c) 1 1) (ws c) = dt xs ws c (sh 0 c) 1 1 from pay29_eq _ _)) $$ Hp11
  iintro Hp11
  rw [wp_ret]; imodintro
  iapply Hk $$ [Hw Hp10 Hx Hp01 Hp11]
  isplitl [Hw]; · iexact Hw
  isplitl [Hp10]; · iexact Hp10
  isplitl [Hx]; · iexact Hx
  isplitl [Hp01]; · iexact Hp01
  iexact Hp11

theorem part22 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v2 : BitVec 32) (v14 : BitVec 32) (v25 : BitVec 32) (v638 : BitVec 32) {Q : _ → sProp 𝕄} :
    iprop(P xs ws c 12 17 ∗ pB c 0 0 (dt xs ws c (sh 0 c) 0 0))
      ⊢ iprop(((P xs ws c 12 19 ∗ pB c 0 0 (dt xs ws c (sh 0 c) 0 0) ∗ oB c 0 0 0 (rsv xs ws 0 ((2 : Fin 3) : ℕ) (up 0 c) 0) ∗ oB c 0 1 0 (rsv xs ws 1 ((2 : Fin 3) : ℕ) (up 1 c) 0)) -∗ Q (k0_pay30 (dt xs ws c (sh 0 c) 0 0) (rsv xs ws 0 ((2 : Fin 3) : ℕ) (up 0 c) 0)))
        -∗ wp frame (wpE (defs₀ (F := F)) 𝒱₀ (c : Thread nD τ) none) Set.univ (k0_part22 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v2 v14 v25 v638) Q) := by
  rw [k0_part22_eq_skeleton]; unfold k0_part22_skel
  simp only [semSignalWord, semWaitWord, Prog.lift, Prog.bind_op, Prog.bind_ret, Prog.pure_eq_ret, wp_deviceId]
  iintro ⟨HP, Hp00⟩ Hk
  iapply (wait_rs (n := 12) (w := 17) xs ws c 0 2 0 0 rfl (by decide) rfl (by decide) rfl (crd_o 0 2 0)) $$ HP
  iintro Ho000 HP
  iapply (wait_rs (n := 12) (w := 18) xs ws c 1 2 0 0 rfl (by decide) rfl (by decide) rfl (crd_o 1 2 0)) $$ HP
  iintro Ho010 HP
  iapply (ld_p c 0 0 rfl rfl) $$ Hp00
  iintro Hp00
  iapply (ld_o c 0 0 0 (of15_0 c)) $$ Ho000
  iintro Ho000
  rw [wp_ret]; imodintro
  iapply Hk $$ [HP Hp00 Ho000 Ho010]
  isplitl [HP]; · iexact HP
  isplitl [Hp00]; · iexact Hp00
  isplitl [Ho000]; · iexact Ho000
  iexact Ho010

theorem part23 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v2 : BitVec 32) (v25 : BitVec 32) {Q : _ → sProp 𝕄} :
    iprop(oB c 0 0 0 (rsv xs ws 0 ((2 : Fin 3) : ℕ) (up 0 c) 0) ∗ pB c 1 0 (dt xs ws c (sh 0 c) 1 0) ∗ oB c 0 1 0 (rsv xs ws 1 ((2 : Fin 3) : ℕ) (up 1 c) 0))
      ⊢ iprop(((oB c 0 0 0 (yv xs ws c 0 0) ∗ pB c 1 0 (dt xs ws c (sh 0 c) 1 0) ∗ oB c 0 1 0 (yv xs ws c 1 0)) -∗ Q (k0_pay32 (k0_pay30 (dt xs ws c (sh 0 c) 0 0) (rsv xs ws 0 ((2 : Fin 3) : ℕ) (up 0 c) 0)) (dt xs ws c (sh 0 c) 1 0) (rsv xs ws 1 ((2 : Fin 3) : ℕ) (up 1 c) 0)))
        -∗ wp frame (wpE (defs₀ (F := F)) 𝒱₀ (c : Thread nD τ) none) Set.univ (k0_part23 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v2 v25 (k0_pay30 (dt xs ws c (sh 0 c) 0 0) (rsv xs ws 0 ((2 : Fin 3) : ℕ) (up 0 c) 0))) Q) := by
  rw [k0_part23_eq_skeleton]; unfold k0_part23_skel
  simp only [semSignalWord, semWaitWord, Prog.lift, Prog.bind_op, Prog.bind_ret, Prog.pure_eq_ret, wp_deviceId]
  iintro ⟨Ho000, Hp10, Ho010⟩ Hk
  iapply (ld_o c 0 0 0 (of15_0 c)) $$ Ho000
  iintro Ho000
  iapply (st_o c 0 0 0 (Y := yv xs ws c 0 0) (of15_0 c) (show k0_pay30 (dt xs ws c (sh 0 c) 0 0) (rsv xs ws 0 ((2 : Fin 3) : ℕ) (up 0 c) 0) = yv xs ws c 0 0 from (pay30_eq _ _).trans (acc_rsv xs ws c 0 2 0 0 rfl))) $$ Ho000
  iintro Ho000
  iapply (ld_p c 1 0 rfl rfl) $$ Hp10
  iintro Hp10
  iapply (ld_o c 0 1 0 (of16_0 c)) $$ Ho010
  iintro Ho010
  iapply (ld_o c 0 1 0 (of16_0 c)) $$ Ho010
  iintro Ho010
  iapply (st_o c 0 1 0 (Y := yv xs ws c 1 0) (of16_0 c) (show k0_pay31 (dt xs ws c (sh 0 c) 1 0) (rsv xs ws 1 ((2 : Fin 3) : ℕ) (up 1 c) 0) = yv xs ws c 1 0 from (pay31_eq _ _).trans (acc_rsv xs ws c 1 2 0 0 rfl))) $$ Ho010
  iintro Ho010
  rw [wp_ret]; imodintro
  iapply Hk $$ [Ho000 Hp10 Ho010]
  isplitl [Ho000]; · iexact Ho000
  isplitl [Hp10]; · iexact Hp10
  iexact Ho010

theorem part24 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v2 : BitVec 32) (v14 : BitVec 32) {Q : _ → sProp 𝕄} :
    iprop(P xs ws c 12 19 ∗ pB c 0 1 (dt xs ws c (sh 0 c) 0 1))
      ⊢ iprop(((P xs ws c 12 21 ∗ pB c 0 1 (dt xs ws c (sh 0 c) 0 1) ∗ oB c 0 0 1 (yv xs ws c 0 1) ∗ oB c 0 1 1 (rsv xs ws 1 ((2 : Fin 3) : ℕ) (up 1 c) 1)) -∗ Q (k0_pay34 (k0_pay32 (k0_pay30 (dt xs ws c (sh 0 c) 0 0) (rsv xs ws 0 ((2 : Fin 3) : ℕ) (up 0 c) 0)) (dt xs ws c (sh 0 c) 1 0) (rsv xs ws 1 ((2 : Fin 3) : ℕ) (up 1 c) 0)) (dt xs ws c (sh 0 c) 0 1) (rsv xs ws 0 ((2 : Fin 3) : ℕ) (up 0 c) 1)))
        -∗ wp frame (wpE (defs₀ (F := F)) 𝒱₀ (c : Thread nD τ) none) Set.univ (k0_part24 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v2 v14 (k0_pay32 (k0_pay30 (dt xs ws c (sh 0 c) 0 0) (rsv xs ws 0 ((2 : Fin 3) : ℕ) (up 0 c) 0)) (dt xs ws c (sh 0 c) 1 0) (rsv xs ws 1 ((2 : Fin 3) : ℕ) (up 1 c) 0))) Q) := by
  rw [k0_part24_eq_skeleton]; unfold k0_part24_skel
  simp only [semSignalWord, semWaitWord, Prog.lift, Prog.bind_op, Prog.bind_ret, Prog.pure_eq_ret, wp_deviceId]
  iintro ⟨HP, Hp01⟩ Hk
  iapply (wait_rs (n := 12) (w := 19) xs ws c 0 2 1 0 rfl (by decide) rfl (by decide) rfl (crd_o 0 2 1)) $$ HP
  iintro Ho001 HP
  iapply (wait_rs (n := 12) (w := 20) xs ws c 1 2 1 0 rfl (by decide) rfl (by decide) rfl (crd_o 1 2 1)) $$ HP
  iintro Ho011 HP
  iapply (ld_p c 0 1 rfl rfl) $$ Hp01
  iintro Hp01
  iapply (ld_o c 0 0 1 (of15_1 c)) $$ Ho001
  iintro Ho001
  iapply (ld_o c 0 0 1 (of15_1 c)) $$ Ho001
  iintro Ho001
  iapply (st_o c 0 0 1 (Y := yv xs ws c 0 1) (of15_1 c) (show k0_pay33 (dt xs ws c (sh 0 c) 0 1) (rsv xs ws 0 ((2 : Fin 3) : ℕ) (up 0 c) 1) = yv xs ws c 0 1 from (pay33_eq _ _).trans (acc_rsv xs ws c 0 2 1 0 rfl))) $$ Ho001
  iintro Ho001
  rw [wp_ret]; imodintro
  iapply Hk $$ [HP Hp01 Ho001 Ho011]
  isplitl [HP]; · iexact HP
  isplitl [Hp01]; · iexact Hp01
  isplitl [Ho001]; · iexact Ho001
  iexact Ho011

theorem part25 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v2 : BitVec 32) {Q : _ → sProp 𝕄} :
    iprop(P xs ws c 12 21 ∗ pB c 1 1 (dt xs ws c (sh 0 c) 1 1) ∗ oB c 0 1 1 (rsv xs ws 1 ((2 : Fin 3) : ℕ) (up 1 c) 1))
      ⊢ iprop(((P xs ws c 12 22 ∗ pB c 1 1 (dt xs ws c (sh 0 c) 1 1) ∗ oB c 0 1 1 (yv xs ws c 1 1) ∗ sB c 0 0 (rsv xs ws 0 2 c 0)) -∗ Q (k0_pay36 (k0_pay34 (k0_pay32 (k0_pay30 (dt xs ws c (sh 0 c) 0 0) (rsv xs ws 0 ((2 : Fin 3) : ℕ) (up 0 c) 0)) (dt xs ws c (sh 0 c) 1 0) (rsv xs ws 1 ((2 : Fin 3) : ℕ) (up 1 c) 0)) (dt xs ws c (sh 0 c) 0 1) (rsv xs ws 0 ((2 : Fin 3) : ℕ) (up 0 c) 1)) (dt xs ws c (sh 0 c) 1 1) (rsv xs ws 1 ((2 : Fin 3) : ℕ) (up 1 c) 1)))
        -∗ wp frame (wpE (defs₀ (F := F)) 𝒱₀ (c : Thread nD τ) none) Set.univ (k0_part25 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v2 (k0_pay34 (k0_pay32 (k0_pay30 (dt xs ws c (sh 0 c) 0 0) (rsv xs ws 0 ((2 : Fin 3) : ℕ) (up 0 c) 0)) (dt xs ws c (sh 0 c) 1 0) (rsv xs ws 1 ((2 : Fin 3) : ℕ) (up 1 c) 0)) (dt xs ws c (sh 0 c) 0 1) (rsv xs ws 0 ((2 : Fin 3) : ℕ) (up 0 c) 1))) Q) := by
  rw [k0_part25_eq_skeleton]; unfold k0_part25_skel
  simp only [semSignalWord, semWaitWord, Prog.lift, Prog.bind_op, Prog.bind_ret, Prog.pure_eq_ret, wp_deviceId]
  iintro ⟨HP, Hp11, Ho011⟩ Hk
  iapply (ld_p c 1 1 rfl rfl) $$ Hp11
  iintro Hp11
  iapply (ld_o c 0 1 1 (of16_1 c)) $$ Ho011
  iintro Ho011
  iapply (ld_o c 0 1 1 (of16_1 c)) $$ Ho011
  iintro Ho011
  iapply (st_o c 0 1 1 (Y := yv xs ws c 1 1) (of16_1 c) (show k0_pay35 (dt xs ws c (sh 0 c) 1 1) (rsv xs ws 1 ((2 : Fin 3) : ℕ) (up 1 c) 1) = yv xs ws c 1 1 from (pay35_eq _ _).trans (acc_rsv xs ws c 1 2 1 0 rfl))) $$ Ho011
  iintro Ho011
  iapply (done_rs (n := 12) (w := 21) xs ws c 0 2 0 rfl (by decide) rfl (crd_s 0 0 2 0)) $$ HP
  iintro Hs00 HP
  rw [wp_ret]; imodintro
  iapply Hk $$ [HP Hp11 Ho011 Hs00]
  isplitl [HP]; · iexact HP
  isplitl [Hp11]; · iexact Hp11
  isplitl [Ho011]; · iexact Ho011
  iexact Hs00

theorem part26 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v2 : BitVec 32) {Xa : Vec F S1x8x128 .f32} {Q : _ → sProp 𝕄} :
    iprop(P xs ws c 12 22 ∗ aB c 0 fullShare Xa)
      ⊢ iprop((∀ r0 : BitVec 32, (P xs ws c 12 25 ∗ aB c 0 fullShare (amv xs ws c) ∗ sB c 1 0 (rsv xs ws 1 2 c 0) ∗ sB c 0 1 (rsv xs ws 0 2 c 1) ∗ sB c 1 1 (rsv xs ws 1 2 c 1)) -∗ Q r0)
        -∗ wp frame (wpE (defs₀ (F := F)) 𝒱₀ (c : Thread nD τ) none) Set.univ (k0_part26 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v2 (k0_pay36 (k0_pay34 (k0_pay32 (k0_pay30 (dt xs ws c (sh 0 c) 0 0) (rsv xs ws 0 ((2 : Fin 3) : ℕ) (up 0 c) 0)) (dt xs ws c (sh 0 c) 1 0) (rsv xs ws 1 ((2 : Fin 3) : ℕ) (up 1 c) 0)) (dt xs ws c (sh 0 c) 0 1) (rsv xs ws 0 ((2 : Fin 3) : ℕ) (up 0 c) 1)) (dt xs ws c (sh 0 c) 1 1) (rsv xs ws 1 ((2 : Fin 3) : ℕ) (up 1 c) 1))) Q) := by
  rw [k0_part26_eq_skeleton]; unfold k0_part26_skel
  simp only [semSignalWord, semWaitWord, Prog.lift, Prog.bind_op, Prog.bind_ret, Prog.pure_eq_ret, wp_deviceId]
  iintro ⟨HP, Ha0⟩ Hk
  iapply (done_rs (n := 12) (w := 22) xs ws c 1 2 0 rfl (by decide) rfl (crd_s 1 1 2 0)) $$ HP
  iintro Hs10 HP
  iapply (done_rs (n := 12) (w := 23) xs ws c 0 2 1 rfl (by decide) rfl (crd_s 0 0 2 1)) $$ HP
  iintro Hs01 HP
  iapply (done_rs (n := 12) (w := 24) xs ws c 1 2 1 rfl (by decide) rfl (crd_s 1 1 2 1)) $$ HP
  iintro Hs11 HP
  iapply (ld_a c 0 (of17 c)) $$ Ha0
  iintro Ha0
  iapply (st_a c 0 (Y := amv xs ws c) (of17 c) (show k0_pay37 (k0_pay36 (k0_pay34 (k0_pay32 (k0_pay30 (dt xs ws c (sh 0 c) 0 0) (rsv xs ws 0 ((2 : Fin 3) : ℕ) (up 0 c) 0)) (dt xs ws c (sh 0 c) 1 0) (rsv xs ws 1 ((2 : Fin 3) : ℕ) (up 1 c) 0)) (dt xs ws c (sh 0 c) 0 1) (rsv xs ws 0 ((2 : Fin 3) : ℕ) (up 0 c) 1)) (dt xs ws c (sh 0 c) 1 1) (rsv xs ws 1 ((2 : Fin 3) : ℕ) (up 1 c) 1)) = amv xs ws c from amv_raw xs ws c)) $$ Ha0
  iintro Ha0
  rw [wp_ret]; imodintro
  iapply Hk $$ [HP Ha0 Hs10 Hs01 Hs11]
  isplitl [HP]; · iexact HP
  isplitl [Ha0]; · iexact Ha0
  isplitl [Hs10]; · iexact Hs10
  isplitl [Hs01]; · iexact Hs01
  iexact Hs11

theorem part27 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v2 : BitVec 32) {Q : _ → sProp 𝕄} :
    iprop(P xs ws c 12 25 ∗ aB c 0 fullShare (amv xs ws c) ∗ fwd (F := F) c)
      ⊢ iprop((∀ r0 : BitVec 32, ∀ r1 : BitVec 32, ∀ r2 : BitVec 32, ∀ r3 : BitVec 1, ∀ r4 : BitVec 32, (P xs ws c 14 25 ∗ aB c 0 (ash 2) (amv xs ws c)) -∗ Q ⟨r0, r1, r2, r3, r4⟩)
        -∗ wp frame (wpE (defs₀ (F := F)) 𝒱₀ (c : Thread nD τ) none) Set.univ (k0_part27 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v2) Q) := by
  rw [k0_part27_eq_skeleton]; unfold k0_part27_skel
  simp only [semSignalWord, semWaitWord, Prog.lift, Prog.bind_op, Prog.bind_ret, Prog.pure_eq_ret, wp_deviceId]
  iintro ⟨HP, Ha0, Hfwdc⟩ Hk
  ihave Ha0 := (a_split c _) $$ Ha0
  icases Ha0 with ⟨Has0, Has1, Has2⟩
  iapply (send_am (n := 12) (w := 25) xs ws c 0 rfl (by decide) (am_dst c 0 (by decide)) (of18 c) (of18 c) (dv15 c) rfl rfl) $$ [HP Has0]
  · isplitl [HP]; · iexact HP
    isplitl [Has0]; · iexact Has0
    iempintro
  iintro HP
  iapply (send_am (n := 13) (w := 25) xs ws c 1 rfl (by decide) (am_dst1 c) (of18 c) (of18 c) (dv16 c) rfl rfl) $$ [HP Has1 Hfwdc]
  · isplitl [HP]; · iexact HP
    isplitl [Has1]; · iexact Has1
    iexact Hfwdc
  iintro HP
  rw [wp_ret]; imodintro
  iapply Hk $$ [HP Has2]
  isplitl [HP]; · iexact HP
  iexact Has2

theorem part28 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v791 : BitVec 32) (v825 : BitVec 32) (v826 : BitVec 32) (v827 : BitVec 1) (c0_i32_707 : BitVec 32) {Q : _ → sProp 𝕄} :
    iprop(P xs ws c 14 25 ∗ aB c 0 (ash 2) (amv xs ws c))
      ⊢ iprop((∀ r0 : BitVec 32, (P xs ws c 15 27 ∗ aB c 0 (ash 0) (amv xs ws c) ∗ aB c 3 fullShare (amv xs ws (sh 3 c))) -∗ Q r0)
        -∗ wp frame (wpE (defs₀ (F := F)) 𝒱₀ (c : Thread nD τ) none) Set.univ (k0_part28 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v791 v825 v826 v827 c0_i32_707) Q) := by
  rw [k0_part28_eq_skeleton]; unfold k0_part28_skel
  simp only [semSignalWord, semWaitWord, Prog.lift, Prog.bind_op, Prog.bind_ret, Prog.pure_eq_ret, wp_deviceId]
  iintro ⟨HP, Has2⟩ Hk
  iapply (send_am (n := 14) (w := 25) xs ws c 2 rfl (by decide) (am_dst c 2 (by decide)) (of18 c) (of18 c) (dv17 c) rfl rfl) $$ [HP Has2]
  · isplitl [HP]; · iexact HP
    isplitl [Has2]; · iexact Has2
    iempintro
  iintro HP
  iapply (done_am (n := 15) (w := 25) xs ws c 0 rfl (by decide) rfl (crd_a 0)) $$ HP
  iintro Has0 HP
  iapply (wait_am (n := 15) (w := 26) xs ws c 0 3 rfl rfl (by decide) rfl (crd_a 0)) $$ HP
  iintro Ha3 HP
  rw [wp_ret]; imodintro
  iapply Hk $$ [HP Has0 Ha3]
  isplitl [HP]; · iexact HP
  isplitl [Has0]; · iexact Has0
  iexact Ha3

theorem part29 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v812 : BitVec 32) (v833 : BitVec 32) {Q : _ → sProp 𝕄} :
    iprop(P xs ws c 15 27 ∗ aB c 0 (ash 0) (amv xs ws c))
      ⊢ iprop(((P xs ws c 15 31 ∗ aB c 2 fullShare (amv xs ws (sh 2 c)) ∗ aB c 0 fullShare (amv xs ws c) ∗ aB c 1 fullShare (amv xs ws (sh 1 c))) -∗ Q ⟨⟩)
        -∗ wp frame (wpE (defs₀ (F := F)) 𝒱₀ (c : Thread nD τ) none) Set.univ (k0_part29 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v812 v833) Q) := by
  rw [k0_part29_eq_skeleton]; unfold k0_part29_skel
  simp only [semSignalWord, semWaitWord, Prog.lift, Prog.bind_op, Prog.bind_ret, Prog.pure_eq_ret, wp_deviceId]
  iintro ⟨HP, Has0⟩ Hk
  iapply (done_am (n := 15) (w := 27) xs ws c 1 rfl (by decide) rfl (crd_a 1)) $$ HP
  iintro Has1 HP
  iapply (wait_am (n := 15) (w := 28) xs ws c 1 2 rfl rfl (by decide) rfl (crd_a 1)) $$ HP
  iintro Ha2 HP
  iapply (done_am (n := 15) (w := 29) xs ws c 2 rfl (by decide) rfl (crd_a 2)) $$ HP
  iintro Has2 HP
  ihave Ha0 := (a_join c _) $$ [Has0 Has1 Has2]
  · isplitl [Has0]; · iexact Has0
    isplitl [Has1]; · iexact Has1
    iexact Has2
  iapply (wait_am (n := 15) (w := 30) xs ws c 2 1 rfl rfl (by decide) rfl (crd_a 2)) $$ HP
  iintro Ha1 HP
  rw [wp_ret]; imodintro
  iapply Hk $$ [HP Ha2 Ha0 Ha1]
  isplitl [HP]; · iexact HP
  isplitl [Ha2]; · iexact Ha2
  isplitl [Ha0]; · iexact Ha0
  iexact Ha1

theorem part30 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v2 : BitVec 32) {Xq00 : Vec F S256x2048 .i8} {Q : _ → sProp 𝕄} :
    iprop(aB c 0 fullShare (amv xs ws c) ∗ aB c 1 fullShare (amv xs ws (sh 1 c)) ∗ aB c 2 fullShare (amv xs ws (sh 2 c)) ∗ aB c 3 fullShare (amv xs ws (sh 3 c)) ∗ oB c 0 0 0 (yv xs ws c 0 0) ∗ qB c 0 0 0 fullShare Xq00)
      ⊢ iprop((∀ r0 : BitVec 32, ∀ r1 : BitVec 32, ∀ r2 : BitVec 1, (oB c 0 0 0 (ownv xs ws c 0 0) ∗ qB c 0 0 0 fullShare (qv xs ws (sh 0 c) 0 0) ∗ amB c (amall xs ws)) -∗ Q ⟨(k0_pay38 (amall xs ws)), r0, r1, r2⟩)
        -∗ wp frame (wpE (defs₀ (F := F)) 𝒱₀ (c : Thread nD τ) none) Set.univ (k0_part30 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v2) Q) := by
  rw [k0_part30_eq_skeleton]; unfold k0_part30_skel
  simp only [semSignalWord, semWaitWord, Prog.lift, Prog.bind_op, Prog.bind_ret, Prog.pure_eq_ret, wp_deviceId]
  iintro ⟨Ha0, Ha1, Ha2, Ha3, Ho000, Hq000f⟩ Hk
  ihave Ham := (am_all xs ws c) $$ [Ha0 Ha1 Ha2 Ha3]
  · isplitl [Ha0]; · iexact Ha0
    isplitl [Ha1]; · iexact Ha1
    isplitl [Ha2]; · iexact Ha2
    iexact Ha3
  iapply (ld_am c) $$ Ham
  iintro Ham
  iapply (ld_o c 0 0 0 (of15_0 c)) $$ Ho000
  iintro Ho000
  iapply (ld_q c 0 0 0 (of15_0 c)) $$ Hq000f
  iintro Hq000f
  iapply (st_q c 0 0 0 (Y := qv xs ws (sh 0 c) 0 0) (of15_0 c) (show k0_pay40 (amall xs ws) (yv xs ws c 0 0) = qv xs ws (sh 0 c) 0 0 from (pay40_eq _ _).trans (qv_own xs ws c 0 0))) $$ Hq000f
  iintro Hq000f
  iapply (ld_o c 0 0 0 (of15_0 c)) $$ Ho000
  iintro Ho000
  iapply (st_o c 0 0 0 (Y := ownv xs ws c 0 0) (of15_0 c) (show k0_pay41 (amall xs ws) (yv xs ws c 0 0) = ownv xs ws c 0 0 from pay41_eq _ _)) $$ Ho000
  iintro Ho000
  rw [wp_ret]; imodintro
  iapply Hk $$ [Ho000 Hq000f Ham]
  isplitl [Ho000]; · iexact Ho000
  isplitl [Hq000f]; · iexact Hq000f
  iexact Ham

theorem part31 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v2 : BitVec 32) (v25 : BitVec 32) (v918 : BitVec 32) (v919 : BitVec 32) (v924 : BitVec 1) {Xq10 : Vec F S256x2048 .i8} {Q : _ → sProp 𝕄} :
    iprop(P xs ws c 15 31 ∗ qB c 0 0 0 fullShare (qv xs ws (sh 0 c) 0 0) ∗ oB c 0 1 0 (yv xs ws c 1 0) ∗ qB c 0 1 0 fullShare Xq10)
      ⊢ iprop(((P xs ws c 16 31 ∗ oB c 0 1 0 (yv xs ws c 1 0) ∗ qB c 0 1 0 fullShare (qv xs ws (sh 0 c) 1 0) ∗ qB c 0 0 0 fullShare.right (qv xs ws (sh 0 c) 0 0)) -∗ Q (k0_pay44 (k0_pay38 (amall xs ws)) (yv xs ws c 1 0)))
        -∗ wp frame (wpE (defs₀ (F := F)) 𝒱₀ (c : Thread nD τ) none) Set.univ (k0_part31 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v2 v25 (k0_pay38 (amall xs ws)) v918 v919 v924) Q) := by
  rw [k0_part31_eq_skeleton]; unfold k0_part31_skel
  simp only [semSignalWord, semWaitWord, Prog.lift, Prog.bind_op, Prog.bind_ret, Prog.pure_eq_ret, wp_deviceId]
  iintro ⟨HP, Hq000f, Ho010, Hq010f⟩ Hk
  ihave Hq000f := (q_split c 0 0 0 _) $$ Hq000f
  icases Hq000f with ⟨Hq000l, Hq000r⟩
  iapply (send_ag (n := 15) (w := 31) xs ws c 0 0 0 rfl (by decide) (K := 0) rfl (of2_0_0 c) (of2_0_0 c) (dv18 c) rfl rfl) $$ [HP Hq000l]
  · isplitl [HP]; · iexact HP
    iexact Hq000l
  iintro HP
  iapply (ld_o c 0 1 0 (of16_0 c)) $$ Ho010
  iintro Ho010
  iapply (ld_q c 0 1 0 (of16_0 c)) $$ Hq010f
  iintro Hq010f
  iapply (st_q c 0 1 0 (Y := qv xs ws (sh 0 c) 1 0) (of16_0 c) (show k0_pay43 (k0_pay38 (amall xs ws)) (yv xs ws c 1 0) = qv xs ws (sh 0 c) 1 0 from (pay43_eq _ _).trans (qv_own xs ws c 1 0))) $$ Hq010f
  iintro Hq010f
  iapply (ld_o c 0 1 0 (of16_0 c)) $$ Ho010
  iintro Ho010
  rw [wp_ret]; imodintro
  iapply Hk $$ [HP Ho010 Hq010f Hq000r]
  isplitl [HP]; · iexact HP
  isplitl [Ho010]; · iexact Ho010
  isplitl [Hq010f]; · iexact Hq010f
  iexact Hq000r

theorem part32 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v2 : BitVec 32) (v14 : BitVec 32) {Q : _ → sProp 𝕄} :
    iprop(P xs ws c 16 31 ∗ oB c 0 1 0 (yv xs ws c 1 0) ∗ qB c 0 1 0 fullShare (qv xs ws (sh 0 c) 1 0) ∗ oB c 0 0 1 (yv xs ws c 0 1))
      ⊢ iprop((∀ r0 : BitVec 32, (P xs ws c 17 31 ∗ oB c 0 1 0 (ownv xs ws c 1 0) ∗ oB c 0 0 1 (yv xs ws c 0 1) ∗ qB c 0 1 0 fullShare.right (qv xs ws (sh 0 c) 1 0)) -∗ Q ⟨r0, (k0_pay45 (k0_pay38 (amall xs ws)) (yv xs ws c 0 1))⟩)
        -∗ wp frame (wpE (defs₀ (F := F)) 𝒱₀ (c : Thread nD τ) none) Set.univ (k0_part32 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v2 v14 (k0_pay38 (amall xs ws)) (k0_pay44 (k0_pay38 (amall xs ws)) (yv xs ws c 1 0))) Q) := by
  rw [k0_part32_eq_skeleton]; unfold k0_part32_skel
  simp only [semSignalWord, semWaitWord, Prog.lift, Prog.bind_op, Prog.bind_ret, Prog.pure_eq_ret, wp_deviceId]
  iintro ⟨HP, Ho010, Hq010f, Ho001⟩ Hk
  iapply (st_o c 0 1 0 (Y := ownv xs ws c 1 0) (of16_0 c) (show k0_pay44 (k0_pay38 (amall xs ws)) (yv xs ws c 1 0) = ownv xs ws c 1 0 from pay44_eq _ _)) $$ Ho010
  iintro Ho010
  ihave Hq010f := (q_split c 0 1 0 _) $$ Hq010f
  icases Hq010f with ⟨Hq010l, Hq010r⟩
  iapply (send_ag (n := 16) (w := 31) xs ws c 1 0 0 rfl (by decide) (K := 0) rfl (of4_0_0 c) (of4_0_0 c) (dv19 c) rfl rfl) $$ [HP Hq010l]
  · isplitl [HP]; · iexact HP
    iexact Hq010l
  iintro HP
  iapply (ld_o c 0 0 1 (of15_1 c)) $$ Ho001
  iintro Ho001
  rw [wp_ret]; imodintro
  iapply Hk $$ [HP Ho010 Ho001 Hq010r]
  isplitl [HP]; · iexact HP
  isplitl [Ho010]; · iexact Ho010
  isplitl [Ho001]; · iexact Ho001
  iexact Hq010r

theorem part33 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v2 : BitVec 32) (v25 : BitVec 32) (v989 : BitVec 32) {Xq01 : Vec F S256x2048 .i8} {Q : _ → sProp 𝕄} :
    iprop(qB c 0 0 1 fullShare Xq01 ∗ oB c 0 0 1 (yv xs ws c 0 1))
      ⊢ iprop(((qB c 0 0 1 fullShare (qv xs ws (sh 0 c) 0 1) ∗ oB c 0 0 1 (ownv xs ws c 0 1)) -∗ Q ⟨⟩)
        -∗ wp frame (wpE (defs₀ (F := F)) 𝒱₀ (c : Thread nD τ) none) Set.univ (k0_part33 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v2 v25 (k0_pay38 (amall xs ws)) v989 (k0_pay45 (k0_pay38 (amall xs ws)) (yv xs ws c 0 1))) Q) := by
  rw [k0_part33_eq_skeleton]; unfold k0_part33_skel
  simp only [semSignalWord, semWaitWord, Prog.lift, Prog.bind_op, Prog.bind_ret, Prog.pure_eq_ret, wp_deviceId]
  iintro ⟨Hq001f, Ho001⟩ Hk
  iapply (ld_q c 0 0 1 (of15_1 c)) $$ Hq001f
  iintro Hq001f
  iapply (st_q c 0 0 1 (Y := qv xs ws (sh 0 c) 0 1) (of15_1 c) (show k0_pay47 (k0_pay45 (k0_pay38 (amall xs ws)) (yv xs ws c 0 1)) = qv xs ws (sh 0 c) 0 1 from (pay47_eq _ _).trans (qv_own xs ws c 0 1))) $$ Hq001f
  iintro Hq001f
  iapply (ld_o c 0 0 1 (of15_1 c)) $$ Ho001
  iintro Ho001
  iapply (st_o c 0 0 1 (Y := ownv xs ws c 0 1) (of15_1 c) (show k0_pay48 (k0_pay38 (amall xs ws)) (k0_pay45 (k0_pay38 (amall xs ws)) (yv xs ws c 0 1)) = ownv xs ws c 0 1 from pay48_eq _ _)) $$ Ho001
  iintro Ho001
  rw [wp_ret]; imodintro
  iapply Hk $$ [Hq001f Ho001]
  isplitl [Hq001f]; · iexact Hq001f
  iexact Ho001

theorem part34 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v2 : BitVec 32) {Xq11 : Vec F S256x2048 .i8} {Q : _ → sProp 𝕄} :
    iprop(P xs ws c 17 31 ∗ qB c 0 0 1 fullShare (qv xs ws (sh 0 c) 0 1) ∗ oB c 0 1 1 (yv xs ws c 1 1) ∗ qB c 0 1 1 fullShare Xq11)
      ⊢ iprop((∀ r0 : BitVec 32, ∀ r1 : BitVec 32, ∀ r2 : BitVec 32, (P xs ws c 18 31 ∗ oB c 0 1 1 (ownv xs ws c 1 1) ∗ qB c 0 1 1 fullShare (qv xs ws (sh 0 c) 1 1) ∗ qB c 0 0 1 fullShare.right (qv xs ws (sh 0 c) 0 1)) -∗ Q ⟨r0, r1, r2⟩)
        -∗ wp frame (wpE (defs₀ (F := F)) 𝒱₀ (c : Thread nD τ) none) Set.univ (k0_part34 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v2 (k0_pay38 (amall xs ws))) Q) := by
  rw [k0_part34_eq_skeleton]; unfold k0_part34_skel
  simp only [semSignalWord, semWaitWord, Prog.lift, Prog.bind_op, Prog.bind_ret, Prog.pure_eq_ret, wp_deviceId]
  iintro ⟨HP, Hq001f, Ho011, Hq011f⟩ Hk
  ihave Hq001f := (q_split c 0 0 1 _) $$ Hq001f
  icases Hq001f with ⟨Hq001l, Hq001r⟩
  iapply (send_ag (n := 17) (w := 31) xs ws c 0 0 1 rfl (by decide) (K := 0) rfl (of2_0_1 c) (of2_0_1 c) (dv20 c) rfl rfl) $$ [HP Hq001l]
  · isplitl [HP]; · iexact HP
    iexact Hq001l
  iintro HP
  iapply (ld_o c 0 1 1 (of16_1 c)) $$ Ho011
  iintro Ho011
  iapply (ld_q c 0 1 1 (of16_1 c)) $$ Hq011f
  iintro Hq011f
  iapply (st_q c 0 1 1 (Y := qv xs ws (sh 0 c) 1 1) (of16_1 c) (show k0_pay50 (k0_pay38 (amall xs ws)) (yv xs ws c 1 1) = qv xs ws (sh 0 c) 1 1 from (pay50_eq _ _).trans (qv_own xs ws c 1 1))) $$ Hq011f
  iintro Hq011f
  iapply (ld_o c 0 1 1 (of16_1 c)) $$ Ho011
  iintro Ho011
  iapply (st_o c 0 1 1 (Y := ownv xs ws c 1 1) (of16_1 c) (show k0_pay51 (k0_pay38 (amall xs ws)) (yv xs ws c 1 1) = ownv xs ws c 1 1 from rfl)) $$ Ho011
  iintro Ho011
  rw [wp_ret]; imodintro
  iapply Hk $$ [HP Ho011 Hq011f Hq001r]
  isplitl [HP]; · iexact HP
  isplitl [Ho011]; · iexact Ho011
  isplitl [Hq011f]; · iexact Hq011f
  iexact Hq001r

theorem part35 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v2 : BitVec 32) (v14 : BitVec 32) (v1069 : BitVec 32) (v1070 : BitVec 32) (c512_i32_866 : BitVec 32) {Q : _ → sProp 𝕄} :
    iprop(P xs ws c 18 31 ∗ qB c 0 1 1 fullShare (qv xs ws (sh 0 c) 1 1))
      ⊢ iprop((∀ r0 : BitVec 32, ∀ r1 : BitVec 32, ∀ r2 : BitVec 32, ∀ r3 : BitVec 1, (P xs ws c 19 31 ∗ qB c 0 1 1 fullShare.right (qv xs ws (sh 0 c) 1 1)) -∗ Q ⟨r0, r1, r2, r3⟩)
        -∗ wp frame (wpE (defs₀ (F := F)) 𝒱₀ (c : Thread nD τ) none) Set.univ (k0_part35 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v2 v14 v1069 v1070 c512_i32_866) Q) := by
  rw [k0_part35_eq_skeleton]; unfold k0_part35_skel
  simp only [semSignalWord, semWaitWord, Prog.lift, Prog.bind_op, Prog.bind_ret, Prog.pure_eq_ret, wp_deviceId]
  iintro ⟨HP, Hq011f⟩ Hk
  ihave Hq011f := (q_split c 0 1 1 _) $$ Hq011f
  icases Hq011f with ⟨Hq011l, Hq011r⟩
  iapply (send_ag (n := 18) (w := 31) xs ws c 1 0 1 rfl (by decide) (K := 0) rfl (of4_0_1 c) (of4_0_1 c) (dv21 c) rfl rfl) $$ [HP Hq011l]
  · isplitl [HP]; · iexact HP
    iexact Hq011l
  iintro HP
  rw [wp_ret]; imodintro
  iapply Hk $$ [HP Hq011r]
  isplitl [HP]; · iexact HP
  iexact Hq011r

theorem part36 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v2 : BitVec 32) (v14 : BitVec 32) (v25 : BitVec 32) (v1096 : BitVec 32) (v1100 : BitVec 32) (v1101 : BitVec 32) (v1102 : BitVec 1) {Q : _ → sProp 𝕄} :
    P xs ws c 19 31
      ⊢ iprop((∀ r0 : BitVec 32, ∀ r1 : BitVec 32, (P xs ws c 19 33 ∗ qB c 3 0 0 fullShare (qv xs ws (sh 3 c) 0 0) ∗ qB c 1 1 0 fullShare (qv xs ws (sh 1 c) 1 0)) -∗ Q ⟨r0, r1⟩)
        -∗ wp frame (wpE (defs₀ (F := F)) 𝒱₀ (c : Thread nD τ) none) Set.univ (k0_part36 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v2 v14 v25 v1096 v1100 v1101 v1102) Q) := by
  rw [k0_part36_eq_skeleton]; unfold k0_part36_skel
  simp only [semSignalWord, semWaitWord, Prog.lift, Prog.bind_op, Prog.bind_ret, Prog.pure_eq_ret, wp_deviceId]
  iintro HP Hk
  iapply (wait_ag (n := 19) (w := 31) xs ws c 0 0 0 3 rfl rfl (by decide) rfl (crd_q 0 0 0)) $$ HP
  iintro Hq300f HP
  iapply (wait_ag (n := 19) (w := 32) xs ws c 1 0 0 1 rfl rfl (by decide) rfl (crd_q 1 0 0)) $$ HP
  iintro Hq110f HP
  rw [wp_ret]; imodintro
  iapply Hk $$ [HP Hq300f Hq110f]
  isplitl [HP]; · iexact HP
  isplitl [Hq300f]; · iexact Hq300f
  iexact Hq110f

theorem part37 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v2 : BitVec 32) (v25 : BitVec 32) (v1131 : BitVec 32) {Q : _ → sProp 𝕄} :
    iprop(P xs ws c 19 33 ∗ qB c 3 0 0 fullShare (qv xs ws (sh 3 c) 0 0))
      ⊢ iprop((∀ r0 : BitVec 32, ∀ r1 : BitVec 1, ∀ r2 : BitVec 32, (P xs ws c 20 33 ∗ qB c 3 0 0 fullShare.right (qv xs ws (sh 3 c) 0 0)) -∗ Q ⟨r0, r1, r2⟩)
        -∗ wp frame (wpE (defs₀ (F := F)) 𝒱₀ (c : Thread nD τ) none) Set.univ (k0_part37 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v2 v25 v1131) Q) := by
  rw [k0_part37_eq_skeleton]; unfold k0_part37_skel
  simp only [semSignalWord, semWaitWord, Prog.lift, Prog.bind_op, Prog.bind_ret, Prog.pure_eq_ret, wp_deviceId]
  iintro ⟨HP, Hq300f⟩ Hk
  ihave Hq300f := (q_split c 3 0 0 _) $$ Hq300f
  icases Hq300f with ⟨Hq300l, Hq300r⟩
  iapply (send_ag (n := 19) (w := 33) xs ws c 0 1 0 rfl (by decide) (K := 3) rfl (of2_1_0 c) (of2_1_0 c) (dv22 c) rfl rfl) $$ [HP Hq300l]
  · isplitl [HP]; · iexact HP
    iexact Hq300l
  iintro HP
  rw [wp_ret]; imodintro
  iapply Hk $$ [HP Hq300r]
  isplitl [HP]; · iexact HP
  iexact Hq300r

theorem part38 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v14 : BitVec 32) (v1096 : BitVec 32) (v1108 : BitVec 32) (v1158 : BitVec 32) (v1163 : BitVec 1) (v1164 : BitVec 32) {Xo300 : Vec F S256x2048 .bf16} {Q : _ → sProp 𝕄} :
    iprop(P xs ws c 20 33 ∗ qB c 1 1 0 fullShare (qv xs ws (sh 1 c) 1 0) ∗ qB c 3 0 0 fullShare.right (qv xs ws (sh 3 c) 0 0) ∗ oB c 3 0 0 Xo300)
      ⊢ iprop(((P xs ws c 21 33 ∗ qB c 3 0 0 fullShare.right (qv xs ws (sh 3 c) 0 0) ∗ oB c 3 0 0 (deqv xs ws (sh 3 c) 0 0) ∗ qB c 1 1 0 fullShare.right (qv xs ws (sh 1 c) 1 0)) -∗ Q (k0_pay53 (k0_pay38 (amall xs ws)) (qv xs ws (sh 1 c) 1 0)))
        -∗ wp frame (wpE (defs₀ (F := F)) 𝒱₀ (c : Thread nD τ) none) Set.univ (k0_part38 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v14 (k0_pay38 (amall xs ws)) v1096 v1108 v1158 v1163 v1164) Q) := by
  rw [k0_part38_eq_skeleton]; unfold k0_part38_skel
  simp only [semSignalWord, semWaitWord, Prog.lift, Prog.bind_op, Prog.bind_ret, Prog.pure_eq_ret, wp_deviceId]
  iintro ⟨HP, Hq110f, Hq300r, Ho300⟩ Hk
  ihave Hq110f := (q_split c 1 1 0 _) $$ Hq110f
  icases Hq110f with ⟨Hq110l, Hq110r⟩
  iapply (send_ag (n := 20) (w := 33) xs ws c 1 1 0 rfl (by decide) (K := 1) rfl (of4_1_0 c) (of4_1_0 c) (dv23 c) rfl rfl) $$ [HP Hq110l]
  · isplitl [HP]; · iexact HP
    iexact Hq110l
  iintro HP
  iapply (ld_q c 3 0 0 (of9_0_1_0 c)) $$ Hq300r
  iintro Hq300r
  iapply (ld_o c 3 0 0 (of9_0_1_0 c)) $$ Ho300
  iintro Ho300
  iapply (st_o c 3 0 0 (Y := deqv xs ws (sh 3 c) 0 0) (of9_0_1_0 c) (show k0_pay52 (k0_pay38 (amall xs ws)) (qv xs ws (sh 3 c) 0 0) = deqv xs ws (sh 3 c) 0 0 from rfl)) $$ Ho300
  iintro Ho300
  iapply (ld_q c 1 1 0 (of10_0_1_0 c)) $$ Hq110r
  iintro Hq110r
  rw [wp_ret]; imodintro
  iapply Hk $$ [HP Hq300r Ho300 Hq110r]
  isplitl [HP]; · iexact HP
  isplitl [Hq300r]; · iexact Hq300r
  isplitl [Ho300]; · iexact Ho300
  iexact Hq110r

theorem part39 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v2 : BitVec 32) (v25 : BitVec 32) {Xo110 : Vec F S256x2048 .bf16} {Q : _ → sProp 𝕄} :
    oB c 1 1 0 Xo110
      ⊢ iprop((∀ r0 : BitVec 32, ∀ r1 : BitVec 32, oB c 1 1 0 (deqv xs ws (sh 1 c) 1 0) -∗ Q ⟨r0, r1⟩)
        -∗ wp frame (wpE (defs₀ (F := F)) 𝒱₀ (c : Thread nD τ) none) Set.univ (k0_part39 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v2 v25 (k0_pay53 (k0_pay38 (amall xs ws)) (qv xs ws (sh 1 c) 1 0))) Q) := by
  rw [k0_part39_eq_skeleton]; unfold k0_part39_skel
  simp only [semSignalWord, semWaitWord, Prog.lift, Prog.bind_op, Prog.bind_ret, Prog.pure_eq_ret, wp_deviceId]
  iintro Ho110 Hk
  iapply (ld_o c 1 1 0 (of10_0_1_0 c)) $$ Ho110
  iintro Ho110
  iapply (st_o c 1 1 0 (Y := deqv xs ws (sh 1 c) 1 0) (of10_0_1_0 c) (show k0_pay53 (k0_pay38 (amall xs ws)) (qv xs ws (sh 1 c) 1 0) = deqv xs ws (sh 1 c) 1 0 from pay53_eq _ _)) $$ Ho110
  iintro Ho110
  rw [wp_ret]; imodintro
  iapply Hk $$ [Ho110]
  iexact Ho110

theorem part40 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v2 : BitVec 32) (v14 : BitVec 32) (v1225 : BitVec 32) {Q : _ → sProp 𝕄} :
    P xs ws c 21 33
      ⊢ iprop((∀ r0 : BitVec 32, (P xs ws c 21 35 ∗ qB c 3 0 1 fullShare (qv xs ws (sh 3 c) 0 1) ∗ qB c 1 1 1 fullShare (qv xs ws (sh 1 c) 1 1)) -∗ Q r0)
        -∗ wp frame (wpE (defs₀ (F := F)) 𝒱₀ (c : Thread nD τ) none) Set.univ (k0_part40 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v2 v14 v1225) Q) := by
  rw [k0_part40_eq_skeleton]; unfold k0_part40_skel
  simp only [semSignalWord, semWaitWord, Prog.lift, Prog.bind_op, Prog.bind_ret, Prog.pure_eq_ret, wp_deviceId]
  iintro HP Hk
  iapply (wait_ag (n := 21) (w := 33) xs ws c 0 0 1 3 rfl rfl (by decide) rfl (crd_q 0 0 1)) $$ HP
  iintro Hq301f HP
  iapply (wait_ag (n := 21) (w := 34) xs ws c 1 0 1 1 rfl rfl (by decide) rfl (crd_q 1 0 1)) $$ HP
  iintro Hq111f HP
  rw [wp_ret]; imodintro
  iapply Hk $$ [HP Hq301f Hq111f]
  isplitl [HP]; · iexact HP
  isplitl [Hq301f]; · iexact Hq301f
  iexact Hq111f

theorem part41 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v2 : BitVec 32) (v14 : BitVec 32) (v25 : BitVec 32) (v1262 : BitVec 32) {Q : _ → sProp 𝕄} :
    iprop(P xs ws c 21 35 ∗ qB c 3 0 1 fullShare (qv xs ws (sh 3 c) 0 1))
      ⊢ iprop(((P xs ws c 22 35 ∗ qB c 3 0 1 fullShare.right (qv xs ws (sh 3 c) 0 1)) -∗ Q ⟨⟩)
        -∗ wp frame (wpE (defs₀ (F := F)) 𝒱₀ (c : Thread nD τ) none) Set.univ (k0_part41 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v2 v14 v25 v1262) Q) := by
  rw [k0_part41_eq_skeleton]; unfold k0_part41_skel
  simp only [semSignalWord, semWaitWord, Prog.lift, Prog.bind_op, Prog.bind_ret, Prog.pure_eq_ret, wp_deviceId]
  iintro ⟨HP, Hq301f⟩ Hk
  ihave Hq301f := (q_split c 3 0 1 _) $$ Hq301f
  icases Hq301f with ⟨Hq301l, Hq301r⟩
  iapply (send_ag (n := 21) (w := 35) xs ws c 0 1 1 rfl (by decide) (K := 3) rfl (of2_1_1 c) (of2_1_1 c) (dv24 c) rfl rfl) $$ [HP Hq301l]
  · isplitl [HP]; · iexact HP
    iexact Hq301l
  iintro HP
  rw [wp_ret]; imodintro
  iapply Hk $$ [HP Hq301r]
  isplitl [HP]; · iexact HP
  iexact Hq301r

theorem part42 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v2 : BitVec 32) (v1213 : BitVec 32) (v1225 : BitVec 32) {Xo301 : Vec F S256x2048 .bf16} {Xo111 : Vec F S256x2048 .bf16} {Q : _ → sProp 𝕄} :
    iprop(P xs ws c 22 35 ∗ qB c 1 1 1 fullShare (qv xs ws (sh 1 c) 1 1) ∗ qB c 3 0 1 fullShare.right (qv xs ws (sh 3 c) 0 1) ∗ oB c 3 0 1 Xo301 ∗ oB c 1 1 1 Xo111)
      ⊢ iprop((∀ r0 : BitVec 32, (P xs ws c 23 35 ∗ qB c 3 0 1 fullShare.right (qv xs ws (sh 3 c) 0 1) ∗ oB c 3 0 1 (deqv xs ws (sh 3 c) 0 1) ∗ oB c 1 1 1 (deqv xs ws (sh 1 c) 1 1) ∗ qB c 1 1 1 fullShare.right (qv xs ws (sh 1 c) 1 1)) -∗ Q r0)
        -∗ wp frame (wpE (defs₀ (F := F)) 𝒱₀ (c : Thread nD τ) none) Set.univ (k0_part42 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v2 (k0_pay38 (amall xs ws)) v1213 v1225) Q) := by
  rw [k0_part42_eq_skeleton]; unfold k0_part42_skel
  simp only [semSignalWord, semWaitWord, Prog.lift, Prog.bind_op, Prog.bind_ret, Prog.pure_eq_ret, wp_deviceId]
  iintro ⟨HP, Hq111f, Hq301r, Ho301, Ho111⟩ Hk
  ihave Hq111f := (q_split c 1 1 1 _) $$ Hq111f
  icases Hq111f with ⟨Hq111l, Hq111r⟩
  iapply (send_ag (n := 22) (w := 35) xs ws c 1 1 1 rfl (by decide) (K := 1) rfl (of4_1_1 c) (of4_1_1 c) (dv25 c) rfl rfl) $$ [HP Hq111l]
  · isplitl [HP]; · iexact HP
    iexact Hq111l
  iintro HP
  iapply (ld_q c 3 0 1 (of9_0_1_1 c)) $$ Hq301r
  iintro Hq301r
  iapply (ld_o c 3 0 1 (of9_0_1_1 c)) $$ Ho301
  iintro Ho301
  iapply (st_o c 3 0 1 (Y := deqv xs ws (sh 3 c) 0 1) (of9_0_1_1 c) (show k0_pay54 (k0_pay38 (amall xs ws)) (qv xs ws (sh 3 c) 0 1) = deqv xs ws (sh 3 c) 0 1 from pay54_eq _ _)) $$ Ho301
  iintro Ho301
  iapply (ld_q c 1 1 1 (of10_0_1_1 c)) $$ Hq111r
  iintro Hq111r
  iapply (ld_o c 1 1 1 (of10_0_1_1 c)) $$ Ho111
  iintro Ho111
  iapply (st_o c 1 1 1 (Y := deqv xs ws (sh 1 c) 1 1) (of10_0_1_1 c) (show k0_pay55 (k0_pay38 (amall xs ws)) (qv xs ws (sh 1 c) 1 1) = deqv xs ws (sh 1 c) 1 1 from pay55_eq _ _)) $$ Ho111
  iintro Ho111
  rw [wp_ret]; imodintro
  iapply Hk $$ [HP Hq301r Ho301 Ho111 Hq111r]
  isplitl [HP]; · iexact HP
  isplitl [Hq301r]; · iexact Hq301r
  isplitl [Ho301]; · iexact Ho301
  isplitl [Ho111]; · iexact Ho111
  iexact Hq111r

theorem part43 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v2 : BitVec 32) (v25 : BitVec 32) (v1330 : BitVec 32) {Q : _ → sProp 𝕄} :
    P xs ws c 23 35
      ⊢ iprop((∀ r0 : BitVec 32, ∀ r1 : BitVec 32, (P xs ws c 23 36 ∗ qB c 2 0 0 fullShare (qv xs ws (sh 2 c) 0 0)) -∗ Q ⟨r0, r1⟩)
        -∗ wp frame (wpE (defs₀ (F := F)) 𝒱₀ (c : Thread nD τ) none) Set.univ (k0_part43 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v2 v25 v1330) Q) := by
  rw [k0_part43_eq_skeleton]; unfold k0_part43_skel
  simp only [semSignalWord, semWaitWord, Prog.lift, Prog.bind_op, Prog.bind_ret, Prog.pure_eq_ret, wp_deviceId]
  iintro HP Hk
  iapply (wait_ag (n := 23) (w := 35) xs ws c 0 1 0 2 rfl rfl (by decide) rfl (crd_q 0 1 0)) $$ HP
  iintro Hq200f HP
  rw [wp_ret]; imodintro
  iapply Hk $$ [HP Hq200f]
  isplitl [HP]; · iexact HP
  iexact Hq200f

theorem part44 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v2 : BitVec 32) (v14 : BitVec 32) (v25 : BitVec 32) (c1_i32_1104 : BitVec 32) {Q : _ → sProp 𝕄} :
    iprop(P xs ws c 23 36 ∗ qB c 2 0 0 fullShare (qv xs ws (sh 2 c) 0 0))
      ⊢ iprop((∀ r0 : BitVec 32, ∀ r1 : BitVec 32, ∀ r2 : BitVec 1, (P xs ws c 24 37 ∗ qB c 2 1 0 fullShare (qv xs ws (sh 2 c) 1 0) ∗ qB c 2 0 0 fullShare.right (qv xs ws (sh 2 c) 0 0)) -∗ Q ⟨r0, r1, r2⟩)
        -∗ wp frame (wpE (defs₀ (F := F)) 𝒱₀ (c : Thread nD τ) none) Set.univ (k0_part44 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v2 v14 v25 c1_i32_1104) Q) := by
  rw [k0_part44_eq_skeleton]; unfold k0_part44_skel
  simp only [semSignalWord, semWaitWord, Prog.lift, Prog.bind_op, Prog.bind_ret, Prog.pure_eq_ret, wp_deviceId]
  iintro ⟨HP, Hq200f⟩ Hk
  iapply (wait_ag (n := 23) (w := 36) xs ws c 1 1 0 2 rfl rfl (by decide) rfl (crd_q 1 1 0)) $$ HP
  iintro Hq210f HP
  ihave Hq200f := (q_split c 2 0 0 _) $$ Hq200f
  icases Hq200f with ⟨Hq200l, Hq200r⟩
  iapply (send_ag (n := 23) (w := 37) xs ws c 0 2 0 rfl (by decide) (K := 2) rfl (of2_2_0 c) (of2_2_0 c) (dv26 c) rfl rfl) $$ [HP Hq200l]
  · isplitl [HP]; · iexact HP
    iexact Hq200l
  iintro HP
  rw [wp_ret]; imodintro
  iapply Hk $$ [HP Hq210f Hq200r]
  isplitl [HP]; · iexact HP
  isplitl [Hq210f]; · iexact Hq210f
  iexact Hq200r

theorem part45 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v14 : BitVec 32) (v1330 : BitVec 32) (v1342 : BitVec 32) (v1389 : BitVec 32) (c4_i32_1129 : BitVec 32) (v1390 : BitVec 1) {Q : _ → sProp 𝕄} :
    iprop(P xs ws c 24 37 ∗ qB c 2 1 0 fullShare (qv xs ws (sh 2 c) 1 0) ∗ qB c 2 0 0 fullShare.right (qv xs ws (sh 2 c) 0 0) ∗ oB c 2 0 0 (rsv xs ws 0 ((0 : Fin 3) : ℕ) (up 0 c) 0))
      ⊢ iprop((∀ r0 : BitVec 32, ∀ r1 : BitVec 32, (P xs ws c 25 37 ∗ qB c 2 0 0 fullShare.right (qv xs ws (sh 2 c) 0 0) ∗ oB c 2 0 0 (deqv xs ws (sh 2 c) 0 0) ∗ qB c 2 1 0 fullShare.right (qv xs ws (sh 2 c) 1 0)) -∗ Q ⟨r0, r1⟩)
        -∗ wp frame (wpE (defs₀ (F := F)) 𝒱₀ (c : Thread nD τ) none) Set.univ (k0_part45 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v14 (k0_pay38 (amall xs ws)) v1330 v1342 v1389 c4_i32_1129 v1390) Q) := by
  rw [k0_part45_eq_skeleton]; unfold k0_part45_skel
  simp only [semSignalWord, semWaitWord, Prog.lift, Prog.bind_op, Prog.bind_ret, Prog.pure_eq_ret, wp_deviceId]
  iintro ⟨HP, Hq210f, Hq200r, Ho200⟩ Hk
  ihave Hq210f := (q_split c 2 1 0 _) $$ Hq210f
  icases Hq210f with ⟨Hq210l, Hq210r⟩
  iapply (send_ag (n := 24) (w := 37) xs ws c 1 2 0 rfl (by decide) (K := 2) rfl (of4_2_0 c) (of4_2_0 c) (dv27 c) rfl rfl) $$ [HP Hq210l]
  · isplitl [HP]; · iexact HP
    iexact Hq210l
  iintro HP
  iapply (ld_q c 2 0 0 (of9_1_1_0 c)) $$ Hq200r
  iintro Hq200r
  iapply (ld_o c 2 0 0 (of9_1_1_0 c)) $$ Ho200
  iintro Ho200
  iapply (st_o c 2 0 0 (Y := deqv xs ws (sh 2 c) 0 0) (of9_1_1_0 c) (show k0_pay56 (k0_pay38 (amall xs ws)) (qv xs ws (sh 2 c) 0 0) = deqv xs ws (sh 2 c) 0 0 from pay56_eq _ _)) $$ Ho200
  iintro Ho200
  rw [wp_ret]; imodintro
  iapply Hk $$ [HP Hq200r Ho200 Hq210r]
  isplitl [HP]; · iexact HP
  isplitl [Hq200r]; · iexact Hq200r
  isplitl [Ho200]; · iexact Ho200
  iexact Hq210r

theorem part46 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v2 : BitVec 32) (v1424 : BitVec 32) (c512_i32_1154 : BitVec 32) {Q : _ → sProp 𝕄} :
    iprop(qB c 2 1 0 fullShare.right (qv xs ws (sh 2 c) 1 0) ∗ oB c 2 1 0 (rsv xs ws 1 ((0 : Fin 3) : ℕ) (up 1 c) 0))
      ⊢ iprop((∀ r0 : BitVec 32, ∀ r1 : BitVec 32, (qB c 2 1 0 fullShare.right (qv xs ws (sh 2 c) 1 0) ∗ oB c 2 1 0 (deqv xs ws (sh 2 c) 1 0)) -∗ Q ⟨r0, r1⟩)
        -∗ wp frame (wpE (defs₀ (F := F)) 𝒱₀ (c : Thread nD τ) none) Set.univ (k0_part46 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v2 (k0_pay38 (amall xs ws)) v1424 c512_i32_1154) Q) := by
  rw [k0_part46_eq_skeleton]; unfold k0_part46_skel
  simp only [semSignalWord, semWaitWord, Prog.lift, Prog.bind_op, Prog.bind_ret, Prog.pure_eq_ret, wp_deviceId]
  iintro ⟨Hq210r, Ho210⟩ Hk
  iapply (ld_q c 2 1 0 (of10_1_1_0 c)) $$ Hq210r
  iintro Hq210r
  iapply (ld_o c 2 1 0 (of10_1_1_0 c)) $$ Ho210
  iintro Ho210
  iapply (st_o c 2 1 0 (Y := deqv xs ws (sh 2 c) 1 0) (of10_1_1_0 c) (show k0_pay57 (k0_pay38 (amall xs ws)) (qv xs ws (sh 2 c) 1 0) = deqv xs ws (sh 2 c) 1 0 from pay57_eq _ _)) $$ Ho210
  iintro Ho210
  rw [wp_ret]; imodintro
  iapply Hk $$ [Hq210r Ho210]
  isplitl [Hq210r]; · iexact Hq210r
  iexact Ho210

theorem part47 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v2 : BitVec 32) (v14 : BitVec 32) (v25 : BitVec 32) (v1447 : BitVec 32) (v1459 : BitVec 32) {Q : _ → sProp 𝕄} :
    P xs ws c 25 37
      ⊢ iprop((∀ r0 : BitVec 32, ∀ r1 : BitVec 32, ∀ r2 : BitVec 1, ∀ r3 : BitVec 1, (P xs ws c 25 39 ∗ qB c 2 0 1 fullShare (qv xs ws (sh 2 c) 0 1) ∗ qB c 2 1 1 fullShare (qv xs ws (sh 2 c) 1 1)) -∗ Q ⟨r0, r1, r2, r3⟩)
        -∗ wp frame (wpE (defs₀ (F := F)) 𝒱₀ (c : Thread nD τ) none) Set.univ (k0_part47 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v2 v14 v25 v1447 v1459) Q) := by
  rw [k0_part47_eq_skeleton]; unfold k0_part47_skel
  simp only [semSignalWord, semWaitWord, Prog.lift, Prog.bind_op, Prog.bind_ret, Prog.pure_eq_ret, wp_deviceId]
  iintro HP Hk
  iapply (wait_ag (n := 25) (w := 37) xs ws c 0 1 1 2 rfl rfl (by decide) rfl (crd_q 0 1 1)) $$ HP
  iintro Hq201f HP
  iapply (wait_ag (n := 25) (w := 38) xs ws c 1 1 1 2 rfl rfl (by decide) rfl (crd_q 1 1 1)) $$ HP
  iintro Hq211f HP
  rw [wp_ret]; imodintro
  iapply Hk $$ [HP Hq201f Hq211f]
  isplitl [HP]; · iexact HP
  isplitl [Hq201f]; · iexact Hq201f
  iexact Hq211f

theorem part48 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v2 : BitVec 32) (v25 : BitVec 32) (v1485 : BitVec 32) (v1486 : BitVec 32) (v1487 : BitVec 1) (v1488 : BitVec 1) {Q : _ → sProp 𝕄} :
    iprop(P xs ws c 25 39 ∗ qB c 2 0 1 fullShare (qv xs ws (sh 2 c) 0 1))
      ⊢ iprop((∀ r0 : BitVec 32, ∀ r1 : BitVec 32, (P xs ws c 26 39 ∗ qB c 2 0 1 fullShare.right (qv xs ws (sh 2 c) 0 1)) -∗ Q ⟨r0, r1⟩)
        -∗ wp frame (wpE (defs₀ (F := F)) 𝒱₀ (c : Thread nD τ) none) Set.univ (k0_part48 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v2 v25 v1485 v1486 v1487 v1488) Q) := by
  rw [k0_part48_eq_skeleton]; unfold k0_part48_skel
  simp only [semSignalWord, semWaitWord, Prog.lift, Prog.bind_op, Prog.bind_ret, Prog.pure_eq_ret, wp_deviceId]
  iintro ⟨HP, Hq201f⟩ Hk
  ihave Hq201f := (q_split c 2 0 1 _) $$ Hq201f
  icases Hq201f with ⟨Hq201l, Hq201r⟩
  iapply (send_ag (n := 25) (w := 39) xs ws c 0 2 1 rfl (by decide) (K := 2) rfl (of2_2_1 c) (of2_2_1 c) (dv28 c) rfl rfl) $$ [HP Hq201l]
  · isplitl [HP]; · iexact HP
    iexact Hq201l
  iintro HP
  rw [wp_ret]; imodintro
  iapply Hk $$ [HP Hq201r]
  isplitl [HP]; · iexact HP
  iexact Hq201r

theorem part49 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v2 : BitVec 32) (v14 : BitVec 32) (v1447 : BitVec 32) (v1459 : BitVec 32) (v1521 : BitVec 32) (c256_i32_1233 : BitVec 32) {Q : _ → sProp 𝕄} :
    iprop(P xs ws c 26 39 ∗ qB c 2 1 1 fullShare (qv xs ws (sh 2 c) 1 1) ∗ qB c 2 0 1 fullShare.right (qv xs ws (sh 2 c) 0 1) ∗ oB c 2 0 1 (rsv xs ws 0 ((0 : Fin 3) : ℕ) (up 0 c) 1) ∗ oB c 2 1 1 (rsv xs ws 1 ((0 : Fin 3) : ℕ) (up 1 c) 1))
      ⊢ iprop((∀ r0 : BitVec 32, ∀ r1 : BitVec 32, ∀ r2 : BitVec 1, ∀ r3 : BitVec 32, (P xs ws c 27 39 ∗ qB c 2 0 1 fullShare.right (qv xs ws (sh 2 c) 0 1) ∗ oB c 2 0 1 (deqv xs ws (sh 2 c) 0 1) ∗ oB c 2 1 1 (deqv xs ws (sh 2 c) 1 1) ∗ qB c 2 1 1 fullShare.right (qv xs ws (sh 2 c) 1 1)) -∗ Q ⟨r0, r1, r2, r3⟩)
        -∗ wp frame (wpE (defs₀ (F := F)) 𝒱₀ (c : Thread nD τ) none) Set.univ (k0_part49 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v2 v14 (k0_pay38 (amall xs ws)) v1447 v1459 v1521 c256_i32_1233) Q) := by
  rw [k0_part49_eq_skeleton]; unfold k0_part49_skel
  simp only [semSignalWord, semWaitWord, Prog.lift, Prog.bind_op, Prog.bind_ret, Prog.pure_eq_ret, wp_deviceId]
  iintro ⟨HP, Hq211f, Hq201r, Ho201, Ho211⟩ Hk
  ihave Hq211f := (q_split c 2 1 1 _) $$ Hq211f
  icases Hq211f with ⟨Hq211l, Hq211r⟩
  iapply (send_ag (n := 26) (w := 39) xs ws c 1 2 1 rfl (by decide) (K := 2) rfl (of4_2_1 c) (of4_2_1 c) (dv29 c) rfl rfl) $$ [HP Hq211l]
  · isplitl [HP]; · iexact HP
    iexact Hq211l
  iintro HP
  iapply (ld_q c 2 0 1 (of9_1_1_1 c)) $$ Hq201r
  iintro Hq201r
  iapply (ld_o c 2 0 1 (of9_1_1_1 c)) $$ Ho201
  iintro Ho201
  iapply (st_o c 2 0 1 (Y := deqv xs ws (sh 2 c) 0 1) (of9_1_1_1 c) (show k0_pay58 (k0_pay38 (amall xs ws)) (qv xs ws (sh 2 c) 0 1) = deqv xs ws (sh 2 c) 0 1 from pay58_eq _ _)) $$ Ho201
  iintro Ho201
  iapply (ld_q c 2 1 1 (of10_1_1_1 c)) $$ Hq211r
  iintro Hq211r
  iapply (ld_o c 2 1 1 (of10_1_1_1 c)) $$ Ho211
  iintro Ho211
  iapply (st_o c 2 1 1 (Y := deqv xs ws (sh 2 c) 1 1) (of10_1_1_1 c) (show k0_pay59 (k0_pay38 (amall xs ws)) (qv xs ws (sh 2 c) 1 1) = deqv xs ws (sh 2 c) 1 1 from pay59_eq _ _)) $$ Ho211
  iintro Ho211
  rw [wp_ret]; imodintro
  iapply Hk $$ [HP Hq201r Ho201 Ho211 Hq211r]
  isplitl [HP]; · iexact HP
  isplitl [Hq201r]; · iexact Hq201r
  isplitl [Ho201]; · iexact Ho201
  isplitl [Ho211]; · iexact Ho211
  iexact Hq211r

theorem part50 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v2 : BitVec 32) (v25 : BitVec 32) (v1554 : BitVec 32) (c4_i32_1254 : BitVec 32) (v1555 : BitVec 1) (c1_i32_1256 : BitVec 32) {Q : _ → sProp 𝕄} :
    P xs ws c 27 39
      ⊢ iprop((∀ r0 : BitVec 32, ∀ r1 : BitVec 32, ∀ r2 : BitVec 32, ∀ r3 : BitVec 32, (P xs ws c 27 40 ∗ qB c 1 0 0 fullShare (qv xs ws (sh 1 c) 0 0)) -∗ Q ⟨r0, r1, r2, r3⟩)
        -∗ wp frame (wpE (defs₀ (F := F)) 𝒱₀ (c : Thread nD τ) none) Set.univ (k0_part50 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v2 v25 v1554 c4_i32_1254 v1555 c1_i32_1256) Q) := by
  rw [k0_part50_eq_skeleton]; unfold k0_part50_skel
  simp only [semSignalWord, semWaitWord, Prog.lift, Prog.bind_op, Prog.bind_ret, Prog.pure_eq_ret, wp_deviceId]
  iintro HP Hk
  iapply (wait_ag (n := 27) (w := 39) xs ws c 0 2 0 1 rfl rfl (by decide) rfl (crd_q 0 2 0)) $$ HP
  iintro Hq100f HP
  rw [wp_ret]; imodintro
  iapply Hk $$ [HP Hq100f]
  isplitl [HP]; · iexact HP
  iexact Hq100f

theorem part51 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v2 : BitVec 32) (v14 : BitVec 32) (v1564 : BitVec 32) (v1576 : BitVec 32) (v1588 : BitVec 32) (c0_i32_1282 : BitVec 32) {Q : _ → sProp 𝕄} :
    iprop(P xs ws c 27 40 ∗ qB c 1 0 0 fullShare (qv xs ws (sh 1 c) 0 0) ∗ oB c 1 0 0 (rsv xs ws 0 ((1 : Fin 3) : ℕ) (up 0 c) 0) ∗ oB c 3 1 0 (rsv xs ws 1 ((1 : Fin 3) : ℕ) (up 1 c) 0))
      ⊢ iprop((∀ r0 : BitVec 32, (P xs ws c 27 41 ∗ qB c 1 0 0 fullShare (qv xs ws (sh 1 c) 0 0) ∗ oB c 1 0 0 (deqv xs ws (sh 1 c) 0 0) ∗ oB c 3 1 0 (deqv xs ws (sh 3 c) 1 0) ∗ qB c 3 1 0 fullShare (qv xs ws (sh 3 c) 1 0)) -∗ Q r0)
        -∗ wp frame (wpE (defs₀ (F := F)) 𝒱₀ (c : Thread nD τ) none) Set.univ (k0_part51 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v2 v14 (k0_pay38 (amall xs ws)) v1564 v1576 v1588 c0_i32_1282) Q) := by
  rw [k0_part51_eq_skeleton]; unfold k0_part51_skel
  simp only [semSignalWord, semWaitWord, Prog.lift, Prog.bind_op, Prog.bind_ret, Prog.pure_eq_ret, wp_deviceId]
  iintro ⟨HP, Hq100f, Ho100, Ho310⟩ Hk
  iapply (wait_ag (n := 27) (w := 40) xs ws c 1 2 0 3 rfl rfl (by decide) rfl (crd_q 1 2 0)) $$ HP
  iintro Hq310f HP
  iapply (ld_q c 1 0 0 (of9_2_1_0 c)) $$ Hq100f
  iintro Hq100f
  iapply (ld_o c 1 0 0 (of9_2_1_0 c)) $$ Ho100
  iintro Ho100
  iapply (st_o c 1 0 0 (Y := deqv xs ws (sh 1 c) 0 0) (of9_2_1_0 c) (show k0_pay60 (k0_pay38 (amall xs ws)) (qv xs ws (sh 1 c) 0 0) = deqv xs ws (sh 1 c) 0 0 from pay60_eq _ _)) $$ Ho100
  iintro Ho100
  iapply (ld_q c 3 1 0 (of10_2_1_0 c)) $$ Hq310f
  iintro Hq310f
  iapply (ld_o c 3 1 0 (of10_2_1_0 c)) $$ Ho310
  iintro Ho310
  iapply (st_o c 3 1 0 (Y := deqv xs ws (sh 3 c) 1 0) (of10_2_1_0 c) (show k0_pay61 (k0_pay38 (amall xs ws)) (qv xs ws (sh 3 c) 1 0) = deqv xs ws (sh 3 c) 1 0 from pay61_eq _ _)) $$ Ho310
  iintro Ho310
  rw [wp_ret]; imodintro
  iapply Hk $$ [HP Hq100f Ho100 Ho310 Hq310f]
  isplitl [HP]; · iexact HP
  isplitl [Hq100f]; · iexact Hq100f
  isplitl [Ho100]; · iexact Ho100
  isplitl [Ho310]; · iexact Ho310
  iexact Hq310f

theorem part52 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v2 : BitVec 32) (v25 : BitVec 32) (v1622 : BitVec 32) {Q : _ → sProp 𝕄} :
    P xs ws c 27 41
      ⊢ iprop((∀ r0 : BitVec 32, ∀ r1 : BitVec 32, ∀ r2 : BitVec 32, (P xs ws c 27 42 ∗ qB c 1 0 1 fullShare (qv xs ws (sh 1 c) 0 1)) -∗ Q ⟨r0, r1, r2⟩)
        -∗ wp frame (wpE (defs₀ (F := F)) 𝒱₀ (c : Thread nD τ) none) Set.univ (k0_part52 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v2 v25 v1622) Q) := by
  rw [k0_part52_eq_skeleton]; unfold k0_part52_skel
  simp only [semSignalWord, semWaitWord, Prog.lift, Prog.bind_op, Prog.bind_ret, Prog.pure_eq_ret, wp_deviceId]
  iintro HP Hk
  iapply (wait_ag (n := 27) (w := 41) xs ws c 0 2 1 1 rfl rfl (by decide) rfl (crd_q 0 2 1)) $$ HP
  iintro Hq101f HP
  rw [wp_ret]; imodintro
  iapply Hk $$ [HP Hq101f]
  isplitl [HP]; · iexact HP
  iexact Hq101f

theorem part53 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) (v14 : BitVec 32) (v1632 : BitVec 32) (v1644 : BitVec 32) (c1024_i32_1332 : BitVec 32) {Q : _ → sProp 𝕄} :
    iprop(P xs ws c 27 42 ∗ qB c 1 0 1 fullShare (qv xs ws (sh 1 c) 0 1) ∗ oB c 1 0 1 (rsv xs ws 0 ((1 : Fin 3) : ℕ) (up 0 c) 1) ∗ oB c 3 1 1 (rsv xs ws 1 ((1 : Fin 3) : ℕ) (up 1 c) 1))
      ⊢ iprop(((P xs ws c 27 43 ∗ qB c 1 0 1 fullShare (qv xs ws (sh 1 c) 0 1) ∗ oB c 1 0 1 (deqv xs ws (sh 1 c) 0 1) ∗ oB c 3 1 1 (deqv xs ws (sh 3 c) 1 1) ∗ qB c 3 1 1 fullShare (qv xs ws (sh 3 c) 1 1)) -∗ Q ⟨⟩)
        -∗ wp frame (wpE (defs₀ (F := F)) 𝒱₀ (c : Thread nD τ) none) Set.univ (k0_part53 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c v14 (k0_pay38 (amall xs ws)) v1632 v1644 c1024_i32_1332) Q) := by
  rw [k0_part53_eq_skeleton]; unfold k0_part53_skel
  simp only [semSignalWord, semWaitWord, Prog.lift, Prog.bind_op, Prog.bind_ret, Prog.pure_eq_ret, wp_deviceId]
  iintro ⟨HP, Hq101f, Ho101, Ho311⟩ Hk
  iapply (wait_ag (n := 27) (w := 42) xs ws c 1 2 1 3 rfl rfl (by decide) rfl (crd_q 1 2 1)) $$ HP
  iintro Hq311f HP
  iapply (ld_q c 1 0 1 (of9_2_1_1 c)) $$ Hq101f
  iintro Hq101f
  iapply (ld_o c 1 0 1 (of9_2_1_1 c)) $$ Ho101
  iintro Ho101
  iapply (st_o c 1 0 1 (Y := deqv xs ws (sh 1 c) 0 1) (of9_2_1_1 c) (show k0_pay62 (k0_pay38 (amall xs ws)) (qv xs ws (sh 1 c) 0 1) = deqv xs ws (sh 1 c) 0 1 from pay62_eq _ _)) $$ Ho101
  iintro Ho101
  iapply (ld_q c 3 1 1 (of10_2_1_1 c)) $$ Hq311f
  iintro Hq311f
  iapply (ld_o c 3 1 1 (of10_2_1_1 c)) $$ Ho311
  iintro Ho311
  iapply (st_o c 3 1 1 (Y := deqv xs ws (sh 3 c) 1 1) (of10_2_1_1 c) (show k0_pay63 (k0_pay38 (amall xs ws)) (qv xs ws (sh 3 c) 1 1) = deqv xs ws (sh 3 c) 1 1 from pay63_eq _ _)) $$ Ho311
  iintro Ho311
  rw [wp_ret]; imodintro
  iapply Hk $$ [HP Hq101f Ho101 Ho311 Hq311f]
  isplitl [HP]; · iexact HP
  isplitl [Hq101f]; · iexact Hq101f
  isplitl [Ho101]; · iexact Ho101
  isplitl [Ho311]; · iexact Ho311
  iexact Hq311f

theorem part54 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) {Q : _ → sProp 𝕄} :
    P xs ws c 27 43
      ⊢ iprop(((P xs ws c 27 48 ∗ qB c 0 0 0 fullShare.left (qv xs ws (sh 0 c) 0 0) ∗ qB c 0 1 0 fullShare.left (qv xs ws (sh 0 c) 1 0) ∗ qB c 0 0 1 fullShare.left (qv xs ws (sh 0 c) 0 1) ∗ qB c 0 1 1 fullShare.left (qv xs ws (sh 0 c) 1 1) ∗ qB c 3 0 0 fullShare.left (qv xs ws (sh 3 c) 0 0)) -∗ Q ⟨⟩)
        -∗ wp frame (wpE (defs₀ (F := F)) 𝒱₀ (c : Thread nD τ) none) Set.univ (k0_part54 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c) Q) := by
  rw [k0_part54_eq_skeleton]; unfold k0_part54_skel
  simp only [semSignalWord, semWaitWord, Prog.lift, Prog.bind_op, Prog.bind_ret, Prog.pure_eq_ret, wp_deviceId]
  iintro HP Hk
  iapply (done_ag (n := 27) (w := 43) xs ws c 0 0 0 0 rfl rfl (by decide) rfl (crd_q 0 0 0)) $$ HP
  iintro Hq000l HP
  iapply (done_ag (n := 27) (w := 44) xs ws c 1 0 0 0 rfl rfl (by decide) rfl (crd_q 1 0 0)) $$ HP
  iintro Hq010l HP
  iapply (done_ag (n := 27) (w := 45) xs ws c 0 0 1 0 rfl rfl (by decide) rfl (crd_q 0 0 1)) $$ HP
  iintro Hq001l HP
  iapply (done_ag (n := 27) (w := 46) xs ws c 1 0 1 0 rfl rfl (by decide) rfl (crd_q 1 0 1)) $$ HP
  iintro Hq011l HP
  iapply (done_ag (n := 27) (w := 47) xs ws c 0 1 0 3 rfl rfl (by decide) rfl (crd_q 0 1 0)) $$ HP
  iintro Hq300l HP
  rw [wp_ret]; imodintro
  iapply Hk $$ [HP Hq000l Hq010l Hq001l Hq011l Hq300l]
  isplitl [HP]; · iexact HP
  isplitl [Hq000l]; · iexact Hq000l
  isplitl [Hq010l]; · iexact Hq010l
  isplitl [Hq001l]; · iexact Hq001l
  isplitl [Hq011l]; · iexact Hq011l
  iexact Hq300l

theorem part55 {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) {Q : _ → sProp 𝕄} :
    P xs ws c 27 48
      ⊢ iprop(((P xs ws c 27 53 ∗ qB c 1 1 0 fullShare.left (qv xs ws (sh 1 c) 1 0) ∗ qB c 3 0 1 fullShare.left (qv xs ws (sh 3 c) 0 1) ∗ qB c 1 1 1 fullShare.left (qv xs ws (sh 1 c) 1 1) ∗ qB c 2 0 0 fullShare.left (qv xs ws (sh 2 c) 0 0) ∗ qB c 2 1 0 fullShare.left (qv xs ws (sh 2 c) 1 0)) -∗ Q ⟨⟩)
        -∗ wp frame (wpE (defs₀ (F := F)) 𝒱₀ (c : Thread nD τ) none) Set.univ (k0_part55 xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15 c) Q) := by
  rw [k0_part55_eq_skeleton]; unfold k0_part55_skel
  simp only [semSignalWord, semWaitWord, Prog.lift, Prog.bind_op, Prog.bind_ret, Prog.pure_eq_ret, wp_deviceId]
  iintro HP Hk
  iapply (done_ag (n := 27) (w := 48) xs ws c 1 1 0 1 rfl rfl (by decide) rfl (crd_q 1 1 0)) $$ HP
  iintro Hq110l HP
  iapply (done_ag (n := 27) (w := 49) xs ws c 0 1 1 3 rfl rfl (by decide) rfl (crd_q 0 1 1)) $$ HP
  iintro Hq301l HP
  iapply (done_ag (n := 27) (w := 50) xs ws c 1 1 1 1 rfl rfl (by decide) rfl (crd_q 1 1 1)) $$ HP
  iintro Hq111l HP
  iapply (done_ag (n := 27) (w := 51) xs ws c 0 2 0 2 rfl rfl (by decide) rfl (crd_q 0 2 0)) $$ HP
  iintro Hq200l HP
  iapply (done_ag (n := 27) (w := 52) xs ws c 1 2 0 2 rfl rfl (by decide) rfl (crd_q 1 2 0)) $$ HP
  iintro Hq210l HP
  rw [wp_ret]; imodintro
  iapply Hk $$ [HP Hq110l Hq301l Hq111l Hq200l Hq210l]
  isplitl [HP]; · iexact HP
  isplitl [Hq110l]; · iexact Hq110l
  isplitl [Hq301l]; · iexact Hq301l
  isplitl [Hq111l]; · iexact Hq111l
  isplitl [Hq200l]; · iexact Hq200l
  iexact Hq210l

end Cert.RingProof
-- ==== Proof.Body.lean ====
/-
The whole kernel body on one device.
-/
module

public import proofs.«01_k».proof.Proof.Parts1

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
variable (xs : Dev nD → Vec F S4096x1024 .bf16) (ws : Dev nD → Vec F S1024x2048 .bf16)

set_option maxHeartbeats 4000000 in
/-- Device `c` runs the kernel: from its operands, its other arrays at any contents and its share of the protocol, to
the result in its output array, the other arrays back and the protocol used up. -/
theorem body {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} (c : Dev nD) {Q : PUnit → sProp 𝕄} :
    iprop(P0 xs ws c 0 ∗ xB c (xs c) ∗ wB c (ws c) ∗ (∃ X, owns (Val := Elt F) (c : Thread nD τ) oM fullShare X) ∗ (∃ X, owns (Val := Elt F) (c : Thread nD τ) qM fullShare X)
        ∗ (∃ X, owns (Val := Elt F) (c : Thread nD τ) aM fullShare X) ∗ (∃ X, owns (Val := Elt F) (c : Thread nD τ) (sM 0) fullShare X) ∗ (∃ X, owns (Val := Elt F) (c : Thread nD τ) (sM 1) fullShare X)
        ∗ (∃ X, owns (Val := Elt F) (c : Thread nD τ) (pM 0) fullShare X) ∗ (∃ X, owns (Val := Elt F) (c : Thread nD τ) (pM 1) fullShare X))
      ⊢ iprop(((P xs ws c 27 55 ∗ xB c (xs c) ∗ wB c (ws c) ∗ owns (c : Thread nD τ) oM fullShare (outv xs ws c) ∗ (∃ X, owns (Val := Elt F) (c : Thread nD τ) qM fullShare X)
        ∗ (∃ X, owns (Val := Elt F) (c : Thread nD τ) aM fullShare X) ∗ (∃ X, owns (Val := Elt F) (c : Thread nD τ) (sM 0) fullShare X) ∗ (∃ X, owns (Val := Elt F) (c : Thread nD τ) (sM 1) fullShare X)
        ∗ (∃ X, owns (Val := Elt F) (c : Thread nD τ) (pM 0) fullShare X) ∗ (∃ X, owns (Val := Elt F) (c : Thread nD τ) (pM 1) fullShare X)) -∗ Q ⟨⟩)
        -∗ wp frame (wpE (defs₀ (F := F)) 𝒱₀ (c : Thread nD τ) none) Set.univ (cc0_body xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15) Q) := by
  iintro ⟨HP, Hx, Hw, ⟨%Yo, Ho⟩, ⟨%Yq, Hq⟩, ⟨%Ya, Ha⟩, ⟨%Y0, Hs0⟩, ⟨%Y1, Hs1⟩, ⟨%Y2, Hp0⟩, ⟨%Y3, Hp1⟩⟩ Hk
  ihave Ho := (o_cut c Yo) $$ Ho
  icases Ho with ⟨Ho000, Ho001, Ho010, Ho011, Ho100, Ho101, ⟨%Xo110, Ho110⟩, ⟨%Xo111, Ho111⟩, Ho200, Ho201, Ho210, Ho211, ⟨%Xo300, Ho300⟩, ⟨%Xo301, Ho301⟩, Ho310, Ho311⟩
  ihave Hq := (q_cut c Yq) $$ Hq
  icases Hq with ⟨⟨%Xq00, Hq000f⟩, ⟨%Xq01, Hq001f⟩, ⟨%Xq10, Hq010f⟩, ⟨%Xq11, Hq011f⟩, Hq100, Hq101, Hq110, Hq111, Hq200, Hq201, Hq210, Hq211, Hq300, Hq301, Hq310, Hq311⟩
  ihave Ha := (a_cut c Ya) $$ Ha
  icases Ha with ⟨⟨%Xa, Ha0⟩, Ha1, Ha2, Ha3⟩
  ihave Hs0 := (s_cut c (sM 0) _) $$ Hs0
  icases Hs0 with ⟨⟨%Xs00, Hs00⟩, ⟨%Xs01, Hs01⟩⟩
  ihave Hs00 := (show owns (c : Thread nD τ) ((sM 0).slice (srect 0) (fun _ => rfl)) fullShare Xs00 ⊢ sB c 0 0 Xs00 from .rfl) $$ Hs00
  ihave Hs01 := (show owns (c : Thread nD τ) ((sM 0).slice (srect 1) (fun _ => rfl)) fullShare Xs01 ⊢ sB c 0 1 Xs01 from .rfl) $$ Hs01
  ihave Hp0 := (s_cut c (pM 0) _) $$ Hp0
  icases Hp0 with ⟨⟨%Xp00, Hp00⟩, ⟨%Xp01, Hp01⟩⟩
  ihave Hp00 := (show owns (c : Thread nD τ) ((pM 0).slice (srect 0) (fun _ => rfl)) fullShare Xp00 ⊢ pB c 0 0 Xp00 from .rfl) $$ Hp00
  ihave Hp01 := (show owns (c : Thread nD τ) ((pM 0).slice (srect 1) (fun _ => rfl)) fullShare Xp01 ⊢ pB c 0 1 Xp01 from .rfl) $$ Hp01
  ihave Hs1 := (s_cut c (sM 1) _) $$ Hs1
  icases Hs1 with ⟨⟨%Xs10, Hs10⟩, ⟨%Xs11, Hs11⟩⟩
  ihave Hs10 := (show owns (c : Thread nD τ) ((sM 1).slice (srect 0) (fun _ => rfl)) fullShare Xs10 ⊢ sB c 1 0 Xs10 from .rfl) $$ Hs10
  ihave Hs11 := (show owns (c : Thread nD τ) ((sM 1).slice (srect 1) (fun _ => rfl)) fullShare Xs11 ⊢ sB c 1 1 Xs11 from .rfl) $$ Hs11
  ihave Hp1 := (s_cut c (pM 1) _) $$ Hp1
  icases Hp1 with ⟨⟨%Xp10, Hp10⟩, ⟨%Xp11, Hp11⟩⟩
  ihave Hp10 := (show owns (c : Thread nD τ) ((pM 1).slice (srect 0) (fun _ => rfl)) fullShare Xp10 ⊢ pB c 1 0 Xp10 from .rfl) $$ Hp10
  ihave Hp11 := (show owns (c : Thread nD τ) ((pM 1).slice (srect 1) (fun _ => rfl)) fullShare Xp11 ⊢ pB c 1 1 Xp11 from .rfl) $$ Hp11
  ihave Hbp1 := (payR c) $$ [Ho200 Ho201 Ho100 Ho101 Ho000 Ho001 Hq300 Hq301 Hq200 Hq201 Hq100 Hq101 Ha3]
  · isplitl [Ho200]; · iexact Ho200
    isplitl [Ho201]; · iexact Ho201
    isplitl [Ho100]; · iexact Ho100
    isplitl [Ho101]; · iexact Ho101
    isplitl [Ho000]; · iexact Ho000
    isplitl [Ho001]; · iexact Ho001
    isplitl [Hq300]; · iexact Hq300
    isplitl [Hq301]; · iexact Hq301
    isplitl [Hq200]; · iexact Hq200
    isplitl [Hq201]; · iexact Hq201
    isplitl [Hq100]; · iexact Hq100
    isplitl [Hq101]; · iexact Hq101
    iexact Ha3
  ihave Hbp0 := (payL c) $$ [Ho210 Ho211 Ho310 Ho311 Ho010 Ho011 Hq110 Hq111 Hq210 Hq211 Hq310 Hq311 Ha1 Ha2]
  · isplitl [Ho210]; · iexact Ho210
    isplitl [Ho211]; · iexact Ho211
    isplitl [Ho310]; · iexact Ho310
    isplitl [Ho311]; · iexact Ho311
    isplitl [Ho010]; · iexact Ho010
    isplitl [Ho011]; · iexact Ho011
    isplitl [Hq110]; · iexact Hq110
    isplitl [Hq111]; · iexact Hq111
    isplitl [Hq210]; · iexact Hq210
    isplitl [Hq211]; · iexact Hq211
    isplitl [Hq310]; · iexact Hq310
    isplitl [Hq311]; · iexact Hq311
    isplitl [Ha1]; · iexact Ha1
    iexact Ha2
  rw [cc0_body_eq_skeleton]; unfold cc0_body_skel
  rw [wp_bind, k0_part56_eq_skeleton]; unfold k0_part56_skel
  rw [wp_bind]
  iapply (part1 xs ws c) $$ [HP Hbp1 Hbp0]
  · isplitl [HP]; · iexact HP
    isplitl [Hbp1]; · iexact Hbp1
    iexact Hbp0
  iintro %u1_0 %u1_1 %u1_2 %u1_3 %u1_4 HP
  rw [wp_bind]
  iapply (part2 (Xs00 := Xs00) xs ws c _ _ _) $$ [HP Hx Hw Hs00]
  · isplitl [HP]; · iexact HP
    isplitl [Hx]; · iexact Hx
    isplitl [Hw]; · iexact Hw
    iexact Hs00
  iintro %u2_0 %u2_1 %u2_2 ⟨HP, Hx, Hw, Hs00, Hfwd1⟩
  rw [wp_bind]
  iapply (part3 (Xs10 := Xs10) xs ws c _ _ _ _ _) $$ [HP Hs00 Hfwd1 Hx Hw Hs10]
  · isplitl [HP]; · iexact HP
    isplitl [Hs00]; · iexact Hs00
    isplitl [Hfwd1]; · iexact Hfwd1
    isplitl [Hx]; · iexact Hx
    isplitl [Hw]; · iexact Hw
    iexact Hs10
  iintro ⟨HP, Hx, Hw, Hs10⟩
  rw [wp_bind]
  iapply (part4 (Xs01 := Xs01) xs ws c _ _ _) $$ [HP Hs10 Hx Hw Hs01]
  · isplitl [HP]; · iexact HP
    isplitl [Hs10]; · iexact Hs10
    isplitl [Hx]; · iexact Hx
    isplitl [Hw]; · iexact Hw
    iexact Hs01
  iintro ⟨HP, Hx, Hw⟩
  rw [wp_bind]
  iapply (part5 (Xs11 := Xs11) xs ws c _ _ _) $$ [HP Hw Hs11]
  · isplitl [HP]; · iexact HP
    isplitl [Hw]; · iexact Hw
    iexact Hs11
  iintro %u5_0 ⟨HP, Hw⟩
  rw [wp_bind]
  iapply (part6 (Xp00 := Xp00) xs ws c _ _) $$ [Hx Hw Hp00]
  · isplitl [Hx]; · iexact Hx
    isplitl [Hw]; · iexact Hw
    iexact Hp00
  iintro %u6_0 ⟨Hx, Hw, Hp00⟩
  rw [wp_bind]
  iapply (part7 (Xp10 := Xp10) (Xp01 := Xp01) (Xp11 := Xp11) xs ws c _ _ _) $$ [Hp10 Hx Hw Hp01 Hp11]
  · isplitl [Hp10]; · iexact Hp10
    isplitl [Hx]; · iexact Hx
    isplitl [Hw]; · iexact Hw
    isplitl [Hp01]; · iexact Hp01
    iexact Hp11
  iintro ⟨Hp10, Hx, Hw, Hp01, Hp11⟩
  rw [wp_bind]
  iapply (part8 xs ws c _ _) $$ [HP Hp00]
  · isplitl [HP]; · iexact HP
    iexact Hp00
  iintro ⟨HP, Hp00, Hfwdc, Ho200, Ho210, Hs00, Hs10⟩
  rw [wp_bind]
  iapply (part9 xs ws c _ _ _) $$ [Ho200 Hs00 Hp10 Ho210 Hs10]
  · isplitl [Ho200]; · iexact Ho200
    isplitl [Hs00]; · iexact Hs00
    isplitl [Hp10]; · iexact Hp10
    isplitl [Ho210]; · iexact Ho210
    iexact Hs10
  iintro ⟨Ho200, Hs00, Hp10, Ho210, Hs10⟩
  rw [wp_bind]
  iapply (part10 xs ws c _ _ _ _) $$ [HP Hs00 Hs10]
  · isplitl [HP]; · iexact HP
    isplitl [Hs00]; · iexact Hs00
    iexact Hs10
  iintro ⟨HP, Ho201⟩
  rw [wp_bind]
  iapply (part11 xs ws c _) $$ [HP Hp01 Ho201 Hp11]
  · isplitl [HP]; · iexact HP
    isplitl [Hp01]; · iexact Hp01
    isplitl [Ho201]; · iexact Ho201
    iexact Hp11
  iintro %u11_0 ⟨HP, Hp01, Ho201, Hp11, Ho211, Hs01, Hs11⟩
  rw [wp_bind]
  iapply (part12 xs ws c _ _ _ _ _) $$ [HP Ho211 Hs11 Hs01]
  · isplitl [HP]; · iexact HP
    isplitl [Ho211]; · iexact Ho211
    isplitl [Hs11]; · iexact Hs11
    iexact Hs01
  iintro ⟨HP, Ho211, Hs11⟩
  rw [wp_bind]
  iapply (part13 xs ws c _) $$ [HP Hs11 Hx Hw]
  · isplitl [HP]; · iexact HP
    isplitl [Hs11]; · iexact Hs11
    isplitl [Hx]; · iexact Hx
    iexact Hw
  iintro %u13_0 %u13_1 ⟨HP, Hx, Hw⟩
  rw [wp_bind]
  iapply (part14 xs ws c _ _) $$ [Hp00 Hx Hw Hp10 Hp01]
  · isplitl [Hp00]; · iexact Hp00
    isplitl [Hx]; · iexact Hx
    isplitl [Hw]; · iexact Hw
    isplitl [Hp10]; · iexact Hp10
    iexact Hp01
  iintro ⟨Hp00, Hx, Hw, Hp10, Hp01⟩
  rw [wp_bind]
  iapply (part15 xs ws c _ _ _ _) $$ [HP Hw Hp11]
  · isplitl [HP]; · iexact HP
    isplitl [Hw]; · iexact Hw
    iexact Hp11
  iintro ⟨HP, Hw, Hp11, Ho100, Ho310⟩
  rw [wp_bind]
  iapply (part16 xs ws c _ _) $$ [HP Hp00 Ho100 Hp10 Ho310]
  · isplitl [HP]; · iexact HP
    isplitl [Hp00]; · iexact Hp00
    isplitl [Ho100]; · iexact Ho100
    isplitl [Hp10]; · iexact Hp10
    iexact Ho310
  iintro ⟨HP, Hp00, Ho100, Hp10, Ho310, Hs00, Hs10⟩
  rw [wp_bind]
  iapply (part17 xs ws c _ _ _ _) $$ [HP Hs10 Hs00]
  · isplitl [HP]; · iexact HP
    isplitl [Hs10]; · iexact Hs10
    iexact Hs00
  iintro HP
  rw [wp_bind]
  iapply (part18 xs ws c _ _ _) $$ [HP]
  · iexact HP
  iintro ⟨HP, Ho101, Ho311, Hs01, Hs11⟩
  rw [wp_bind]
  iapply (part19 xs ws c _ _ _) $$ [Hp01 Ho101 Hs01 Hp11 Ho311 Hs11]
  · isplitl [Hp01]; · iexact Hp01
    isplitl [Ho101]; · iexact Ho101
    isplitl [Hs01]; · iexact Hs01
    isplitl [Hp11]; · iexact Hp11
    isplitl [Ho311]; · iexact Ho311
    iexact Hs11
  iintro %u19_0 ⟨Hp01, Ho101, Hs01, Hp11, Ho311, Hs11⟩
  rw [wp_bind]
  iapply (part20 xs ws c _ _ _) $$ [HP Hs01 Hs11 Hx Hw Hp00]
  · isplitl [HP]; · iexact HP
    isplitl [Hs01]; · iexact Hs01
    isplitl [Hs11]; · iexact Hs11
    isplitl [Hx]; · iexact Hx
    isplitl [Hw]; · iexact Hw
    iexact Hp00
  iintro ⟨HP, Hx, Hw, Hp00⟩
  rw [wp_bind]
  iapply (part21 xs ws c _) $$ [Hw Hp10 Hx Hp01 Hp11]
  · isplitl [Hw]; · iexact Hw
    isplitl [Hp10]; · iexact Hp10
    isplitl [Hx]; · iexact Hx
    isplitl [Hp01]; · iexact Hp01
    iexact Hp11
  iintro %u21_0 ⟨Hw, Hp10, Hx, Hp01, Hp11⟩
  rw [wp_bind]
  iapply (part22 xs ws c _ _ _ _) $$ [HP Hp00]
  · isplitl [HP]; · iexact HP
    iexact Hp00
  iintro ⟨HP, Hp00, Ho000, Ho010⟩
  rw [wp_bind]
  iapply (part23 xs ws c _ _) $$ [Ho000 Hp10 Ho010]
  · isplitl [Ho000]; · iexact Ho000
    isplitl [Hp10]; · iexact Hp10
    iexact Ho010
  iintro ⟨Ho000, Hp10, Ho010⟩
  rw [wp_bind]
  iapply (part24 xs ws c _ _) $$ [HP Hp01]
  · isplitl [HP]; · iexact HP
    iexact Hp01
  iintro ⟨HP, Hp01, Ho001, Ho011⟩
  rw [wp_bind]
  iapply (part25 xs ws c _) $$ [HP Hp11 Ho011]
  · isplitl [HP]; · iexact HP
    isplitl [Hp11]; · iexact Hp11
    iexact Ho011
  iintro ⟨HP, Hp11, Ho011, Hs00⟩
  rw [wp_bind]
  iapply (part26 (Xa := Xa) xs ws c _) $$ [HP Ha0]
  · isplitl [HP]; · iexact HP
    iexact Ha0
  iintro %u26_0 ⟨HP, Ha0, Hs10, Hs01, Hs11⟩
  rw [wp_bind]
  iapply (part27 xs ws c _) $$ [HP Ha0 Hfwdc]
  · isplitl [HP]; · iexact HP
    isplitl [Ha0]; · iexact Ha0
    iexact Hfwdc
  iintro %u27_0 %u27_1 %u27_2 %u27_3 %u27_4 ⟨HP, Has2⟩
  rw [wp_bind]
  iapply (part28 xs ws c _ _ _ _ _) $$ [HP Has2]
  · isplitl [HP]; · iexact HP
    iexact Has2
  iintro %u28_0 ⟨HP, Has0, Ha3⟩
  rw [wp_bind]
  iapply (part29 xs ws c _ _) $$ [HP Has0]
  · isplitl [HP]; · iexact HP
    iexact Has0
  iintro ⟨HP, Ha2, Ha0, Ha1⟩
  rw [wp_bind]
  iapply (part30 (Xq00 := Xq00) xs ws c _) $$ [Ha0 Ha1 Ha2 Ha3 Ho000 Hq000f]
  · isplitl [Ha0]; · iexact Ha0
    isplitl [Ha1]; · iexact Ha1
    isplitl [Ha2]; · iexact Ha2
    isplitl [Ha3]; · iexact Ha3
    isplitl [Ho000]; · iexact Ho000
    iexact Hq000f
  iintro %u30_0 %u30_1 %u30_2 ⟨Ho000, Hq000f, Ham⟩
  rw [wp_bind]
  iapply (part31 (Xq10 := Xq10) xs ws c _ _ _ _ _) $$ [HP Hq000f Ho010 Hq010f]
  · isplitl [HP]; · iexact HP
    isplitl [Hq000f]; · iexact Hq000f
    isplitl [Ho010]; · iexact Ho010
    iexact Hq010f
  iintro ⟨HP, Ho010, Hq010f, Hq000r⟩
  rw [wp_bind]
  iapply (part32 xs ws c _ _) $$ [HP Ho010 Hq010f Ho001]
  · isplitl [HP]; · iexact HP
    isplitl [Ho010]; · iexact Ho010
    isplitl [Hq010f]; · iexact Hq010f
    iexact Ho001
  iintro %u32_0 ⟨HP, Ho010, Ho001, Hq010r⟩
  rw [wp_bind]
  iapply (part33 (Xq01 := Xq01) xs ws c _ _ _) $$ [Hq001f Ho001]
  · isplitl [Hq001f]; · iexact Hq001f
    iexact Ho001
  iintro ⟨Hq001f, Ho001⟩
  rw [wp_bind]
  iapply (part34 (Xq11 := Xq11) xs ws c _) $$ [HP Hq001f Ho011 Hq011f]
  · isplitl [HP]; · iexact HP
    isplitl [Hq001f]; · iexact Hq001f
    isplitl [Ho011]; · iexact Ho011
    iexact Hq011f
  iintro %u34_0 %u34_1 %u34_2 ⟨HP, Ho011, Hq011f, Hq001r⟩
  rw [wp_bind]
  iapply (part35 xs ws c _ _ _ _ _) $$ [HP Hq011f]
  · isplitl [HP]; · iexact HP
    iexact Hq011f
  iintro %u35_0 %u35_1 %u35_2 %u35_3 ⟨HP, Hq011r⟩
  rw [wp_bind]
  iapply (part36 xs ws c _ _ _ _ _ _ _) $$ [HP]
  · iexact HP
  iintro %u36_0 %u36_1 ⟨HP, Hq300f, Hq110f⟩
  rw [wp_bind]
  iapply (part37 xs ws c _ _ _) $$ [HP Hq300f]
  · isplitl [HP]; · iexact HP
    iexact Hq300f
  iintro %u37_0 %u37_1 %u37_2 ⟨HP, Hq300r⟩
  rw [wp_bind]
  iapply (part38 (Xo300 := Xo300) xs ws c _ _ _ _ _ _) $$ [HP Hq110f Hq300r Ho300]
  · isplitl [HP]; · iexact HP
    isplitl [Hq110f]; · iexact Hq110f
    isplitl [Hq300r]; · iexact Hq300r
    iexact Ho300
  iintro ⟨HP, Hq300r, Ho300, Hq110r⟩
  rw [wp_bind]
  iapply (part39 (Xo110 := Xo110) xs ws c _ _) $$ [Ho110]
  · iexact Ho110
  iintro %u39_0 %u39_1 Ho110
  rw [wp_bind]
  iapply (part40 xs ws c _ _ _) $$ [HP]
  · iexact HP
  iintro %u40_0 ⟨HP, Hq301f, Hq111f⟩
  rw [wp_bind]
  iapply (part41 xs ws c _ _ _ _) $$ [HP Hq301f]
  · isplitl [HP]; · iexact HP
    iexact Hq301f
  iintro ⟨HP, Hq301r⟩
  rw [wp_bind]
  iapply (part42 (Xo301 := Xo301) (Xo111 := Xo111) xs ws c _ _ _) $$ [HP Hq111f Hq301r Ho301 Ho111]
  · isplitl [HP]; · iexact HP
    isplitl [Hq111f]; · iexact Hq111f
    isplitl [Hq301r]; · iexact Hq301r
    isplitl [Ho301]; · iexact Ho301
    iexact Ho111
  iintro %u42_0 ⟨HP, Hq301r, Ho301, Ho111, Hq111r⟩
  rw [wp_bind]
  iapply (part43 xs ws c _ _ _) $$ [HP]
  · iexact HP
  iintro %u43_0 %u43_1 ⟨HP, Hq200f⟩
  rw [wp_bind]
  iapply (part44 xs ws c _ _ _ _) $$ [HP Hq200f]
  · isplitl [HP]; · iexact HP
    iexact Hq200f
  iintro %u44_0 %u44_1 %u44_2 ⟨HP, Hq210f, Hq200r⟩
  rw [wp_bind]
  iapply (part45 xs ws c _ _ _ _ _ _) $$ [HP Hq210f Hq200r Ho200]
  · isplitl [HP]; · iexact HP
    isplitl [Hq210f]; · iexact Hq210f
    isplitl [Hq200r]; · iexact Hq200r
    iexact Ho200
  iintro %u45_0 %u45_1 ⟨HP, Hq200r, Ho200, Hq210r⟩
  rw [wp_bind]
  iapply (part46 xs ws c _ _ _) $$ [Hq210r Ho210]
  · isplitl [Hq210r]; · iexact Hq210r
    iexact Ho210
  iintro %u46_0 %u46_1 ⟨Hq210r, Ho210⟩
  rw [wp_bind]
  iapply (part47 xs ws c _ _ _ _ _) $$ [HP]
  · iexact HP
  iintro %u47_0 %u47_1 %u47_2 %u47_3 ⟨HP, Hq201f, Hq211f⟩
  rw [wp_bind]
  iapply (part48 xs ws c _ _ _ _ _ _) $$ [HP Hq201f]
  · isplitl [HP]; · iexact HP
    iexact Hq201f
  iintro %u48_0 %u48_1 ⟨HP, Hq201r⟩
  rw [wp_bind]
  iapply (part49 xs ws c _ _ _ _ _ _) $$ [HP Hq211f Hq201r Ho201 Ho211]
  · isplitl [HP]; · iexact HP
    isplitl [Hq211f]; · iexact Hq211f
    isplitl [Hq201r]; · iexact Hq201r
    isplitl [Ho201]; · iexact Ho201
    iexact Ho211
  iintro %u49_0 %u49_1 %u49_2 %u49_3 ⟨HP, Hq201r, Ho201, Ho211, Hq211r⟩
  rw [wp_bind]
  iapply (part50 xs ws c _ _ _ _ _ _) $$ [HP]
  · iexact HP
  iintro %u50_0 %u50_1 %u50_2 %u50_3 ⟨HP, Hq100f⟩
  rw [wp_bind]
  iapply (part51 xs ws c _ _ _ _ _ _) $$ [HP Hq100f Ho100 Ho310]
  · isplitl [HP]; · iexact HP
    isplitl [Hq100f]; · iexact Hq100f
    isplitl [Ho100]; · iexact Ho100
    iexact Ho310
  iintro %u51_0 ⟨HP, Hq100f, Ho100, Ho310, Hq310f⟩
  rw [wp_bind]
  iapply (part52 xs ws c _ _ _) $$ [HP]
  · iexact HP
  iintro %u52_0 %u52_1 %u52_2 ⟨HP, Hq101f⟩
  rw [wp_bind]
  iapply (part53 xs ws c _ _ _ _) $$ [HP Hq101f Ho101 Ho311]
  · isplitl [HP]; · iexact HP
    isplitl [Hq101f]; · iexact Hq101f
    isplitl [Ho101]; · iexact Ho101
    iexact Ho311
  iintro ⟨HP, Hq101f, Ho101, Ho311, Hq311f⟩
  rw [wp_bind]
  iapply (part54 xs ws c) $$ [HP]
  · iexact HP
  iintro ⟨HP, Hq000l, Hq010l, Hq001l, Hq011l, Hq300l⟩
  rw [wp_bind]
  iapply (part55 xs ws c) $$ [HP]
  · iexact HP
  iintro ⟨HP, Hq110l, Hq301l, Hq111l, Hq200l, Hq210l⟩
  simp only [Prog.lift, Prog.bind_op, Prog.bind_ret, Prog.pure_eq_ret]
  rw [wp_ret]; imodintro
  iapply (done_ag (n := 27) (w := 53) xs ws c 0 2 1 2 rfl rfl (by decide) rfl (crd_q 0 2 1)) $$ HP
  iintro Hq201l HP
  iapply (done_ag (n := 27) (w := 54) xs ws c 1 2 1 2 rfl rfl (by decide) rfl (crd_q 1 2 1)) $$ HP
  iintro Hq211l HP
  rw [wp_ret]; imodintro
  ihave Hq000f := (q_join c 0 0 0 _) $$ [Hq000l Hq000r]
  · isplitl [Hq000l]; · iexact Hq000l
    iexact Hq000r
  ihave Hq001f := (q_join c 0 0 1 _) $$ [Hq001l Hq001r]
  · isplitl [Hq001l]; · iexact Hq001l
    iexact Hq001r
  ihave Hq010f := (q_join c 0 1 0 _) $$ [Hq010l Hq010r]
  · isplitl [Hq010l]; · iexact Hq010l
    iexact Hq010r
  ihave Hq011f := (q_join c 0 1 1 _) $$ [Hq011l Hq011r]
  · isplitl [Hq011l]; · iexact Hq011l
    iexact Hq011r
  ihave Hq110f := (q_join c 1 1 0 _) $$ [Hq110l Hq110r]
  · isplitl [Hq110l]; · iexact Hq110l
    iexact Hq110r
  ihave Hq111f := (q_join c 1 1 1 _) $$ [Hq111l Hq111r]
  · isplitl [Hq111l]; · iexact Hq111l
    iexact Hq111r
  ihave Hq200f := (q_join c 2 0 0 _) $$ [Hq200l Hq200r]
  · isplitl [Hq200l]; · iexact Hq200l
    iexact Hq200r
  ihave Hq201f := (q_join c 2 0 1 _) $$ [Hq201l Hq201r]
  · isplitl [Hq201l]; · iexact Hq201l
    iexact Hq201r
  ihave Hq210f := (q_join c 2 1 0 _) $$ [Hq210l Hq210r]
  · isplitl [Hq210l]; · iexact Hq210l
    iexact Hq210r
  ihave Hq211f := (q_join c 2 1 1 _) $$ [Hq211l Hq211r]
  · isplitl [Hq211l]; · iexact Hq211l
    iexact Hq211r
  ihave Hq300f := (q_join c 3 0 0 _) $$ [Hq300l Hq300r]
  · isplitl [Hq300l]; · iexact Hq300l
    iexact Hq300r
  ihave Hq301f := (q_join c 3 0 1 _) $$ [Hq301l Hq301r]
  · isplitl [Hq301l]; · iexact Hq301l
    iexact Hq301r
  ihave Hq := (show iprop(qB c 0 0 0 fullShare (qv xs ws (sh 0 c) 0 0) ∗ qB c 0 0 1 fullShare (qv xs ws (sh 0 c) 0 1) ∗ qB c 0 1 0 fullShare (qv xs ws (sh 0 c) 1 0) ∗ qB c 0 1 1 fullShare (qv xs ws (sh 0 c) 1 1) ∗ qB c 1 0 0 fullShare (qv xs ws (sh 1 c) 0 0) ∗ qB c 1 0 1 fullShare (qv xs ws (sh 1 c) 0 1) ∗ qB c 1 1 0 fullShare (qv xs ws (sh 1 c) 1 0) ∗ qB c 1 1 1 fullShare (qv xs ws (sh 1 c) 1 1) ∗ qB c 2 0 0 fullShare (qv xs ws (sh 2 c) 0 0) ∗ qB c 2 0 1 fullShare (qv xs ws (sh 2 c) 0 1) ∗ qB c 2 1 0 fullShare (qv xs ws (sh 2 c) 1 0) ∗ qB c 2 1 1 fullShare (qv xs ws (sh 2 c) 1 1) ∗ qB c 3 0 0 fullShare (qv xs ws (sh 3 c) 0 0) ∗ qB c 3 0 1 fullShare (qv xs ws (sh 3 c) 0 1) ∗ qB c 3 1 0 fullShare (qv xs ws (sh 3 c) 1 0) ∗ qB c 3 1 1 fullShare (qv xs ws (sh 3 c) 1 1)) ⊢ iprop(∃ Z, owns (Val := Elt F) (c : Thread nD τ) qM fullShare Z) from q_glue c (fun t => qv xs ws (sh t.1.val c) t.2.1 t.2.2)) $$ [Hq000f Hq001f Hq010f Hq011f Hq100f Hq101f Hq110f Hq111f Hq200f Hq201f Hq210f Hq211f Hq300f Hq301f Hq310f Hq311f]
  · isplitl [Hq000f]; · iexact Hq000f
    isplitl [Hq001f]; · iexact Hq001f
    isplitl [Hq010f]; · iexact Hq010f
    isplitl [Hq011f]; · iexact Hq011f
    isplitl [Hq100f]; · iexact Hq100f
    isplitl [Hq101f]; · iexact Hq101f
    isplitl [Hq110f]; · iexact Hq110f
    isplitl [Hq111f]; · iexact Hq111f
    isplitl [Hq200f]; · iexact Hq200f
    isplitl [Hq201f]; · iexact Hq201f
    isplitl [Hq210f]; · iexact Hq210f
    isplitl [Hq211f]; · iexact Hq211f
    isplitl [Hq300f]; · iexact Hq300f
    isplitl [Hq301f]; · iexact Hq301f
    isplitl [Hq310f]; · iexact Hq310f
    iexact Hq311f
  ihave Ho := (o_glue xs ws c) $$ [Ho000 Ho001 Ho010 Ho011 Ho100 Ho101 Ho110 Ho111 Ho200 Ho201 Ho210 Ho211 Ho300 Ho301 Ho310 Ho311]
  · isplitl [Ho000]; · iexact Ho000
    isplitl [Ho001]; · iexact Ho001
    isplitl [Ho010]; · iexact Ho010
    isplitl [Ho011]; · iexact Ho011
    isplitl [Ho100]; · iexact Ho100
    isplitl [Ho101]; · iexact Ho101
    isplitl [Ho110]; · iexact Ho110
    isplitl [Ho111]; · iexact Ho111
    isplitl [Ho200]; · iexact Ho200
    isplitl [Ho201]; · iexact Ho201
    isplitl [Ho210]; · iexact Ho210
    isplitl [Ho211]; · iexact Ho211
    isplitl [Ho300]; · iexact Ho300
    isplitl [Ho301]; · iexact Ho301
    isplitl [Ho310]; · iexact Ho310
    iexact Ho311
  ihave Hs0 := (show iprop(sB c 0 0 (rsv xs ws 0 2 c 0) ∗ sB c 0 1 (rsv xs ws 0 2 c 1)) ⊢ iprop(∃ Z, owns (Val := Elt F) (c : Thread nD τ) (sM 0) fullShare Z) from s_glue c (sM 0) _ _) $$ [Hs00 Hs01]
  · isplitl [Hs00]; · iexact Hs00
    iexact Hs01
  ihave Hs1 := (show iprop(sB c 1 0 (rsv xs ws 1 2 c 0) ∗ sB c 1 1 (rsv xs ws 1 2 c 1)) ⊢ iprop(∃ Z, owns (Val := Elt F) (c : Thread nD τ) (sM 1) fullShare Z) from s_glue c (sM 1) _ _) $$ [Hs10 Hs11]
  · isplitl [Hs10]; · iexact Hs10
    iexact Hs11
  ihave Hp0 := (show iprop(pB c 0 0 (dt xs ws c (sh 0 c) 0 0) ∗ pB c 0 1 (dt xs ws c (sh 0 c) 0 1)) ⊢ iprop(∃ Z, owns (Val := Elt F) (c : Thread nD τ) (pM 0) fullShare Z) from s_glue c (pM 0) _ _) $$ [Hp00 Hp01]
  · isplitl [Hp00]; · iexact Hp00
    iexact Hp01
  ihave Hp1 := (show iprop(pB c 1 0 (dt xs ws c (sh 0 c) 1 0) ∗ pB c 1 1 (dt xs ws c (sh 0 c) 1 1)) ⊢ iprop(∃ Z, owns (Val := Elt F) (c : Thread nD τ) (pM 1) fullShare Z) from s_glue c (pM 1) _ _) $$ [Hp10 Hp11]
  · isplitl [Hp10]; · iexact Hp10
    iexact Hp11
  ihave Ha := (show amB c (amall xs ws) ⊢ iprop(∃ X, owns (Val := Elt F) (c : Thread nD τ) aM fullShare X) from by
    iintro H
    iexists (amall xs ws)
    iapply (show amB c (amall xs ws) ⊢ owns (c : Thread nD τ) aM fullShare (amall xs ws) from .rfl) $$ H) $$ Ham
  iapply Hk $$ [HP Hx Hw Ho Hq Ha Hs0 Hs1 Hp0 Hp1]
  isplitl [HP]; · iexact HP
  isplitl [Hx]; · iexact Hx
  isplitl [Hw]; · iexact Hw
  isplitl [Ho]; · iexact Ho
  isplitl [Hq]; · iexact Hq
  isplitl [Ha]; · iexact Ha
  isplitl [Hs0]; · iexact Hs0
  isplitl [Hs1]; · iexact Hs1
  isplitl [Hp0]; · iexact Hp0
  iexact Hp1

end Cert.RingProof
-- ==== Proof.Run.lean ====
/-
The run: the kernel at its one point, launched on every device, and what the arrays hold when it ends.
-/
module

public import proofs.«01_k».proof.Proof.Start
public import proofs.«01_k».proof.Proof.Body
public import proofs.«01_k».proof.Proof.Gen.KernelIdeal.Points
public import Idealize.ShloMosaic.Lib.Pipeline.FrameBody
public import Idealize.ShloMosaic.Lib.Pipeline.CollectiveSegs

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-- The memory a run starts from; -/
def s₀ : MemSt nD τ sig (Elt F) := ⟨m, fun _ => 0, ρ⟩
/-- each device's share of the two operands in it. -/
def xsOf (c : Dev nD) : Vec F S4096x1024 .bf16 := (win0_0.blk (0 : Fin 1)).view.read (Elt F) (m ((c : Thread nD τ).loc main_arg0))
def wsOf (c : Dev nD) : Vec F S1024x2048 .bf16 := (win0_1.blk (0 : Fin 1)).view.read (Elt F) (m ((c : Thread nD τ).loc main_arg1))

/-- The buffers of the kernel that hold nothing yet, or nothing any more. -/
def scratch (c : Dev nD) : sProp 𝕄 :=
  iprop((∃ X, owns (Val := Elt F) (c : Thread nD τ) qM fullShare X) ∗ (∃ X, owns (Val := Elt F) (c : Thread nD τ) aM fullShare X)
    ∗ (∃ X, owns (Val := Elt F) (c : Thread nD τ) (sM 0) fullShare X) ∗ (∃ X, owns (Val := Elt F) (c : Thread nD τ) (sM 1) fullShare X)
    ∗ (∃ X, owns (Val := Elt F) (c : Thread nD τ) (pM 0) fullShare X) ∗ (∃ X, owns (Val := Elt F) (c : Thread nD τ) (pM 1) fullShare X))

theorem scratch_eq (c : Dev nD) : (Pipeline.scopedRest (Ix := Unit) (Name := ℕ) (U := UU) (Lvl := ℕ) (Val := Elt F) cfg0.spec c : sProp 𝕄) ⊣⊢ scratch (F := F) c := by
  have h : scratch (F := F) c = iprop((∃ f : Buf (Elt F) ((c : Thread nD τ).loc cc0_scratch4), ((c : Thread nD τ).loc cc0_scratch4) ↦{fullShare} f)
      ∗ (∃ f : Buf (Elt F) ((c : Thread nD τ).loc cc0_scratch5), ((c : Thread nD τ).loc cc0_scratch5) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f)) := by
    unfold scratch
    simp only [show sM 0 = srM from rfl, show sM 1 = slM from rfl, show pM 0 = prM from rfl, show pM 1 = plM from rfl]
    simp only [owns_whole]
    rfl
  rw [h, show (Pipeline.scopedRest (Ix := Unit) (Name := ℕ) (U := UU) (Lvl := ℕ) (Val := Elt F) cfg0.spec c : sProp 𝕄) = _ from scopedRest0_eq c]
  constructor
  · iintro ⟨H0, H1, H2, H3, H4, H5⟩
    isplitl [H4]; · iexact H4
    isplitl [H5]; · iexact H5
    isplitl [H0]; · iexact H0
    isplitl [H1]; · iexact H1
    isplitl [H2]; · iexact H2
    iexact H3
  · iintro ⟨H4, H5, H0, H1, H2, H3⟩
    isplitl [H0]; · iexact H0
    isplitl [H1]; · iexact H1
    isplitl [H2]; · iexact H2
    isplitl [H3]; · iexact H3
    isplitl [H4]; · iexact H4
    iexact H5

def Φ₀ (c : Dev nD) : sProp 𝕄 := iprop(start (xsOf m) (wsOf m) c ∗ scratch (F := F) c)
def Φ₁ (c : Dev nD) : sProp 𝕄 := iprop((bigSep Finset.univ fun i : CI => semVal (cell c i) 0) ∗ scratch (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xsOf m c
    | ⟨1, _⟩ => wsOf m c
    | ⟨2, _⟩ => outv (xsOf m) (wsOf m) c
  Φ t := match t with
    | ⟨0, _⟩ => Φ₀ m c
    | ⟨_ + 1, _⟩ => Φ₁ (F := F) c
  q _ := fullShare
  owed t := match t with
    | ⟨0, _⟩ => owed0 c 0
    | ⟨_ + 1, _⟩ => 0

/-- What the kernel finds at its one point, and what it leaves. -/
def bodyPre (c : Dev nD) : sProp 𝕄 :=
  iprop(Φ₀ m c ∗ (dats m ρ 0 c).owesAt () (t0_0 : Fin cfg0.N).castSucc
    ∗ (∃ d, owns (c : Thread nD τ) xM fullShare ((dats m ρ 0 c).before (0 : Fin 3) (t0_0 : Fin cfg0.N) d))
    ∗ (∃ d, owns (c : Thread nD τ) wM fullShare ((dats m ρ 0 c).before (1 : Fin 3) (t0_0 : Fin cfg0.N) d))
    ∗ (∃ d, owns (c : Thread nD τ) oM fullShare ((dats m ρ 0 c).before (2 : Fin 3) (t0_0 : Fin cfg0.N) d)))
def bodyPost (c : Dev nD) : sProp 𝕄 :=
  iprop(Φ₁ (F := F) c ∗ (dats m ρ 0 c).owesAt () (t0_0 : Fin cfg0.N).succ
    ∗ owns (c : Thread nD τ) xM fullShare (xsOf m c) ∗ owns (c : Thread nD τ) wM fullShare (wsOf m c)
    ∗ owns (c : Thread nD τ) oM fullShare (outv (xsOf m) (wsOf m) c))

theorem before_x (c : Dev nD) (d) : (dats m ρ 0 c).before (0 : Fin 3) (t0_0 : Fin cfg0.N) d = xsOf m c := by
  unfold Dat.before; rw [if_pos (fetch0_0 _)]; rfl
theorem before_w (c : Dev nD) (d) : (dats m ρ 0 c).before (1 : Fin 3) (t0_0 : Fin cfg0.N) d = wsOf m c := by
  unfold Dat.before; rw [if_pos (fetch0_1 _)]; rfl

theorem body_pre (c : Dev nD) {h0 : xM.IsWhole} {h1 : wM.IsWhole} {h2 : oM.IsWhole} {h3 : srM.IsWhole} {h4 : slM.IsWhole} {h5 : prM.IsWhole} {h6 : plM.IsWhole} {h7 : qM.IsWhole} {h8 : aM.IsWhole} :
    bodyPre m ρ c ⊢ wp frame (wpE (defs₀ (F := F)) 𝒱₀ (c : Thread nD τ) none) Set.univ
      (cc0_body xM h0 wM h1 oM h2 srM h3 slM h4 prM h5 plM h6 qM h7 aM h8 cc0_scratch6 cc0_scratch7 cc0_scratch8 cc0_scratch9 cc0_scratch10 cc0_scratch11 cc0_scratch12 cc0_scratch13 cc0_scratch14 cc0_scratch15)
      (fun _ => bodyPost m ρ c) := by
  unfold bodyPre Φ₀ Dat.owesAt Pipeline.owesWithin scratch
  simp only [before_x, before_w]
  rw [show (dats m ρ 0 c).owed (t0_0 : Fin cfg0.N).castSucc = owed0 c 0 from rfl]
  iintro ⟨⟨Hs, Hq, Ha, Hs0, Hs1, Hp0, Hp1⟩, ⟨%W, %hW, HO⟩, ⟨%d0, Hx⟩, ⟨%d1, Hw⟩, ⟨%d2, Ho⟩⟩
  iapply (body (xsOf m) (wsOf m) c (Q := fun _ => bodyPost m ρ c)) $$ [Hs Hq Ha Hs0 Hs1 Hp0 Hp1 HO Hx Hw Ho]
  · isplitl [Hs HO]
    · iapply (P0_intro (xsOf m) (wsOf m) c W)
      isplitl [Hs]; · iexact Hs
      iexact HO
    isplitl [Hx]; · iapply (show owns (c : Thread nD τ) xM fullShare (xsOf m c) ⊢ xB c (xsOf m c) from .rfl) $$ Hx
    isplitl [Hw]; · iapply (show owns (c : Thread nD τ) wM fullShare (wsOf m c) ⊢ wB c (wsOf m c) from .rfl) $$ Hw
    isplitl [Ho]; · iexists _; iexact Ho
    isplitl [Hq]; · iexact Hq
    isplitl [Ha]; · iexact Ha
    isplitl [Hs0]; · iexact Hs0
    isplitl [Hs1]; · iexact Hs1
    isplitl [Hp0]; · iexact Hp0
    iexact Hp1
  unfold bodyPost Φ₁ Dat.owesAt Pipeline.owesWithin scratch
  iintro ⟨HP, Hx, Hw, Ho, Hq, Ha, Hs0, Hs1, Hp0, Hp1⟩
  ihave HP := (P_end (xsOf m) (wsOf m) c) $$ HP
  icases HP with ⟨⟨%W', HO⟩, Hz⟩
  isplitl [Hz Hq Ha Hs0 Hs1 Hp0 Hp1]
  · isplitl [Hz]; · iexact Hz
    isplitl [Hq]; · iexact Hq
    isplitl [Ha]; · iexact Ha
    isplitl [Hs0]; · iexact Hs0
    isplitl [Hs1]; · iexact Hs1
    isplitl [Hp0]; · iexact Hp0
    iexact Hp1
  isplitl [HO]
  · iexists W'
    isplitr; · ipureintro; exact fun _ _ => Or.inl trivial
    iexact HO
  isplitl [Hx]; · iapply (show xB c (xsOf m c) ⊢ owns (c : Thread nD τ) xM fullShare (xsOf m c) from .rfl) $$ Hx
  isplitl [Hw]; · iapply (show wB c (wsOf m c) ⊢ owns (c : Thread nD τ) wM fullShare (wsOf m c) from .rfl) $$ Hw
  iexact Ho

/-- The body table's row at the one point is the kernel on its buffers. -/
theorem row_body (t : Fin cfg0.N) : defs₀ (F := F) .tc cfg0.body (cfg0.bodyArgs t (cfg0.slots t))
    = cc0_body xM (hstage0_0 0) wM (hstage0_1 0) oM (hstage0_2 0) srM (Memref.isWhole_whole _) slM (Memref.isWhole_whole _) prM (Memref.isWhole_whole _) plM (Memref.isWhole_whole _)
        qM (Memref.isWhole_whole _) aM (Memref.isWhole_whole _) cc0_scratch6 cc0_scratch7 cc0_scratch8 cc0_scratch9 cc0_scratch10 cc0_scratch11 cc0_scratch12 cc0_scratch13 cc0_scratch14 cc0_scratch15 := by
  unfold defs₀; rw [Defs.onTc_tc]

theorem body_obligation (c : Dev nD) : BodyObligation (dats (F := F) m ρ 0 c) (defs₀ (F := F)) 𝒱₀ () Set.univ := fun t => by
  rw [fin_N0 t, row_body]
  rw [bigSep_W0, bigSep_W0]
  exact triple_restated (body_pre m ρ c) rfl .rfl fun _ => .rfl

/-! ## The launch -/

theorem share_eq (c : Dev nD) (w : Fin cfg0.W) : (dats m ρ 0 c).share w = fullShare := by unfold Dat.share; split <;> rfl

theorem hX (c : Dev nD) :
    iprop(Pipeline.unscopedRestP Pipeline.Prefetch.none cfg0.spec c (fun b => m ((c : Thread nD τ).loc b)) ∗ levAts L lv
        ∗ Pipeline.launchCred (fun d => owed0 d 0) c ∗ prngReg c (ρ c) ∗ G' (xsOf m) (wsOf m) c)
      ⊢ |={Set.univ}=> iprop(start (xsOf m) (wsOf m) c ∗ emp) := by
  iintro ⟨-, Hl, Hc, -, HG⟩
  imodintro
  isplitl
  · iapply (start_intro (xsOf m) (wsOf m) c)
    isplitl [Hl]; · iexact Hl
    isplitl [Hc]; · iexact Hc
    iexact HG
  iempintro

theorem hin (c : Dev nD) :
    iprop(start (xsOf m) (wsOf m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (scratch_eq (F := F) c).1 $$ Hr

theorem hout (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl]
  unfold Φ₁
  rw [← sems0_eq]
  iintro ⟨⟨Ho, Hu⟩, Hr⟩
  isplitl [Hu]; · iexact Hu
  isplitl [Ho]; · iexact Ho
  iapply (scratch_eq (F := F) c).2 $$ Hr

theorem mayWait_stage (c : Dev nD) (q : DmaSem sig) (hq : q.val < 3) (O : CellTallies nD τ sig Unit) (hO : O = owed0 c 0 ∨ O = 0) :
    (levAts L lv : sProp 𝕄) ⊢ MayWait (c : Thread nD τ) (.dma q) () O := by
  rcases hO with rfl | rfl
  · have key : ∀ g u, 0 < owed0 c 0 g u → (∃ d, ∃ i : CI, g = cell d i ∧ 0 < lvC i) := fun g u hg => by
      have hg' : 0 < owed c 0 g u + tallyAt (barCell (sh 1 c)) () 1 g u + tallyAt (barCell (sh 3 c)) () 1 g u := hg
      by_cases h1 : 0 < owed c 0 g u
      · obtain ⟨x, -, rfl⟩ := owed_pos h1
        exact ⟨_, some (true, x), rfl, by cases x <;> simp only [lvC, lvS] <;> omega⟩
      by_cases h2 : 0 < tallyAt (barCell (sh 1 c)) () 1 g u
      · exact ⟨_, none, (Pipeline.tallyAt_pos h2).1, Nat.one_pos⟩
      · exact ⟨_, none, (Pipeline.tallyAt_pos (g := barCell (sh 3 c)) (ι := ()) (k := 1) (i := u) (by omega)).1, Nat.one_pos⟩
    refine MayOwe.of_cut (L := L) (lev := lv) 0 (fun p hp => by rw [Finset.mem_singleton.mp hp, L_tc]; exact Finset.mem_singleton_self _)
      (fun g u hg => ?_) (fun p hp => ?_) (fun g u hg => ?_)
    · obtain ⟨d, i, rfl, -⟩ := key g u hg; rw [L_tc]; exact Finset.mem_singleton_self _
    · rw [Finset.mem_singleton.mp hp]; exact le_of_eq (if_pos hq)
    · obtain ⟨d, i, rfl, h⟩ := key g u hg; rw [lv_cell]; exact h
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 200000 in
/-- From any memory with its semaphores at zero every run of the four devices ends, each array at the contents
    computed and every semaphore at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => owed0 d 0) (howed₀ := fun _ => rfl) (howedN := fun _ => rfl)
    (L := L) (lv := lv) (hL := L_of_ne) (hwaits := waits m ρ)
    (G := G (xsOf m) (wsOf m)) (G' := G' (xsOf m) (wsOf m)) (u₀ := u₀)
    (hu₀ := by
      unfold u₀
      iintro Hu
      ihave H := (ownU_pair _ _) $$ Hu
      icases H with ⟨HP, HX⟩
      imod (fund_cells (xsOf m) (wsOf m)) $$ HX with HG
      imodintro
      isplitl [HP] <;> iassumption)
    (hglob := glob (xsOf m) (wsOf m))
    (hA := fun _ _ => rfl) (hpf := fun _ k => k.elim0)
    (X := start (xsOf m) (wsOf m)) (Y := fun c => unscopedSems0 c) (Z := fun _ => iprop(emp))
    (hX := hX m ρ) (hin := hin m ρ) (hout := hout m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold at the end -/

theorem final_x (c : Dev nD) : finalA m ρ c (0 : Fin 3) = m ((c : Thread nD τ).loc main_arg0) := (dats (F := F) m ρ 0 c).arrAt_in (0 : Fin 3) rfl _
theorem final_w (c : Dev nD) : finalA m ρ c (1 : Fin 3) = m ((c : Thread nD τ).loc main_arg1) := (dats (F := F) m ρ 0 c).arrAt_in (1 : Fin 3) rfl _
theorem final_o (c : Dev nD) : (win0_2.blk (0 : Fin 1)).view.read (Elt F) (finalA m ρ c (2 : Fin 3)) = outv (xsOf m) (wsOf m) c := by
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from flush0_2 _, if_pos rfl]
  exact View.read_write_univ _ _

/-- Every run ends with its arguments unchanged and its semaphores at zero. -/
theorem run_frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0) :=
  (θ_run defs _ _).mono (fun _ h => ⟨fun c => ⟨(h.1 c (0 : Fin 3)).trans (final_x m ρ c), (h.1 c (1 : Fin 3)).trans (final_w m ρ c)⟩, h.2⟩) (run_main m ρ)

end Cert.RingProof
-- ==== Proof.Frames.lean ====
/-
The three frame claims: the kernel at machine floats, the same at exact reals, and the reference.
-/
module

public import proofs.«01_k».proof.Defs
public import proofs.«01_k».proof.Proof.Gen.Kernel
public import proofs.«01_k».proof.Proof.Gen.ReferenceIdeal.Run
public import proofs.«01_k».proof.Proof.Run

@[expose] public section

noncomputable section

namespace Cert.RingProof

open Idealize.ShloMosaic Idealize.SL.Sem

attribute [local instance] Cert.Kernel.Gen.facts

/-- The two generated programs have one body table between them. -/
theorem bodies_eq : Cert.Kernel.defs₀ (F := Bits) = Cert.KernelIdeal.defs₀ (F := Bits) := by
  unfold Cert.Kernel.defs₀ Cert.KernelIdeal.defs₀
  refine congrArg Defs.onTc ?_
  funext l a
  match l, a with
  | ⟨0, _⟩, ⟨t, s⟩ => rfl

theorem tables_eq : Cert.Kernel.defs (F := Bits) = Cert.KernelIdeal.defs (F := Bits) := by
  unfold Cert.Kernel.defs Cert.KernelIdeal.defs
  rw [bodies_eq]; rfl

set_option maxRecDepth 200000 in
theorem frame_kernel : @Cert.quiescent_Kernel Cert.Kernel.Gen.facts := fun m ρ _ => by
  rw [tables_eq]
  exact (θ_run Cert.KernelIdeal.defs _ _).mono (fun _ h => h) (run_frame (F := Bits) m ρ)

theorem frame_ideal : @Cert.quiescent_KernelIdeal Cert.KernelIdeal.Gen.facts := fun m ρ _ => run_frame (F := Ideal) m ρ

theorem frame_reference : @Cert.quiescent_ReferenceIdeal Cert.ReferenceIdeal.Gen.facts := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.RingProof
-- ==== Proof.Sums.lean ====
/-
Over the extended reals: a segment summed around the ring is the whole product's.
-/
module

public import proofs.«01_k».proof.Proof.Vals
public import Idealize.ShloMosaic.Lib.MatmulPlain
public import Idealize.ShloMosaic.PureOps.Ideal.Laws

@[expose] public section

noncomputable section

namespace Cert.RingProof

open Cert.KernelIdeal Cert.KernelIdeal.Gen
open Idealize.ShloMosaic Idealize.ShloMosaic.TcCoe Idealize.ShloMosaic.ValueIdx
open scoped BigOperators

variable (xs : Dev nD → Vec Ideal S4096x1024 .bf16) (ws : Dev nD → Vec Ideal S1024x2048 .bf16)

/-- A device's share of an element of the product; -/
def pt (d : Dev nD) (i : S4096x2048.Idx) : EReal := ∑ k : Fin 1024, (xs d (ix2 (i 0) k) : EReal) * (ws d (ix2 k (i 1)) : EReal)
/-- the element: all the shares. -/
def yy (i : S4096x2048.Idx) : EReal := ∑ d : Dev nD, pt xs ws d i

theorem dt_apply (c d : Dev nD) (hf s : Fin 2) (j : S256x2048.Idx) :
    (dt xs ws c d hf s j : EReal) = pt xs ws c ((orect d hf s).emb j) := by
  unfold dt k0_pay26
  simp only [shapeCast_self]
  show (FloatOps.matmul (F := Ideal) (φ₁ := .bf16) (φ₂ := .bf16) (DotDims.plain 256 1024 2048) none (slab (xs c) d hf s) (ws c) (constant S256x2048 .f32 0x00000000#32) j : EReal) = _
  obtain ⟨r, n, rfl⟩ : ∃ (r : Fin 256) (n : Fin 2048), j = ix2 r n := ⟨j 0, j 1, eq_ix2 j⟩
  rw [Ideal.matmul_plain_apply]
  refine (congrArg (· + _) Ideal.ofBits_zero_f32).trans ((zero_add _).trans (Finset.sum_congr rfl fun k _ => ?_))
  refine congrArg₂ (· * ·) (congrArg (xs c) ?_) (congrArg (ws c) ?_)
  · funext a
    apply Fin.ext
    match a with
    | ⟨0, _⟩ => rfl
    | ⟨1, _⟩ => show 0 + 1 * k.val = k.val; omega
  · funext a
    apply Fin.ext
    match a with
    | ⟨0, _⟩ => rfl
    | ⟨1, _⟩ => show n.val = 0 + 1 * n.val; omega

theorem acc_apply (p o : Vec Ideal S256x2048 .bf16) (j : S256x2048.Idx) : (acc p o j : EReal) = (p j : EReal) + (o j : EReal) := by
  unfold acc k0_pay22
  simp only [shapeCast_self]
  rfl

/-- A sum over the devices goes once around either ring. -/
theorem sum_ring (hf : Fin 2) (c : Dev nD) (f : Dev nD → EReal) :
    ∑ d, f d = f c + (f (up hf c) + (f (up hf (up hf c)) + f (up hf (up hf (up hf c))))) := by
  have hb : Function.Bijective (![c, up hf c, up hf (up hf c), up hf (up hf (up hf c))] : Fin 4 → Dev nD) := by
    revert hf c; decide
  rw [← hb.sum_comp f, Fin.sum_univ_four]
  simp only [add_assoc]
  rfl

theorem blk_0 (hf : Fin 2) (c : Dev nD) : sh (st hf * (2 + 2) % 4) c = c := by revert hf c; decide
theorem blk_1 (hf : Fin 2) (c : Dev nD) : sh (st hf * (1 + 2) % 4) (up hf c) = c := by revert hf c; decide
theorem blk_2 (hf : Fin 2) (c : Dev nD) : sh (st hf * (0 + 2) % 4) (up hf (up hf c)) = c := by revert hf c; decide
theorem blk_3 (hf : Fin 2) (c : Dev nD) : sh (st hf) (up hf (up hf (up hf c))) = c := by revert hf c; decide

/-- The last addition is of the device's own share. -/
theorem yv_eq (c : Dev nD) (hf s : Fin 2) : yv xs ws c hf s = acc (dt xs ws c c hf s) (rsv xs ws hf 2 (up hf c) s) := by
  show acc (dt xs ws c (sh (st hf * (2 + 2) % 4) c) hf s) _ = _
  rw [blk_0]

theorem yv_apply (c : Dev nD) (hf s : Fin 2) (j : S256x2048.Idx) : (yv xs ws c hf s j : EReal) = yy xs ws ((orect c hf s).emb j) := by
  rw [yv_eq]
  unfold yy
  rw [sum_ring hf c]
  show (acc _ (acc (dt xs ws _ (sh (st hf * (1 + 2) % 4) (up hf c)) hf s) (acc (dt xs ws _ (sh (st hf * (0 + 2) % 4) (up hf (up hf c))) hf s)
    (dt xs ws _ (sh (st hf) (up hf (up hf (up hf c)))) hf s))) j : EReal) = _
  rw [blk_1, blk_2, blk_3]
  simp only [acc_apply, dt_apply]

/-- The shares of the four devices, each of a quarter of the contraction, are the product of the whole arrays. -/
theorem yy_whole (X : (⟨2, ![4096, 4096]⟩ : Shape).Idx → EReal) (W : (⟨2, ![4096, 2048]⟩ : Shape).Idx → EReal)
    (hx : ∀ (d : Dev nD) (r : Fin 4096) (k : Fin 1024), (xs d (ix2 r k) : EReal) = X (ix2 r ⟨k.val + 1024 * d.val, by have := lt4 d; omega⟩))
    (hw : ∀ (d : Dev nD) (k : Fin 1024) (n : Fin 2048), (ws d (ix2 k n) : EReal) = W (ix2 ⟨k.val + 1024 * d.val, by have := lt4 d; omega⟩ n))
    (i : S4096x2048.Idx) : yy xs ws i = ∑ k : Fin 4096, X (ix2 (i 0) k) * W (ix2 k (i 1)) := by
  unfold yy pt
  rw [← Equiv.sum_comp (finProdFinEquiv (m := 4) (n := 1024)), Fintype.sum_prod_type]
  refine Finset.sum_congr rfl fun d _ => Finset.sum_congr rfl fun k _ => ?_
  exact congrArg₂ (· * ·) (hx d (i 0) k) (hw d k (i 1))

end Cert.RingProof
-- ==== Proof.Quant.lean ====
/-
Over the extended reals: the largest absolute value, the quantiser, and what a result's element comes to.
-/
module

public import proofs.«01_k».proof.Proof.Sums
public import proofs.«01_k».proof.Proof.Blocks
public import Idealize.ShloMosaic.PureOps.Reduce

@[expose] public section

noncomputable section

namespace Cert.RingProof

open Cert.KernelIdeal Cert.KernelIdeal.Gen
open Idealize.ShloMosaic Idealize.ShloMosaic.TcCoe Idealize.ShloMosaic.ValueIdx
open scoped BigOperators

/-! ## Maxima -/

/-- The absolute value. -/
def ab (x : EReal) : EReal := max x (-x)

theorem ab_nonneg (x : EReal) : 0 ≤ ab x := by
  rcases le_total 0 x with h | h
  · exact h.trans (le_max_left _ _)
  · exact (EReal.neg_nonneg.2 h).trans (le_max_right _ _)

theorem bot_word : Ideal.ofBits .f32 0xFF800000#32 = ⊥ := by simp [Ideal.ofBits, Ideal.ieee]

/-- A maximum over everything is below a bound when every element is. -/
theorem fold_le {s t : Shape} [Subsingleton t.Idx] (dr : s.Idx → t.Idx) (v : s.Idx → EReal) (j : t.Idx) (b : EReal) :
    (Finset.univ.filter fun i => dr i = j).fold max (Ideal.ofBits .f32 0xFF800000#32) v ≤ b ↔ ∀ i, v i ≤ b := by
  rw [Finset.fold_max_le, bot_word]
  exact ⟨fun h i => h.2 i (Finset.mem_filter.2 ⟨Finset.mem_univ _, Subsingleton.elim _ _⟩), fun h => ⟨bot_le, fun i _ => h i⟩⟩

theorem red_le {s s' t : Shape} {axes : List (Fin s'.rank)} [Subsingleton t.Idx] (v : FVec Ideal s .f32) (hc : s.ShapeCasts s')
    (h : s'.Reduces axes t) (hφ : FKind.Formats .f32) (hacc : 0xFF800000#32 = FKind.maximumf.neutral .f32 hφ) (j : t.Idx) (b : EReal) :
    (multiReduction .maximumf axes t (shapeCast s' v hc) 0xFF800000#32 h hφ hacc j : EReal) ≤ b ↔ ∀ i, (v i : EReal) ≤ b := by
  rw [multiReduction_maximumf_eq_fold]
  refine (fold_le (s := s') h.drop (shapeCast s' v hc) j b).trans ⟨fun H i => ?_, fun H i => H _⟩
  have h1 := H ((Shape.reshapeEquiv hc).symm i)
  unfold shapeCast at h1
  rwa [Equiv.apply_symm_apply] at h1

instance : Subsingleton S1.Idx := ⟨fun a b => funext fun d => by
  match d with
  | ⟨0, _⟩ => exact Subsingleton.elim (α := Fin 1) _ _⟩

variable (xs : Dev nD → Vec Ideal S4096x1024 .bf16) (ws : Dev nD → Vec Ideal S1024x2048 .bf16)

/-- The largest element of a segment, as the kernel takes it. -/
def big (v : FVec Ideal S256x2048 .f32) : EReal :=
  extractAt ![0, 0, 0] (shapeCast S1x1x1 (multiReduction .maximumf [1, 2] S1 (shapeCast S1x256x2048 v shapeCasts_S256x2048_S1x256x2048) 0xFF800000#32
    reduces_S1x256x2048_S1 (.inl rfl) rfl) shapeCasts_S1_S1x1x1) inpos_S1x1x1_p0_0_0

theorem big_le (v : FVec Ideal S256x2048 .f32) (b : EReal) : big v ≤ b ↔ ∀ j, (v j : EReal) ≤ b := by
  unfold big extractAt
  exact red_le v _ _ _ _ _ b

theorem abs_seg (v : Vec Ideal S256x2048 .bf16) : absf (extf .f32 v bitsLt_bf16_f32 : FVec Ideal S256x2048 .f32) = fun j => ab (v j) := rfl

theorem zero_word : (Scalar.ofBits .f32 0x00000000#32 : Ideal .f32) = (0 : EReal) := Ideal.ofBits_zero_f32
theorem max_max (z a b : Ideal .f32) : (Scalar.maximumf (Scalar.maximumf z a) b : EReal) = max (max (z : EReal) a) b := rfl

theorem big_32 (y a o : Vec Ideal S256x2048 .bf16) : (k0_pay32 y a o : EReal)
    = max (max (Scalar.ofBits .f32 0x00000000#32 : Ideal .f32) (big fun j => ab (y j))) (big fun j => ab (acc a o j)) := by
  rw [← abs_seg, ← abs_seg]
  unfold k0_pay32 big
  rw [pay31_eq]
  exact max_max _ _ _
theorem big_34 (m : Ideal .f32) (a o : Vec Ideal S256x2048 .bf16) : (k0_pay34 m a o : EReal) = max m (big fun j => ab (acc a o j)) := by
  rw [← abs_seg]
  unfold k0_pay34 big
  rw [pay33_eq]
  exact Ideal.scalar_maximumf_def _ _
theorem big_36 (m : Ideal .f32) (a o : Vec Ideal S256x2048 .bf16) : (k0_pay36 m a o : EReal) = max m (big fun j => ab (acc a o j)) := by
  rw [← abs_seg]
  unfold k0_pay36 big
  rw [pay35_eq]
  exact Ideal.scalar_maximumf_def _ _

/-- A device's maximum is that of its own chunk. -/
theorem amx_le (c : Dev nD) (b : EReal) :
    (amx xs ws c : EReal) ≤ b ↔ 0 ≤ b ∧ ∀ (hf s : Fin 2) (j : S256x2048.Idx), ab (yv xs ws c hf s j) ≤ b := by
  unfold amx
  rw [big_36, big_34, big_32]
  simp only [← yv_eq, max_le_iff, big_le, zero_word, Fin.forall_fin_two]
  tauto

/-- The largest absolute value of the product, as the kernel takes it over the devices' slots. -/
def bigAll : EReal :=
  extractAt ![0, 0, 0, 0] (shapeCast S1x1x1x1 (multiReduction .maximumf [1, 2, 3] S1 (shapeCast S1x4x8x128 (amall xs ws) shapeCasts_S4x8x128_S1x4x8x128)
    0xFF800000#32 reduces_S1x4x8x128_S1 (.inl rfl) rfl) shapeCasts_S1_S1x1x1x1) inpos_S1x1x1x1_p0_0_0_0

theorem scl_eq : (scl xs ws : EReal) = Ideal.div (bigAll xs ws) (Ideal.ofBits .f32 0x42FE0000#32) := rfl

/-- Every element of the result lies in some segment. -/
theorem seg_of (i : S4096x2048.Idx) : ∃ (c : Dev nD) (hf s : Fin 2) (j : S256x2048.Idx), (orect c hf s).emb j = i := by
  have h := Finset.mem_univ i
  rw [← oR_cover 0] at h
  obtain ⟨t, -, ht⟩ := Finset.mem_biUnion.1 h
  obtain ⟨j, hj⟩ := (oR 0 t).exists_idx_of_mem ht
  exact ⟨_, _, _, j, hj⟩

theorem bigAll_le (b : EReal) : bigAll xs ws ≤ b ↔ ∀ i, ab (yy xs ws i) ≤ b := by
  have h1 : bigAll xs ws ≤ b ↔ ∀ i, (amall xs ws i : EReal) ≤ b := by
    unfold bigAll extractAt
    exact red_le (amall xs ws) _ _ _ _ _ b
  rw [h1]
  constructor
  · intro h i
    obtain ⟨c, hf, s, j, rfl⟩ := seg_of i
    have h2 : (amx xs ws c : EReal) ≤ b := h (ix3 c 0 0)
    rw [← yv_apply]
    exact ((amx_le xs ws c b).1 h2).2 hf s j
  · intro h i
    refine (amx_le xs ws _ b).2 ⟨(ab_nonneg _).trans (h (ix2 0 0)), fun hf s j => ?_⟩
    rw [yv_apply]
    exact h _

/-! ## The quantiser -/

/-- A quantised element, still a real: the quotient rounded and clipped. -/
def qz (sc y : EReal) : EReal := min (Ideal.ofBits .f32 0x42FE0000#32) (max (Ideal.ofBits .f32 0xC2FE0000#32) (Ideal.liftRound Ideal.roundHalfEven (Ideal.div y sc)))

theorem word_127 : Ideal.ofBits .f32 0x42FE0000#32 = (((127 : ℤ) : ℝ) : EReal) := by
  simp [Ideal.ofBits, Ideal.ieee, -EReal.coe_mul]; norm_num
theorem word_m127 : Ideal.ofBits .f32 0xC2FE0000#32 = (((-127 : ℤ) : ℝ) : EReal) := by
  simp [Ideal.ofBits, Ideal.ieee, -EReal.coe_mul, -EReal.coe_neg]; norm_num

theorem coe_mono {a b : ℤ} (h : a ≤ b) : (((a : ℤ) : ℝ) : EReal) ≤ (((b : ℤ) : ℝ) : EReal) := by exact_mod_cast h

/-- It is an integer of the range. -/
theorem qz_int (sc y : EReal) : ∃ n : ℤ, -127 ≤ n ∧ n ≤ 127 ∧ qz sc y = ((n : ℝ) : EReal) := by
  unfold qz
  rw [word_127, word_m127]
  generalize Ideal.div y sc = x
  induction x with
  | bot => exact ⟨-127, le_refl _, by norm_num, by
      rw [show Ideal.liftRound Ideal.roundHalfEven ⊥ = ⊥ from rfl, max_eq_left bot_le, min_eq_right (coe_mono (by norm_num))]⟩
  | top => exact ⟨127, by norm_num, le_refl _, by
      rw [show Ideal.liftRound Ideal.roundHalfEven ⊤ = ⊤ from rfl, max_eq_right le_top, min_eq_left le_top]⟩
  | coe r =>
    rw [show Ideal.liftRound Ideal.roundHalfEven (r : EReal) = ((Ideal.roundHalfEven r : ℝ) : EReal) from rfl]
    generalize Ideal.roundHalfEven r = n
    rcases le_total n (-127) with h | h
    · exact ⟨-127, le_refl _, by norm_num, by rw [max_eq_left (coe_mono h), min_eq_right (coe_mono (by norm_num))]⟩
    · rcases le_total n 127 with h' | h'
      · exact ⟨n, h, h', by rw [max_eq_right (coe_mono h), min_eq_right (coe_mono h')]⟩
      · exact ⟨127, by norm_num, le_refl _, by rw [max_eq_right (coe_mono h), min_eq_left (coe_mono h')]⟩

/-- So eight bits hold it exactly. -/
theorem qz_back (sc y : EReal) : ((((Ideal.fptosi 8 (qz sc y)).toInt : ℤ) : ℝ) : EReal) = qz sc y := by
  obtain ⟨n, h1, h2, e⟩ := qz_int sc y
  rw [e]
  have hc : Ideal.toIntClamped (-((2 ^ (8 - 1) : ℕ) : ℤ)) (((2 ^ (8 - 1) : ℕ) : ℤ) - 1) ((n : ℝ) : EReal) = n := by
    show max _ (min _ (if (0 : ℝ) ≤ (n : ℝ) then ⌊(n : ℝ)⌋ else ⌈(n : ℝ)⌉)) = n
    rw [Int.floor_intCast, Int.ceil_intCast, ite_self]
    norm_num
    omega
  unfold Ideal.fptosi
  rw [hc, BitVec.toInt_ofInt]
  congr 2
  rw [Int.bmod_eq_of_le] <;> omega

theorem ownv_apply (c : Dev nD) (hf s : Fin 2) (j : S256x2048.Idx) :
    (ownv xs ws c hf s j : EReal) = qz (scl xs ws) (yy xs ws ((orect c hf s).emb j)) * scl xs ws := by
  rw [← yv_apply]
  unfold ownv k0_pay51 k0_pay49
  simp only [shapeCast_self]
  rfl

theorem deqv_apply (c : Dev nD) (hf s : Fin 2) (j : S256x2048.Idx) :
    (deqv xs ws c hf s j : EReal) = qz (scl xs ws) (yy xs ws ((orect c hf s).emb j)) * scl xs ws := by
  rw [← yv_apply, ← qz_back]
  unfold deqv qv k0_pay52 k0_pay49
  simp only [shapeCast_self]
  rfl

/-- Every element of every device's result: the product's, quantised and scaled back. -/
theorem outv_apply (c : Dev nD) (i : S4096x2048.Idx) : (outv xs ws c i : EReal) = qz (scl xs ws) (yy xs ws i) * scl xs ws := by
  have h := Finset.mem_univ i
  rw [← oR_cover c] at h
  obtain ⟨t, -, ht⟩ := Finset.mem_biUnion.1 h
  obtain ⟨j, hj⟩ := (oR c t).exists_idx_of_mem ht
  obtain rfl : (oR c t).emb j = i := hj
  rw [outv_emb]
  obtain ⟨k, hf, s⟩ := t
  unfold oval
  by_cases hk : k = 0
  · subst hk
    have e : ownv xs ws c hf s = ownv xs ws (sh 0 c) hf s := by rw [sh_zero]
    rw [if_pos rfl]
    show (ownv xs ws c hf s j : EReal) = _
    rw [e]
    exact ownv_apply xs ws _ hf s j
  · rw [if_neg hk]
    exact deqv_apply xs ws _ hf s j

end Cert.RingProof
-- ==== Proof.Algebraic.lean ====
/-
The value claim: over the extended reals every device's result is the reference's.
-/
module

public import proofs.«01_k».proof.Defs
public import proofs.«01_k».proof.Proof.Gen.ReferenceIdeal.Run
public import proofs.«01_k».proof.Proof.Run
public import proofs.«01_k».proof.Proof.Quant

@[expose] public section

noncomputable section

/-! ## What the reference computes -/

namespace Cert.RingProof.Ref

open Cert.ReferenceIdeal Cert.ReferenceIdeal.Gen
open Idealize.ShloMosaic Idealize.ShloMosaic.TcCoe Idealize.ShloMosaic.ValueIdx
open scoped BigOperators

/-- The reference's product, -/
def prod (X : Vec Ideal S4096x4096 .bf16) (W : Vec Ideal S4096x2048 .bf16) : FVec Ideal S4096x2048 .f32 :=
  Host.dotGeneral dot_S4096x4096_S4096x2048_S4096x2048_1_0_0_1_n_n none (extf .f32 X bitsLt_bf16_f32) (extf .f32 W bitsLt_bf16_f32)
/-- its largest absolute value, -/
def top (D : FVec Ideal S4096x2048 .f32) : FVec Ideal S_ .f32 :=
  Host.reduce FloatOps.maximumf (Host.absf D) (constant S_ .f32 0xFF800000#32) reducesTo_S4096x2048_S_d0_1 h_S_
/-- the step, -/
def step (D : FVec Ideal S4096x2048 .f32) : FVec Ideal S_ .f32 := Host.divf (top D) (constant S_ .f32 0x42FE0000#32)
/-- a scalar everywhere, -/
def all (v : FVec Ideal S_ .f32) : FVec Ideal S4096x2048 .f32 := broadcastInDim S4096x2048 ![] bcast_S_S4096x2048 v
/-- and the result. -/
def out (D : FVec Ideal S4096x2048 .f32) : Vec Ideal S4096x2048 .bf16 :=
  truncf .bf16 (mulf (minimumf (all (id (constant S_ .f32 0x42FE0000#32))) (maximumf (all (id (constant S_ .f32 0xC2FE0000#32)))
    (Host.roundeven (Host.divf D (all (step D)))))) (all (step D))) bitsLt_bf16_f32

theorem prod_apply (X : Vec Ideal S4096x4096 .bf16) (W : Vec Ideal S4096x2048 .bf16) (i : S4096x2048.Idx) :
    (prod X W i : EReal) = ∑ k : Fin 4096, (X (ix2 (i 0) k) : EReal) * (W (ix2 k (i 1)) : EReal) := by
  show (FloatOps.matmul (F := Ideal) (φ₁ := .f32) (φ₂ := .f32) (DotDims.plain 4096 4096 2048) none (extf .f32 X bitsLt_bf16_f32)
    (extf .f32 W bitsLt_bf16_f32) (fun _ => (0 : EReal)) i : EReal) = _
  obtain ⟨r, n, rfl⟩ : ∃ (r : Fin 4096) (n : Fin 2048), i = ix2 r n := ⟨i 0, i 1, eq_ix2 i⟩
  rw [Ideal.matmul_plain_apply]
  exact zero_add _

instance : Subsingleton S_.Idx := ⟨fun a b => funext fun d => d.elim0⟩

theorem all_apply (v : FVec Ideal S_ .f32) (i : S4096x2048.Idx) : all v i = v ix0 := congrArg v (Subsingleton.elim _ _)

theorem top_le (D : FVec Ideal S4096x2048 .f32) (b : EReal) : (top D ix0 : EReal) ≤ b ↔ ∀ i, ab (D i) ≤ b := by
  unfold top
  rw [Host.reduce_eq_fold]
  exact fold_le (s := S4096x2048) (t := S_) _ (fun i => ab (D i)) ix0 b

theorem step_apply (D : FVec Ideal S4096x2048 .f32) : (step D ix0 : EReal) = Ideal.div (top D ix0) (Ideal.ofBits .f32 0x42FE0000#32) := rfl

theorem out_apply (D : FVec Ideal S4096x2048 .f32) (i : S4096x2048.Idx) : (out D i : EReal) = qz (step D ix0) (D i) * (step D ix0 : EReal) := by
  have h : (out D i : EReal) = min (all (id (constant S_ .f32 0x42FE0000#32)) i : EReal) (max (all (id (constant S_ .f32 0xC2FE0000#32)) i : EReal)
    (Ideal.liftRound Ideal.roundHalfEven (Ideal.div (D i) (all (step D) i)))) * (all (step D) i : EReal) := rfl
  rw [h, all_apply, all_apply, all_apply]
  rfl

end Cert.RingProof.Ref

namespace Cert.RingProof

open Cert.KernelIdeal Cert.KernelIdeal.Gen
open Idealize.ShloMosaic Idealize.ShloMosaic.TcCoe Idealize.ShloMosaic.ValueIdx Idealize.SL.Sem
open scoped BigOperators

/-- The kernel's value is the reference's, when the devices hold blocks of the reference's arguments. -/
theorem outv_ref (xs : Dev nD → Vec Ideal S4096x1024 .bf16) (ws : Dev nD → Vec Ideal S1024x2048 .bf16)
    (X : Vec Ideal Cert.ReferenceIdeal.S4096x4096 .bf16) (W : Vec Ideal Cert.ReferenceIdeal.S4096x2048 .bf16)
    (hx : ∀ c, xs c = Layout.block ⟨2, ![4096, 1024]⟩ ⟨2, ![4096, 4096]⟩ 1 4 c X)
    (hw : ∀ c, ws c = Layout.block ⟨2, ![1024, 2048]⟩ ⟨2, ![4096, 2048]⟩ 0 4 c W) (c : Dev nD) :
    outv xs ws c = Ref.out (Ref.prod X W) := by
  have hy : ∀ i, yy xs ws i = (Ref.prod X W i : EReal) := fun i => by
    rw [Ref.prod_apply]
    refine yy_whole xs ws X W (fun d r k => ?_) (fun d k n => ?_) i
    · rw [hx]
      refine congrArg X (funext fun a => Fin.ext ?_)
      match a with
      | ⟨0, _⟩ => rfl
      | ⟨1, _⟩ => show d.val * 1024 + k.val = k.val + 1024 * d.val; omega
    · rw [hw]
      refine congrArg W (funext fun a => Fin.ext ?_)
      match a with
      | ⟨0, _⟩ => show d.val * 1024 + k.val = k.val + 1024 * d.val; omega
      | ⟨1, _⟩ => rfl
  have hm : bigAll xs ws = (Ref.top (Ref.prod X W) ix0 : EReal) := eq_of_forall_ge_iff fun b => by
    rw [bigAll_le, Ref.top_le]
    simp only [hy]
  have hs : (scl xs ws : EReal) = (Ref.step (Ref.prod X W) ix0 : EReal) := by rw [scl_eq, hm, Ref.step_apply]
  funext i
  refine (outv_apply xs ws c i).trans ?_
  rw [hs, hy]
  exact (Ref.out_apply _ i).symm

/-- A window that is its whole array reads the array. -/
theorem read_x (A : Vec Ideal S4096x1024 .bf16) : (win0_0.blk (0 : Fin 1)).view.read (Elt Ideal) A = A := by
  funext i
  exact congrArg A (funext fun a => Fin.ext (Pipeline.Window.rect_emb_val_of_index_zero win0_0 (0 : Fin 1) a rfl i))
theorem read_w (A : Vec Ideal S1024x2048 .bf16) : (win0_1.blk (0 : Fin 1)).view.read (Elt Ideal) A = A := by
  funext i
  exact congrArg A (funext fun a => Fin.ext (Pipeline.Window.rect_emb_val_of_index_zero win0_1 (0 : Fin 1) a rfl i))
theorem read_o (A : Vec Ideal S4096x2048 .bf16) : (win0_2.blk (0 : Fin 1)).view.read (Elt Ideal) A = A := by
  funext i
  exact congrArg A (funext fun a => Fin.ext (Pipeline.Window.rect_emb_val_of_index_zero win0_2 (0 : Fin 1) a rfl i))

theorem algebraic : @Cert.algebraic_KernelIdeal_ReferenceIdeal Cert.KernelIdeal.Gen.facts Cert.ReferenceIdeal.Gen.facts := fun m ρ m' ρ' _ hb => by
  have hv (c : Dev nD) : finalA m ρ c (2 : Fin 3) = Ref.out (Ref.prod
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))) :=
    (read_o _).symm.trans ((final_o m ρ c).trans (outv_ref _ _ _ _
      (fun d => (read_x _).trans (hb d).1) (fun d => (read_w _).trans (hb d).2) c))
  refine ⟨_, (θ_run defs _ _).mono (fun _ h c => ⟨(h.1 c (2 : Fin 3)).trans (hv c), (h.1 c (0 : Fin 3)).trans (final_x m ρ c),
    (h.1 c (1 : Fin 3)).trans (final_w m ρ c)⟩) (run_main (F := Ideal) m ρ), ?_⟩
  exact (θ_run Cert.ReferenceIdeal.defs _ _).mono (fun _ h => h 0) (Cert.ReferenceIdeal.Value.run (F := Ideal) m' ρ')

end Cert.RingProof
-- ==== Proof.lean ====
/-
The claims about the kernel, put together.
-/
module

public import proofs.«01_k».proof.Defs
public import proofs.«01_k».proof.Proof.Frames
public import proofs.«01_k».proof.Proof.Algebraic

@[expose] public section

noncomputable section

namespace Cert.Proof

theorem claim : Cert.Claim := ⟨Cert.Kernel.Gen.facts, Cert.KernelIdeal.Gen.facts, Cert.ReferenceIdeal.Gen.facts,
  Cert.RingProof.frame_kernel, Cert.RingProof.frame_ideal, Cert.RingProof.frame_reference, trivial,
  Cert.RingProof.algebraic⟩

end Cert.Proof
